-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownReferenceIdeal (m : (ℓ : Loc Cert.MlpDownReferenceIdeal.nD Cert.MlpDownReferenceIdeal.τ Cert.MlpDownReferenceIdeal.sig) → Buf (Elt Ideal) ℓ) : Prop :=
  True

def Pre_MlpDown1 (m : (ℓ : Loc Cert.MlpDown1.nD Cert.MlpDown1.τ Cert.MlpDown1.sig) → Buf (Elt Bits) ℓ) : Prop :=
  True

def Pre_MlpDown1Ideal (m : (ℓ : Loc Cert.MlpDown1Ideal.nD Cert.MlpDown1Ideal.τ Cert.MlpDown1Ideal.sig) → Buf (Elt Ideal) ℓ) : Prop :=
  True

def Pre_MlpDown1ReferenceIdeal (m : (ℓ : Loc Cert.MlpDown1ReferenceIdeal.nD Cert.MlpDown1ReferenceIdeal.τ Cert.MlpDown1ReferenceIdeal.sig) → Buf (Elt Ideal) ℓ) : Prop :=
  True

def Pre_MlpDown2 (m : (ℓ : Loc Cert.MlpDown2.nD Cert.MlpDown2.τ Cert.MlpDown2.sig) → Buf (Elt Bits) ℓ) : Prop :=
  True

def Pre_MlpDown2Ideal (m : (ℓ : Loc Cert.MlpDown2Ideal.nD Cert.MlpDown2Ideal.τ Cert.MlpDown2Ideal.sig) → Buf (Elt Ideal) ℓ) : Prop :=
  True

def Pre_MlpDown2ReferenceIdeal (m : (ℓ : Loc Cert.MlpDown2ReferenceIdeal.nD Cert.MlpDown2ReferenceIdeal.τ Cert.MlpDown2ReferenceIdeal.sig) → Buf (Elt Ideal) ℓ) : Prop :=
  True

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownReferenceIdeal [hMlpDownReferenceIdeal : Cert.MlpDownReferenceIdeal.Facts] : Prop :=
  ∀ (m : (ℓ : Loc Cert.MlpDownReferenceIdeal.nD Cert.MlpDownReferenceIdeal.τ Cert.MlpDownReferenceIdeal.sig) → Buf (Elt Ideal) ℓ) (g : Dev Cert.MlpDownReferenceIdeal.nD → PrngReg), Pre_MlpDownReferenceIdeal m →
    θ_run (Cert.MlpDownReferenceIdeal.defs (F := Ideal)) (onTc (τ := Cert.MlpDownReferenceIdeal.τ) (Cert.MlpDownReferenceIdeal.main (F := Ideal))) ⟨m, fun _ => 0, g⟩ (fun r => (∀ c : Dev Cert.MlpDownReferenceIdeal.nD,
      r.2.mem ((c.tc : Thread Cert.MlpDownReferenceIdeal.nD Cert.MlpDownReferenceIdeal.τ).loc Cert.MlpDownReferenceIdeal.main_arg0) = m ((c.tc : Thread Cert.MlpDownReferenceIdeal.nD Cert.MlpDownReferenceIdeal.τ).loc Cert.MlpDownReferenceIdeal.main_arg0)
      ∧ r.2.mem ((c.tc : Thread Cert.MlpDownReferenceIdeal.nD Cert.MlpDownReferenceIdeal.τ).loc Cert.MlpDownReferenceIdeal.main_arg1) = m ((c.tc : Thread Cert.MlpDownReferenceIdeal.nD Cert.MlpDownReferenceIdeal.τ).loc Cert.MlpDownReferenceIdeal.main_arg1)
      ∧ r.2.mem ((c.tc : Thread Cert.MlpDownReferenceIdeal.nD Cert.MlpDownReferenceIdeal.τ).loc Cert.MlpDownReferenceIdeal.main_arg2) = m ((c.tc : Thread Cert.MlpDownReferenceIdeal.nD Cert.MlpDownReferenceIdeal.τ).loc Cert.MlpDownReferenceIdeal.main_arg2)
      ∧ r.2.mem ((c.tc : Thread Cert.MlpDownReferenceIdeal.nD Cert.MlpDownReferenceIdeal.τ).loc Cert.MlpDownReferenceIdeal.main_arg3) = m ((c.tc : Thread Cert.MlpDownReferenceIdeal.nD Cert.MlpDownReferenceIdeal.τ).loc Cert.MlpDownReferenceIdeal.main_arg3))
      ∧ r.2.sem = fun _ => 0)

def quiescent_MlpDown1 [hMlpDown1 : Cert.MlpDown1.Facts] : Prop :=
  ∀ (m : (ℓ : Loc Cert.MlpDown1.nD Cert.MlpDown1.τ Cert.MlpDown1.sig) → Buf (Elt Bits) ℓ) (g : Dev Cert.MlpDown1.nD → PrngReg), Pre_MlpDown1 m →
    θ_run (Cert.MlpDown1.defs (F := Bits)) (onTc (τ := Cert.MlpDown1.τ) (Cert.MlpDown1.main (F := Bits))) ⟨m, fun _ => 0, g⟩ (fun r => (∀ c : Dev Cert.MlpDown1.nD,
      r.2.mem ((c.tc : Thread Cert.MlpDown1.nD Cert.MlpDown1.τ).loc Cert.MlpDown1.main_arg0) = m ((c.tc : Thread Cert.MlpDown1.nD Cert.MlpDown1.τ).loc Cert.MlpDown1.main_arg0)
      ∧ r.2.mem ((c.tc : Thread Cert.MlpDown1.nD Cert.MlpDown1.τ).loc Cert.MlpDown1.main_arg1) = m ((c.tc : Thread Cert.MlpDown1.nD Cert.MlpDown1.τ).loc Cert.MlpDown1.main_arg1)
      ∧ r.2.mem ((c.tc : Thread Cert.MlpDown1.nD Cert.MlpDown1.τ).loc Cert.MlpDown1.main_arg2) = m ((c.tc : Thread Cert.MlpDown1.nD Cert.MlpDown1.τ).loc Cert.MlpDown1.main_arg2)
      ∧ r.2.mem ((c.tc : Thread Cert.MlpDown1.nD Cert.MlpDown1.τ).loc Cert.MlpDown1.main_arg3) = m ((c.tc : Thread Cert.MlpDown1.nD Cert.MlpDown1.τ).loc Cert.MlpDown1.main_arg3))
      ∧ r.2.sem = fun _ => 0)

def quiescent_MlpDown1Ideal [hMlpDown1Ideal : Cert.MlpDown1Ideal.Facts] : Prop :=
  ∀ (m : (ℓ : Loc Cert.MlpDown1Ideal.nD Cert.MlpDown1Ideal.τ Cert.MlpDown1Ideal.sig) → Buf (Elt Ideal) ℓ) (g : Dev Cert.MlpDown1Ideal.nD → PrngReg), Pre_MlpDown1Ideal m →
    θ_run (Cert.MlpDown1Ideal.defs (F := Ideal)) (onTc (τ := Cert.MlpDown1Ideal.τ) (Cert.MlpDown1Ideal.main (F := Ideal))) ⟨m, fun _ => 0, g⟩ (fun r => (∀ c : Dev Cert.MlpDown1Ideal.nD,
      r.2.mem ((c.tc : Thread Cert.MlpDown1Ideal.nD Cert.MlpDown1Ideal.τ).loc Cert.MlpDown1Ideal.main_arg0) = m ((c.tc : Thread Cert.MlpDown1Ideal.nD Cert.MlpDown1Ideal.τ).loc Cert.MlpDown1Ideal.main_arg0)
      ∧ r.2.mem ((c.tc : Thread Cert.MlpDown1Ideal.nD Cert.MlpDown1Ideal.τ).loc Cert.MlpDown1Ideal.main_arg1) = m ((c.tc : Thread Cert.MlpDown1Ideal.nD Cert.MlpDown1Ideal.τ).loc Cert.MlpDown1Ideal.main_arg1)
      ∧ r.2.mem ((c.tc : Thread Cert.MlpDown1Ideal.nD Cert.MlpDown1Ideal.τ).loc Cert.MlpDown1Ideal.main_arg2) = m ((c.tc : Thread Cert.MlpDown1Ideal.nD Cert.MlpDown1Ideal.τ).loc Cert.MlpDown1Ideal.main_arg2)
      ∧ r.2.mem ((c.tc : Thread Cert.MlpDown1Ideal.nD Cert.MlpDown1Ideal.τ).loc Cert.MlpDown1Ideal.main_arg3) = m ((c.tc : Thread Cert.MlpDown1Ideal.nD Cert.MlpDown1Ideal.τ).loc Cert.MlpDown1Ideal.main_arg3))
      ∧ r.2.sem = fun _ => 0)

def quiescent_MlpDown1ReferenceIdeal [hMlpDown1ReferenceIdeal : Cert.MlpDown1ReferenceIdeal.Facts] : Prop :=
  ∀ (m : (ℓ : Loc Cert.MlpDown1ReferenceIdeal.nD Cert.MlpDown1ReferenceIdeal.τ Cert.MlpDown1ReferenceIdeal.sig) → Buf (Elt Ideal) ℓ) (g : Dev Cert.MlpDown1ReferenceIdeal.nD → PrngReg), Pre_MlpDown1ReferenceIdeal m →
    θ_run (Cert.MlpDown1ReferenceIdeal.defs (F := Ideal)) (onTc (τ := Cert.MlpDown1ReferenceIdeal.τ) (Cert.MlpDown1ReferenceIdeal.main (F := Ideal))) ⟨m, fun _ => 0, g⟩ (fun r => (∀ c : Dev Cert.MlpDown1ReferenceIdeal.nD,
      r.2.mem ((c.tc : Thread Cert.MlpDown1ReferenceIdeal.nD Cert.MlpDown1ReferenceIdeal.τ).loc Cert.MlpDown1ReferenceIdeal.main_arg0) = m ((c.tc : Thread Cert.MlpDown1ReferenceIdeal.nD Cert.MlpDown1ReferenceIdeal.τ).loc Cert.MlpDown1ReferenceIdeal.main_arg0)
      ∧ r.2.mem ((c.tc : Thread Cert.MlpDown1ReferenceIdeal.nD Cert.MlpDown1ReferenceIdeal.τ).loc Cert.MlpDown1ReferenceIdeal.main_arg1) = m ((c.tc : Thread Cert.MlpDown1ReferenceIdeal.nD Cert.MlpDown1ReferenceIdeal.τ).loc Cert.MlpDown1ReferenceIdeal.main_arg1)
      ∧ r.2.mem ((c.tc : Thread Cert.MlpDown1ReferenceIdeal.nD Cert.MlpDown1ReferenceIdeal.τ).loc Cert.MlpDown1ReferenceIdeal.main_arg2) = m ((c.tc : Thread Cert.MlpDown1ReferenceIdeal.nD Cert.MlpDown1ReferenceIdeal.τ).loc Cert.MlpDown1ReferenceIdeal.main_arg2)
      ∧ r.2.mem ((c.tc : Thread Cert.MlpDown1ReferenceIdeal.nD Cert.MlpDown1ReferenceIdeal.τ).loc Cert.MlpDown1ReferenceIdeal.main_arg3) = m ((c.tc : Thread Cert.MlpDown1ReferenceIdeal.nD Cert.MlpDown1ReferenceIdeal.τ).loc Cert.MlpDown1ReferenceIdeal.main_arg3))
      ∧ r.2.sem = fun _ => 0)

def quiescent_MlpDown2 [hMlpDown2 : Cert.MlpDown2.Facts] : Prop :=
  ∀ (m : (ℓ : Loc Cert.MlpDown2.nD Cert.MlpDown2.τ Cert.MlpDown2.sig) → Buf (Elt Bits) ℓ) (g : Dev Cert.MlpDown2.nD → PrngReg), Pre_MlpDown2 m →
    θ_run (Cert.MlpDown2.defs (F := Bits)) (onTc (τ := Cert.MlpDown2.τ) (Cert.MlpDown2.main (F := Bits))) ⟨m, fun _ => 0, g⟩ (fun r => (∀ c : Dev Cert.MlpDown2.nD,
      r.2.mem ((c.tc : Thread Cert.MlpDown2.nD Cert.MlpDown2.τ).loc Cert.MlpDown2.main_arg0) = m ((c.tc : Thread Cert.MlpDown2.nD Cert.MlpDown2.τ).loc Cert.MlpDown2.main_arg0)
      ∧ r.2.mem ((c.tc : Thread Cert.MlpDown2.nD Cert.MlpDown2.τ).loc Cert.MlpDown2.main_arg1) = m ((c.tc : Thread Cert.MlpDown2.nD Cert.MlpDown2.τ).loc Cert.MlpDown2.main_arg1)
      ∧ r.2.mem ((c.tc : Thread Cert.MlpDown2.nD Cert.MlpDown2.τ).loc Cert.MlpDown2.main_arg2) = m ((c.tc : Thread Cert.MlpDown2.nD Cert.MlpDown2.τ).loc Cert.MlpDown2.main_arg2)
      ∧ r.2.mem ((c.tc : Thread Cert.MlpDown2.nD Cert.MlpDown2.τ).loc Cert.MlpDown2.main_arg3) = m ((c.tc : Thread Cert.MlpDown2.nD Cert.MlpDown2.τ).loc Cert.MlpDown2.main_arg3))
      ∧ r.2.sem = fun _ => 0)

def quiescent_MlpDown2Ideal [hMlpDown2Ideal : Cert.MlpDown2Ideal.Facts] : Prop :=
  ∀ (m : (ℓ : Loc Cert.MlpDown2Ideal.nD Cert.MlpDown2Ideal.τ Cert.MlpDown2Ideal.sig) → Buf (Elt Ideal) ℓ) (g : Dev Cert.MlpDown2Ideal.nD → PrngReg), Pre_MlpDown2Ideal m →
    θ_run (Cert.MlpDown2Ideal.defs (F := Ideal)) (onTc (τ := Cert.MlpDown2Ideal.τ) (Cert.MlpDown2Ideal.main (F := Ideal))) ⟨m, fun _ => 0, g⟩ (fun r => (∀ c : Dev Cert.MlpDown2Ideal.nD,
      r.2.mem ((c.tc : Thread Cert.MlpDown2Ideal.nD Cert.MlpDown2Ideal.τ).loc Cert.MlpDown2Ideal.main_arg0) = m ((c.tc : Thread Cert.MlpDown2Ideal.nD Cert.MlpDown2Ideal.τ).loc Cert.MlpDown2Ideal.main_arg0)
      ∧ r.2.mem ((c.tc : Thread Cert.MlpDown2Ideal.nD Cert.MlpDown2Ideal.τ).loc Cert.MlpDown2Ideal.main_arg1) = m ((c.tc : Thread Cert.MlpDown2Ideal.nD Cert.MlpDown2Ideal.τ).loc Cert.MlpDown2Ideal.main_arg1)
      ∧ r.2.mem ((c.tc : Thread Cert.MlpDown2Ideal.nD Cert.MlpDown2Ideal.τ).loc Cert.MlpDown2Ideal.main_arg2) = m ((c.tc : Thread Cert.MlpDown2Ideal.nD Cert.MlpDown2Ideal.τ).loc Cert.MlpDown2Ideal.main_arg2)
      ∧ r.2.mem ((c.tc : Thread Cert.MlpDown2Ideal.nD Cert.MlpDown2Ideal.τ).loc Cert.MlpDown2Ideal.main_arg3) = m ((c.tc : Thread Cert.MlpDown2Ideal.nD Cert.MlpDown2Ideal.τ).loc Cert.MlpDown2Ideal.main_arg3))
      ∧ r.2.sem = fun _ => 0)

def quiescent_MlpDown2ReferenceIdeal [hMlpDown2ReferenceIdeal : Cert.MlpDown2ReferenceIdeal.Facts] : Prop :=
  ∀ (m : (ℓ : Loc Cert.MlpDown2ReferenceIdeal.nD Cert.MlpDown2ReferenceIdeal.τ Cert.MlpDown2ReferenceIdeal.sig) → Buf (Elt Ideal) ℓ) (g : Dev Cert.MlpDown2ReferenceIdeal.nD → PrngReg), Pre_MlpDown2ReferenceIdeal m →
    θ_run (Cert.MlpDown2ReferenceIdeal.defs (F := Ideal)) (onTc (τ := Cert.MlpDown2ReferenceIdeal.τ) (Cert.MlpDown2ReferenceIdeal.main (F := Ideal))) ⟨m, fun _ => 0, g⟩ (fun r => (∀ c : Dev Cert.MlpDown2ReferenceIdeal.nD,
      r.2.mem ((c.tc : Thread Cert.MlpDown2ReferenceIdeal.nD Cert.MlpDown2ReferenceIdeal.τ).loc Cert.MlpDown2ReferenceIdeal.main_arg0) = m ((c.tc : Thread Cert.MlpDown2ReferenceIdeal.nD Cert.MlpDown2ReferenceIdeal.τ).loc Cert.MlpDown2ReferenceIdeal.main_arg0)
      ∧ r.2.mem ((c.tc : Thread Cert.MlpDown2ReferenceIdeal.nD Cert.MlpDown2ReferenceIdeal.τ).loc Cert.MlpDown2ReferenceIdeal.main_arg1) = m ((c.tc : Thread Cert.MlpDown2ReferenceIdeal.nD Cert.MlpDown2ReferenceIdeal.τ).loc Cert.MlpDown2ReferenceIdeal.main_arg1)
      ∧ r.2.mem ((c.tc : Thread Cert.MlpDown2ReferenceIdeal.nD Cert.MlpDown2ReferenceIdeal.τ).loc Cert.MlpDown2ReferenceIdeal.main_arg2) = m ((c.tc : Thread Cert.MlpDown2ReferenceIdeal.nD Cert.MlpDown2ReferenceIdeal.τ).loc Cert.MlpDown2ReferenceIdeal.main_arg2)
      ∧ r.2.mem ((c.tc : Thread Cert.MlpDown2ReferenceIdeal.nD Cert.MlpDown2ReferenceIdeal.τ).loc Cert.MlpDown2ReferenceIdeal.main_arg3) = m ((c.tc : Thread Cert.MlpDown2ReferenceIdeal.nD Cert.MlpDown2ReferenceIdeal.τ).loc Cert.MlpDown2ReferenceIdeal.main_arg3))
      ∧ r.2.sem = fun _ => 0)

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)) (v2 : (c : Dev Cert.UpIdeal.nD) → Buf (Elt Ideal) ((c.tc : Thread Cert.UpIdeal.nD Cert.UpIdeal.τ).loc Cert.UpIdeal.main_v3_2)) (v3 : (c : Dev Cert.UpIdeal.nD) → Buf (Elt Ideal) ((c.tc : Thread Cert.UpIdeal.nD Cert.UpIdeal.τ).loc Cert.UpIdeal.main_v3_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_v3_2) = v2 c
          ∧ r.2.mem ((c.tc : Thread Cert.UpIdeal.nD Cert.UpIdeal.τ).loc Cert.UpIdeal.main_v3_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3_0) = v0 c
          ∧ r.2.mem ((c.tc : Thread Cert.UpReferenceIdeal.nD Cert.UpReferenceIdeal.τ).loc Cert.UpReferenceIdeal.main_v3_1) = v1 c
          ∧ r.2.mem ((c.tc : Thread Cert.UpReferenceIdeal.nD Cert.UpReferenceIdeal.τ).loc Cert.UpReferenceIdeal.main_v3_2) = v2 c
          ∧ r.2.mem ((c.tc : Thread Cert.UpReferenceIdeal.nD Cert.UpReferenceIdeal.τ).loc Cert.UpReferenceIdeal.main_v3_3) = v3 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0_0) = v0 c
          ∧ r.2.mem ((c.tc : Thread Cert.DownReferenceIdeal.nD Cert.DownReferenceIdeal.τ).loc Cert.DownReferenceIdeal.main_v0_1) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1_0)) (v1 : (c : Dev Cert.FinalIdeal.nD) → Buf (Elt Ideal) ((c.tc : Thread Cert.FinalIdeal.nD Cert.FinalIdeal.τ).loc Cert.FinalIdeal.main_v1_1)) (v2 : (c : Dev Cert.FinalIdeal.nD) → Buf (Elt Ideal) ((c.tc : Thread Cert.FinalIdeal.nD Cert.FinalIdeal.τ).loc Cert.FinalIdeal.main_v1_2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1_0) = v0 c
          ∧ r.2.mem ((c.tc : Thread Cert.FinalIdeal.nD Cert.FinalIdeal.τ).loc Cert.FinalIdeal.main_v1_1) = v1 c
          ∧ r.2.mem ((c.tc : Thread Cert.FinalIdeal.nD Cert.FinalIdeal.τ).loc Cert.FinalIdeal.main_v1_2) = v2 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v1_0) = v0 c
          ∧ r.2.mem ((c.tc : Thread Cert.FinalReferenceIdeal.nD Cert.FinalReferenceIdeal.τ).loc Cert.FinalReferenceIdeal.main_v1_1) = v1 c
          ∧ r.2.mem ((c.tc : Thread Cert.FinalReferenceIdeal.nD Cert.FinalReferenceIdeal.τ).loc Cert.FinalReferenceIdeal.main_v1_2) = v2 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def preserves_MlpDown_MlpDownIdeal : Prop :=
  True

def algebraic_MlpDownIdeal_MlpDownReferenceIdeal [hMlpDownIdeal : Cert.MlpDownIdeal.Facts] [hMlpDownReferenceIdeal : Cert.MlpDownReferenceIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownReferenceIdeal.nD Cert.MlpDownReferenceIdeal.τ Cert.MlpDownReferenceIdeal.sig) → Buf (Elt Ideal) ℓ) (g' : Dev Cert.MlpDownReferenceIdeal.nD → PrngReg), Pre_MlpDownIdeal m →
    (∀ c : Dev Cert.MlpDownIdeal.nD,
      m' ((c.tc : Thread Cert.MlpDownReferenceIdeal.nD Cert.MlpDownReferenceIdeal.τ).loc Cert.MlpDownReferenceIdeal.main_arg0) = m ((c.tc : Thread Cert.MlpDownIdeal.nD Cert.MlpDownIdeal.τ).loc Cert.MlpDownIdeal.main_arg0)
      ∧ m' ((c.tc : Thread Cert.MlpDownReferenceIdeal.nD Cert.MlpDownReferenceIdeal.τ).loc Cert.MlpDownReferenceIdeal.main_arg1) = m ((c.tc : Thread Cert.MlpDownIdeal.nD Cert.MlpDownIdeal.τ).loc Cert.MlpDownIdeal.main_arg1)
      ∧ m' ((c.tc : Thread Cert.MlpDownReferenceIdeal.nD Cert.MlpDownReferenceIdeal.τ).loc Cert.MlpDownReferenceIdeal.main_arg2) = m ((c.tc : Thread Cert.MlpDownIdeal.nD Cert.MlpDownIdeal.τ).loc Cert.MlpDownIdeal.main_arg2)
      ∧ m' ((c.tc : Thread Cert.MlpDownReferenceIdeal.nD Cert.MlpDownReferenceIdeal.τ).loc Cert.MlpDownReferenceIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownReferenceIdeal.defs (F := Ideal)) (onTc (τ := Cert.MlpDownReferenceIdeal.τ) (Cert.MlpDownReferenceIdeal.main (F := Ideal))) ⟨m', fun _ => 0, g'⟩ (fun r => ∀ c : Dev Cert.MlpDownReferenceIdeal.nD,
          r.2.mem ((c.tc : Thread Cert.MlpDownReferenceIdeal.nD Cert.MlpDownReferenceIdeal.τ).loc Cert.MlpDownReferenceIdeal.main_v5) = v0 c
          ∧ r.2.mem ((c.tc : Thread Cert.MlpDownReferenceIdeal.nD Cert.MlpDownReferenceIdeal.τ).loc Cert.MlpDownReferenceIdeal.main_arg0) = m' ((c.tc : Thread Cert.MlpDownReferenceIdeal.nD Cert.MlpDownReferenceIdeal.τ).loc Cert.MlpDownReferenceIdeal.main_arg0)
          ∧ r.2.mem ((c.tc : Thread Cert.MlpDownReferenceIdeal.nD Cert.MlpDownReferenceIdeal.τ).loc Cert.MlpDownReferenceIdeal.main_arg1) = m' ((c.tc : Thread Cert.MlpDownReferenceIdeal.nD Cert.MlpDownReferenceIdeal.τ).loc Cert.MlpDownReferenceIdeal.main_arg1)
          ∧ r.2.mem ((c.tc : Thread Cert.MlpDownReferenceIdeal.nD Cert.MlpDownReferenceIdeal.τ).loc Cert.MlpDownReferenceIdeal.main_arg2) = m' ((c.tc : Thread Cert.MlpDownReferenceIdeal.nD Cert.MlpDownReferenceIdeal.τ).loc Cert.MlpDownReferenceIdeal.main_arg2)
          ∧ r.2.mem ((c.tc : Thread Cert.MlpDownReferenceIdeal.nD Cert.MlpDownReferenceIdeal.τ).loc Cert.MlpDownReferenceIdeal.main_arg3) = m' ((c.tc : Thread Cert.MlpDownReferenceIdeal.nD Cert.MlpDownReferenceIdeal.τ).loc Cert.MlpDownReferenceIdeal.main_arg3))

def preserves_MlpDown1_MlpDown1Ideal : Prop :=
  True

def algebraic_MlpDown1Ideal_MlpDown1ReferenceIdeal [hMlpDown1Ideal : Cert.MlpDown1Ideal.Facts] [hMlpDown1ReferenceIdeal : Cert.MlpDown1ReferenceIdeal.Facts] : Prop :=
  ∀ (m : (ℓ : Loc Cert.MlpDown1Ideal.nD Cert.MlpDown1Ideal.τ Cert.MlpDown1Ideal.sig) → Buf (Elt Ideal) ℓ) (g : Dev Cert.MlpDown1Ideal.nD → PrngReg)
    (m' : (ℓ : Loc Cert.MlpDown1ReferenceIdeal.nD Cert.MlpDown1ReferenceIdeal.τ Cert.MlpDown1ReferenceIdeal.sig) → Buf (Elt Ideal) ℓ) (g' : Dev Cert.MlpDown1ReferenceIdeal.nD → PrngReg), Pre_MlpDown1Ideal m →
    (∀ c : Dev Cert.MlpDown1Ideal.nD,
      m' ((c.tc : Thread Cert.MlpDown1ReferenceIdeal.nD Cert.MlpDown1ReferenceIdeal.τ).loc Cert.MlpDown1ReferenceIdeal.main_arg0) = m ((c.tc : Thread Cert.MlpDown1Ideal.nD Cert.MlpDown1Ideal.τ).loc Cert.MlpDown1Ideal.main_arg0)
      ∧ m' ((c.tc : Thread Cert.MlpDown1ReferenceIdeal.nD Cert.MlpDown1ReferenceIdeal.τ).loc Cert.MlpDown1ReferenceIdeal.main_arg1) = m ((c.tc : Thread Cert.MlpDown1Ideal.nD Cert.MlpDown1Ideal.τ).loc Cert.MlpDown1Ideal.main_arg1)
      ∧ m' ((c.tc : Thread Cert.MlpDown1ReferenceIdeal.nD Cert.MlpDown1ReferenceIdeal.τ).loc Cert.MlpDown1ReferenceIdeal.main_arg2) = m ((c.tc : Thread Cert.MlpDown1Ideal.nD Cert.MlpDown1Ideal.τ).loc Cert.MlpDown1Ideal.main_arg2)
      ∧ m' ((c.tc : Thread Cert.MlpDown1ReferenceIdeal.nD Cert.MlpDown1ReferenceIdeal.τ).loc Cert.MlpDown1ReferenceIdeal.main_arg3) = m ((c.tc : Thread Cert.MlpDown1Ideal.nD Cert.MlpDown1Ideal.τ).loc Cert.MlpDown1Ideal.main_arg3)) →
    ∃ (v0 : (c : Dev Cert.MlpDown1Ideal.nD) → Buf (Elt Ideal) ((c.tc : Thread Cert.MlpDown1Ideal.nD Cert.MlpDown1Ideal.τ).loc Cert.MlpDown1Ideal.main_v0)),
      θ_run (Cert.MlpDown1Ideal.defs (F := Ideal)) (onTc (τ := Cert.MlpDown1Ideal.τ) (Cert.MlpDown1Ideal.main (F := Ideal))) ⟨m, fun _ => 0, g⟩ (fun r => ∀ c : Dev Cert.MlpDown1Ideal.nD,
          r.2.mem ((c.tc : Thread Cert.MlpDown1Ideal.nD Cert.MlpDown1Ideal.τ).loc Cert.MlpDown1Ideal.main_v0) = v0 c
          ∧ r.2.mem ((c.tc : Thread Cert.MlpDown1Ideal.nD Cert.MlpDown1Ideal.τ).loc Cert.MlpDown1Ideal.main_arg0) = m ((c.tc : Thread Cert.MlpDown1Ideal.nD Cert.MlpDown1Ideal.τ).loc Cert.MlpDown1Ideal.main_arg0)
          ∧ r.2.mem ((c.tc : Thread Cert.MlpDown1Ideal.nD Cert.MlpDown1Ideal.τ).loc Cert.MlpDown1Ideal.main_arg1) = m ((c.tc : Thread Cert.MlpDown1Ideal.nD Cert.MlpDown1Ideal.τ).loc Cert.MlpDown1Ideal.main_arg1)
          ∧ r.2.mem ((c.tc : Thread Cert.MlpDown1Ideal.nD Cert.MlpDown1Ideal.τ).loc Cert.MlpDown1Ideal.main_arg2) = m ((c.tc : Thread Cert.MlpDown1Ideal.nD Cert.MlpDown1Ideal.τ).loc Cert.MlpDown1Ideal.main_arg2)
          ∧ r.2.mem ((c.tc : Thread Cert.MlpDown1Ideal.nD Cert.MlpDown1Ideal.τ).loc Cert.MlpDown1Ideal.main_arg3) = m ((c.tc : Thread Cert.MlpDown1Ideal.nD Cert.MlpDown1Ideal.τ).loc Cert.MlpDown1Ideal.main_arg3))
      ∧ θ_run (Cert.MlpDown1ReferenceIdeal.defs (F := Ideal)) (onTc (τ := Cert.MlpDown1ReferenceIdeal.τ) (Cert.MlpDown1ReferenceIdeal.main (F := Ideal))) ⟨m', fun _ => 0, g'⟩ (fun r => ∀ c : Dev Cert.MlpDown1ReferenceIdeal.nD,
          r.2.mem ((c.tc : Thread Cert.MlpDown1ReferenceIdeal.nD Cert.MlpDown1ReferenceIdeal.τ).loc Cert.MlpDown1ReferenceIdeal.main_v5) = v0 c
          ∧ r.2.mem ((c.tc : Thread Cert.MlpDown1ReferenceIdeal.nD Cert.MlpDown1ReferenceIdeal.τ).loc Cert.MlpDown1ReferenceIdeal.main_arg0) = m' ((c.tc : Thread Cert.MlpDown1ReferenceIdeal.nD Cert.MlpDown1ReferenceIdeal.τ).loc Cert.MlpDown1ReferenceIdeal.main_arg0)
          ∧ r.2.mem ((c.tc : Thread Cert.MlpDown1ReferenceIdeal.nD Cert.MlpDown1ReferenceIdeal.τ).loc Cert.MlpDown1ReferenceIdeal.main_arg1) = m' ((c.tc : Thread Cert.MlpDown1ReferenceIdeal.nD Cert.MlpDown1ReferenceIdeal.τ).loc Cert.MlpDown1ReferenceIdeal.main_arg1)
          ∧ r.2.mem ((c.tc : Thread Cert.MlpDown1ReferenceIdeal.nD Cert.MlpDown1ReferenceIdeal.τ).loc Cert.MlpDown1ReferenceIdeal.main_arg2) = m' ((c.tc : Thread Cert.MlpDown1ReferenceIdeal.nD Cert.MlpDown1ReferenceIdeal.τ).loc Cert.MlpDown1ReferenceIdeal.main_arg2)
          ∧ r.2.mem ((c.tc : Thread Cert.MlpDown1ReferenceIdeal.nD Cert.MlpDown1ReferenceIdeal.τ).loc Cert.MlpDown1ReferenceIdeal.main_arg3) = m' ((c.tc : Thread Cert.MlpDown1ReferenceIdeal.nD Cert.MlpDown1ReferenceIdeal.τ).loc Cert.MlpDown1ReferenceIdeal.main_arg3))

def preserves_MlpDown2_MlpDown2Ideal : Prop :=
  True

def algebraic_MlpDown2Ideal_MlpDown2ReferenceIdeal [hMlpDown2Ideal : Cert.MlpDown2Ideal.Facts] [hMlpDown2ReferenceIdeal : Cert.MlpDown2ReferenceIdeal.Facts] : Prop :=
  ∀ (m : (ℓ : Loc Cert.MlpDown2Ideal.nD Cert.MlpDown2Ideal.τ Cert.MlpDown2Ideal.sig) → Buf (Elt Ideal) ℓ) (g : Dev Cert.MlpDown2Ideal.nD → PrngReg)
    (m' : (ℓ : Loc Cert.MlpDown2ReferenceIdeal.nD Cert.MlpDown2ReferenceIdeal.τ Cert.MlpDown2ReferenceIdeal.sig) → Buf (Elt Ideal) ℓ) (g' : Dev Cert.MlpDown2ReferenceIdeal.nD → PrngReg), Pre_MlpDown2Ideal m →
    (∀ c : Dev Cert.MlpDown2Ideal.nD,
      m' ((c.tc : Thread Cert.MlpDown2ReferenceIdeal.nD Cert.MlpDown2ReferenceIdeal.τ).loc Cert.MlpDown2ReferenceIdeal.main_arg0) = m ((c.tc : Thread Cert.MlpDown2Ideal.nD Cert.MlpDown2Ideal.τ).loc Cert.MlpDown2Ideal.main_arg0)
      ∧ m' ((c.tc : Thread Cert.MlpDown2ReferenceIdeal.nD Cert.MlpDown2ReferenceIdeal.τ).loc Cert.MlpDown2ReferenceIdeal.main_arg1) = m ((c.tc : Thread Cert.MlpDown2Ideal.nD Cert.MlpDown2Ideal.τ).loc Cert.MlpDown2Ideal.main_arg1)
      ∧ m' ((c.tc : Thread Cert.MlpDown2ReferenceIdeal.nD Cert.MlpDown2ReferenceIdeal.τ).loc Cert.MlpDown2ReferenceIdeal.main_arg2) = m ((c.tc : Thread Cert.MlpDown2Ideal.nD Cert.MlpDown2Ideal.τ).loc Cert.MlpDown2Ideal.main_arg2)
      ∧ m' ((c.tc : Thread Cert.MlpDown2ReferenceIdeal.nD Cert.MlpDown2ReferenceIdeal.τ).loc Cert.MlpDown2ReferenceIdeal.main_arg3) = m ((c.tc : Thread Cert.MlpDown2Ideal.nD Cert.MlpDown2Ideal.τ).loc Cert.MlpDown2Ideal.main_arg3)) →
    ∃ (v0 : (c : Dev Cert.MlpDown2Ideal.nD) → Buf (Elt Ideal) ((c.tc : Thread Cert.MlpDown2Ideal.nD Cert.MlpDown2Ideal.τ).loc Cert.MlpDown2Ideal.main_v0)),
      θ_run (Cert.MlpDown2Ideal.defs (F := Ideal)) (onTc (τ := Cert.MlpDown2Ideal.τ) (Cert.MlpDown2Ideal.main (F := Ideal))) ⟨m, fun _ => 0, g⟩ (fun r => ∀ c : Dev Cert.MlpDown2Ideal.nD,
          r.2.mem ((c.tc : Thread Cert.MlpDown2Ideal.nD Cert.MlpDown2Ideal.τ).loc Cert.MlpDown2Ideal.main_v0) = v0 c
          ∧ r.2.mem ((c.tc : Thread Cert.MlpDown2Ideal.nD Cert.MlpDown2Ideal.τ).loc Cert.MlpDown2Ideal.main_arg0) = m ((c.tc : Thread Cert.MlpDown2Ideal.nD Cert.MlpDown2Ideal.τ).loc Cert.MlpDown2Ideal.main_arg0)
          ∧ r.2.mem ((c.tc : Thread Cert.MlpDown2Ideal.nD Cert.MlpDown2Ideal.τ).loc Cert.MlpDown2Ideal.main_arg1) = m ((c.tc : Thread Cert.MlpDown2Ideal.nD Cert.MlpDown2Ideal.τ).loc Cert.MlpDown2Ideal.main_arg1)
          ∧ r.2.mem ((c.tc : Thread Cert.MlpDown2Ideal.nD Cert.MlpDown2Ideal.τ).loc Cert.MlpDown2Ideal.main_arg2) = m ((c.tc : Thread Cert.MlpDown2Ideal.nD Cert.MlpDown2Ideal.τ).loc Cert.MlpDown2Ideal.main_arg2)
          ∧ r.2.mem ((c.tc : Thread Cert.MlpDown2Ideal.nD Cert.MlpDown2Ideal.τ).loc Cert.MlpDown2Ideal.main_arg3) = m ((c.tc : Thread Cert.MlpDown2Ideal.nD Cert.MlpDown2Ideal.τ).loc Cert.MlpDown2Ideal.main_arg3))
      ∧ θ_run (Cert.MlpDown2ReferenceIdeal.defs (F := Ideal)) (onTc (τ := Cert.MlpDown2ReferenceIdeal.τ) (Cert.MlpDown2ReferenceIdeal.main (F := Ideal))) ⟨m', fun _ => 0, g'⟩ (fun r => ∀ c : Dev Cert.MlpDown2ReferenceIdeal.nD,
          r.2.mem ((c.tc : Thread Cert.MlpDown2ReferenceIdeal.nD Cert.MlpDown2ReferenceIdeal.τ).loc Cert.MlpDown2ReferenceIdeal.main_v5) = v0 c
          ∧ r.2.mem ((c.tc : Thread Cert.MlpDown2ReferenceIdeal.nD Cert.MlpDown2ReferenceIdeal.τ).loc Cert.MlpDown2ReferenceIdeal.main_arg0) = m' ((c.tc : Thread Cert.MlpDown2ReferenceIdeal.nD Cert.MlpDown2ReferenceIdeal.τ).loc Cert.MlpDown2ReferenceIdeal.main_arg0)
          ∧ r.2.mem ((c.tc : Thread Cert.MlpDown2ReferenceIdeal.nD Cert.MlpDown2ReferenceIdeal.τ).loc Cert.MlpDown2ReferenceIdeal.main_arg1) = m' ((c.tc : Thread Cert.MlpDown2ReferenceIdeal.nD Cert.MlpDown2ReferenceIdeal.τ).loc Cert.MlpDown2ReferenceIdeal.main_arg1)
          ∧ r.2.mem ((c.tc : Thread Cert.MlpDown2ReferenceIdeal.nD Cert.MlpDown2ReferenceIdeal.τ).loc Cert.MlpDown2ReferenceIdeal.main_arg2) = m' ((c.tc : Thread Cert.MlpDown2ReferenceIdeal.nD Cert.MlpDown2ReferenceIdeal.τ).loc Cert.MlpDown2ReferenceIdeal.main_arg2)
          ∧ r.2.mem ((c.tc : Thread Cert.MlpDown2ReferenceIdeal.nD Cert.MlpDown2ReferenceIdeal.τ).loc Cert.MlpDown2ReferenceIdeal.main_arg3) = m' ((c.tc : Thread Cert.MlpDown2ReferenceIdeal.nD Cert.MlpDown2ReferenceIdeal.τ).loc Cert.MlpDown2ReferenceIdeal.main_arg3))

def Claim : Prop :=
  ∃ (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hFinal : Cert.Final.Facts) (hFinalIdeal : Cert.FinalIdeal.Facts) (hFinalReferenceIdeal : Cert.FinalReferenceIdeal.Facts) (hMlpDown : Cert.MlpDown.Facts) (hMlpDownIdeal : Cert.MlpDownIdeal.Facts) (hMlpDownReferenceIdeal : Cert.MlpDownReferenceIdeal.Facts) (hMlpDown1 : Cert.MlpDown1.Facts) (hMlpDown1Ideal : Cert.MlpDown1Ideal.Facts) (hMlpDown1ReferenceIdeal : Cert.MlpDown1ReferenceIdeal.Facts) (hMlpDown2 : Cert.MlpDown2.Facts) (hMlpDown2Ideal : Cert.MlpDown2Ideal.Facts) (hMlpDown2ReferenceIdeal : Cert.MlpDown2ReferenceIdeal.Facts),
    quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_MlpDown (hMlpDown := hMlpDown)
    ∧ quiescent_MlpDownIdeal (hMlpDownIdeal := hMlpDownIdeal)
    ∧ quiescent_MlpDownReferenceIdeal (hMlpDownReferenceIdeal := hMlpDownReferenceIdeal)
    ∧ quiescent_MlpDown1 (hMlpDown1 := hMlpDown1)
    ∧ quiescent_MlpDown1Ideal (hMlpDown1Ideal := hMlpDown1Ideal)
    ∧ quiescent_MlpDown1ReferenceIdeal (hMlpDown1ReferenceIdeal := hMlpDown1ReferenceIdeal)
    ∧ quiescent_MlpDown2 (hMlpDown2 := hMlpDown2)
    ∧ quiescent_MlpDown2Ideal (hMlpDown2Ideal := hMlpDown2Ideal)
    ∧ quiescent_MlpDown2ReferenceIdeal (hMlpDown2ReferenceIdeal := hMlpDown2ReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Final_FinalIdeal
    ∧ algebraic_FinalIdeal_FinalReferenceIdeal (hFinalIdeal := hFinalIdeal) (hFinalReferenceIdeal := hFinalReferenceIdeal)
    ∧ preserves_MlpDown_MlpDownIdeal
    ∧ algebraic_MlpDownIdeal_MlpDownReferenceIdeal (hMlpDownIdeal := hMlpDownIdeal) (hMlpDownReferenceIdeal := hMlpDownReferenceIdeal)
    ∧ preserves_MlpDown1_MlpDown1Ideal
    ∧ algebraic_MlpDown1Ideal_MlpDown1ReferenceIdeal (hMlpDown1Ideal := hMlpDown1Ideal) (hMlpDown1ReferenceIdeal := hMlpDown1ReferenceIdeal)
    ∧ preserves_MlpDown2_MlpDown2Ideal
    ∧ algebraic_MlpDown2Ideal_MlpDown2ReferenceIdeal (hMlpDown2Ideal := hMlpDown2Ideal) (hMlpDown2ReferenceIdeal := hMlpDown2ReferenceIdeal)
-- ==== Up.lean ====
abbrev S2x896x1152 : Shape := ⟨3, ![2, 896, 1152]⟩
abbrev S1152x14336 : Shape := ⟨2, ![1152, 14336]⟩
abbrev S14336 : Shape := ⟨1, ![14336]⟩
abbrev S1792x1152 : Shape := ⟨2, ![1792, 1152]⟩
abbrev S1x14336 : Shape := ⟨2, ![1, 14336]⟩
abbrev S1792x128 : Shape := ⟨2, ![1792, 128]⟩
abbrev S1792x14336 : Shape := ⟨2, ![1792, 14336]⟩
abbrev S1152x1024 : Shape := ⟨2, ![1152, 1024]⟩
abbrev S1x1024 : Shape := ⟨2, ![1, 1024]⟩
abbrev S1792x1024 : Shape := ⟨2, ![1792, 1024]⟩
abbrev S128x1152 : Shape := ⟨2, ![128, 1152]⟩
abbrev S128 : Shape := ⟨1, ![128]⟩
abbrev S128x1 : Shape := ⟨2, ![128, 1]⟩
abbrev S128x128 : Shape := ⟨2, ![128, 128]⟩
abbrev S448x1152 : Shape := ⟨2, ![448, 1152]⟩
abbrev S448x128 : Shape := ⟨2, ![448, 128]⟩
abbrev S448x256 : Shape := ⟨2, ![448, 256]⟩
abbrev S1152x256 : Shape := ⟨2, ![1152, 256]⟩
abbrev S1x256 : Shape := ⟨2, ![1, 256]⟩

abbrev nBuf : Space → Nat
  | .hbm => 12
  | .vmem => 15
  | .smem => 0
  | _ => 0

abbrev bufTy : (tb : Table) → Fin (tcTables nBuf tb) → BufTy
  | .hbm, ⟨0, _⟩ => ⟨S2x896x1152, .bf16⟩
  | .hbm, ⟨1, _⟩ => ⟨S1152x14336, .fp8e4m3⟩
  | .hbm, ⟨2, _⟩ => ⟨S14336, .f32⟩
  | .hbm, ⟨3, _⟩ => ⟨S1152x14336, .fp8e4m3⟩
  | .hbm, ⟨4, _⟩ => ⟨S14336, .f32⟩
  | .hbm, ⟨5, _⟩ => ⟨S1792x1152, .bf16⟩
  | .hbm, ⟨6, _⟩ => ⟨S1x14336, .f32⟩
  | .hbm, ⟨7, _⟩ => ⟨S1x14336, .f32⟩
  | .hbm, ⟨8, _⟩ => ⟨S1792x1152, .fp8e4m3⟩
  | .hbm, ⟨9, _⟩ => ⟨S1792x128, .f32⟩
  | .hbm, ⟨10, _⟩ => ⟨S1792x14336, .f32⟩
  | .hbm, ⟨11, _⟩ => ⟨S1792x128, .f32⟩
  | .local _ .vmem, ⟨0, _⟩ => ⟨S1792x1152, .bf16⟩
  | .local _ .vmem, ⟨1, _⟩ => ⟨S1152x1024, .fp8e4m3⟩
  | .local _ .vmem, ⟨2, _⟩ => ⟨S1152x1024, .fp8e4m3⟩
  | .local _ .vmem, ⟨3, _⟩ => ⟨S1152x1024, .fp8e4m3⟩
  | .local _ .vmem, ⟨4, _⟩ => ⟨S1152x1024, .fp8e4m3⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1792x1152, .fp8e4m3⟩
  | .local _ .vmem, ⟨10, _⟩ => ⟨S1792x128, .f32⟩
  | .local _ .vmem, ⟨11, _⟩ => ⟨S1792x1024, .f32⟩
  | .local _ .vmem, ⟨12, _⟩ => ⟨S1792x1024, .f32⟩
  | .local _ .vmem, ⟨13, _⟩ => ⟨S1792x128, .f32⟩
  | .local _ .vmem, ⟨14, _⟩ => ⟨S1792x128, .f32⟩
  | _, _ => ⟨S2x896x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c13_i32 : BitVec 32 := 13#32
  let v515 : BitVec 1 := Scalar.cmpi .eq arg0 c13_i32
  let v516 : BitVec 32 := Scalar.extui v515
  let c0_i32_313 : BitVec 32 := 0#32
  let v517 : BitVec 1 := Scalar.cmpi .ne v516 c0_i32_313
  v517

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1792x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1152x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1152x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1792x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1792x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1792x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1792x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== UpReferenceIdeal.lean ====
abbrev S2x896x1152 : Shape := ⟨3, ![2, 896, 1152]⟩
abbrev S1152x14336 : Shape := ⟨2, ![1152, 14336]⟩
abbrev S14336 : Shape := ⟨1, ![14336]⟩
abbrev S1792x1152 : Shape := ⟨2, ![1792, 1152]⟩
abbrev S1x14336 : Shape := ⟨2, ![1, 14336]⟩
abbrev S1792x128 : Shape := ⟨2, ![1792, 128]⟩
abbrev S1792x14336 : Shape := ⟨2, ![1792, 14336]⟩
abbrev S1792 : Shape := ⟨1, ![1792]⟩
abbrev S1792x1 : Shape := ⟨2, ![1792, 1]⟩

abbrev nBuf : Space → Nat
  | .hbm => 12
  | .vmem => 9
  | .smem => 0
  | _ => 0

abbrev bufTy : (tb : Table) → Fin (tcTables nBuf tb) → BufTy
  | .hbm, ⟨0, _⟩ => ⟨S2x896x1152, .bf16⟩
  | .hbm, ⟨1, _⟩ => ⟨S1152x14336, .fp8e4m3⟩
  | .hbm, ⟨2, _⟩ => ⟨S14336, .f32⟩
  | .hbm, ⟨3, _⟩ => ⟨S1152x14336, .fp8e4m3⟩
  | .hbm, ⟨4, _⟩ => ⟨S14336, .f32⟩
  | .hbm, ⟨5, _⟩ => ⟨S1792x1152, .bf16⟩
  | .hbm, ⟨6, _⟩ => ⟨S1x14336, .f32⟩
  | .hbm, ⟨7, _⟩ => ⟨S1x14336, .f32⟩
  | .hbm, ⟨8, _⟩ => ⟨S1792x1152, .fp8e4m3⟩
  | .hbm, ⟨9, _⟩ => ⟨S1792x128, .f32⟩
  | .hbm, ⟨10, _⟩ => ⟨S1792x14336, .f32⟩
  | .hbm, ⟨11, _⟩ => ⟨S1792x128, .f32⟩
  | .local _ .vmem, ⟨0, _⟩ => ⟨S1792x1152, .bf16⟩
  | .local _ .vmem, ⟨1, _⟩ => ⟨S1152x14336, .fp8e4m3⟩
  | .local _ .vmem, ⟨2, _⟩ => ⟨S1x14336, .f32⟩
  | .local _ .vmem, ⟨3, _⟩ => ⟨S1152x14336, .fp8e4m3⟩
  | .local _ .vmem, ⟨4, _⟩ => ⟨S1x14336, .f32⟩
  | .local _ .vmem, ⟨5, _⟩ => ⟨S1792x1152, .fp8e4m3⟩
  | .local _ .vmem, ⟨6, _⟩ => ⟨S1792x128, .f32⟩
  | .local _ .vmem, ⟨7, _⟩ => ⟨S1792x14336, .f32⟩
  | .local _ .vmem, ⟨8, _⟩ => ⟨S1792x128, .f32⟩
  | _, _ => ⟨S2x896x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1792x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1792x14336 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1792x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Down.lean ====
abbrev S1792x14336 : Shape := ⟨2, ![1792, 14336]⟩
abbrev S1792x1 : Shape := ⟨2, ![1792, 1]⟩
abbrev S14336x4096 : Shape := ⟨2, ![14336, 4096]⟩
abbrev S1792x128 : Shape := ⟨2, ![1792, 128]⟩
abbrev S1792x4096 : Shape := ⟨2, ![1792, 4096]⟩
abbrev S1792x1024 : Shape := ⟨2, ![1792, 1024]⟩
abbrev S1024x4096 : Shape := ⟨2, ![1024, 4096]⟩
abbrev S448x128 : Shape := ⟨2, ![448, 128]⟩
abbrev S448x1024 : Shape := ⟨2, ![448, 1024]⟩
abbrev S448x256 : Shape := ⟨2, ![448, 256]⟩
abbrev S1024x256 : Shape := ⟨2, ![1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S1792x14336, .f32⟩
  | .hbm, ⟨1, _⟩ => ⟨S1792x1, .f32⟩
  | .hbm, ⟨2, _⟩ => ⟨S14336x4096, .fp8e4m3⟩
  | .hbm, ⟨3, _⟩ => ⟨S1792x128, .f32⟩
  | .hbm, ⟨4, _⟩ => ⟨S1792x14336, .fp8e4m3⟩
  | .hbm, ⟨5, _⟩ => ⟨S1792x4096, .f32⟩
  | .local _ .vmem, ⟨0, _⟩ => ⟨S1792x1024, .f32⟩
  | .local _ .vmem, ⟨1, _⟩ => ⟨S1792x1024, .f32⟩
  | .local _ .vmem, ⟨2, _⟩ => ⟨S1792x128, .f32⟩
  | .local _ .vmem, ⟨3, _⟩ => ⟨S1024x4096, .fp8e4m3⟩
  | .local _ .vmem, ⟨4, _⟩ => ⟨S1024x4096, .fp8e4m3⟩
  | .local _ .vmem, ⟨5, _⟩ => ⟨S1792x1024, .fp8e4m3⟩
  | .local _ .vmem, ⟨6, _⟩ => ⟨S1792x1024, .fp8e4m3⟩
  | .local _ .vmem, ⟨7, _⟩ => ⟨S1792x4096, .f32⟩
  | _, _ => ⟨S1792x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1792x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1792x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1792x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DownReferenceIdeal.lean ====
abbrev S1792x14336 : Shape := ⟨2, ![1792, 14336]⟩
abbrev S1792x1 : Shape := ⟨2, ![1792, 1]⟩
abbrev S14336x4096 : Shape := ⟨2, ![14336, 4096]⟩
abbrev S1792x4096 : Shape := ⟨2, ![1792, 4096]⟩

abbrev nBuf : Space → Nat
  | .hbm => 5
  | .vmem => 5
  | .smem => 0
  | _ => 0

abbrev bufTy : (tb : Table) → Fin (tcTables nBuf tb) → BufTy
  | .hbm, ⟨0, _⟩ => ⟨S1792x14336, .f32⟩
  | .hbm, ⟨1, _⟩ => ⟨S1792x1, .f32⟩
  | .hbm, ⟨2, _⟩ => ⟨S14336x4096, .fp8e4m3⟩
  | .hbm, ⟨3, _⟩ => ⟨S1792x14336, .fp8e4m3⟩
  | .hbm, ⟨4, _⟩ => ⟨S1792x4096, .f32⟩
  | .local _ .vmem, ⟨0, _⟩ => ⟨S1792x14336, .f32⟩
  | .local _ .vmem, ⟨1, _⟩ => ⟨S1792x1, .f32⟩
  | .local _ .vmem, ⟨2, _⟩ => ⟨S14336x4096, .fp8e4m3⟩
  | .local _ .vmem, ⟨3, _⟩ => ⟨S1792x14336, .fp8e4m3⟩
  | .local _ .vmem, ⟨4, _⟩ => ⟨S1792x4096, .f32⟩
  | _, _ => ⟨S1792x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1792x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Final.lean ====
abbrev S128x4096 : Shape := ⟨2, ![128, 4096]⟩
abbrev S4096 : Shape := ⟨1, ![4096]⟩
abbrev S1x4096 : Shape := ⟨2, ![1, 4096]⟩
abbrev S128x128 : Shape := ⟨2, ![128, 128]⟩
abbrev S128 : Shape := ⟨1, ![128]⟩
abbrev S128x1 : Shape := ⟨2, ![128, 1]⟩

abbrev nBuf : Space → Nat
  | .hbm => 6
  | .vmem => 5
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S1x4096, .f32⟩
  | .hbm, ⟨3, _⟩ => ⟨S128x4096, .bf16⟩
  | .hbm, ⟨4, _⟩ => ⟨S128x4096, .fp8e4m3⟩
  | .hbm, ⟨5, _⟩ => ⟨S128x128, .f32⟩
  | .local _ .vmem, ⟨0, _⟩ => ⟨S128x4096, .f32⟩
  | .local _ .vmem, ⟨1, _⟩ => ⟨S1x4096, .f32⟩
  | .local _ .vmem, ⟨2, _⟩ => ⟨S128x4096, .bf16⟩
  | .local _ .vmem, ⟨3, _⟩ => ⟨S128x4096, .fp8e4m3⟩
  | .local _ .vmem, ⟨4, _⟩ => ⟨S128x128, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== FinalReferenceIdeal.lean ====
abbrev S128x4096 : Shape := ⟨2, ![128, 4096]⟩
abbrev S4096 : Shape := ⟨1, ![4096]⟩
abbrev S1x4096 : Shape := ⟨2, ![1, 4096]⟩
abbrev S128x128 : Shape := ⟨2, ![128, 128]⟩
abbrev S128 : Shape := ⟨1, ![128]⟩
abbrev S128x1 : Shape := ⟨2, ![128, 1]⟩

abbrev nBuf : Space → Nat
  | .hbm => 6
  | .vmem => 5
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S1x4096, .f32⟩
  | .hbm, ⟨3, _⟩ => ⟨S128x4096, .bf16⟩
  | .hbm, ⟨4, _⟩ => ⟨S128x4096, .fp8e4m3⟩
  | .hbm, ⟨5, _⟩ => ⟨S128x128, .f32⟩
  | .local _ .vmem, ⟨0, _⟩ => ⟨S128x4096, .f32⟩
  | .local _ .vmem, ⟨1, _⟩ => ⟨S1x4096, .f32⟩
  | .local _ .vmem, ⟨2, _⟩ => ⟨S128x4096, .bf16⟩
  | .local _ .vmem, ⟨3, _⟩ => ⟨S128x4096, .fp8e4m3⟩
  | .local _ .vmem, ⟨4, _⟩ => ⟨S128x128, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MlpDown.lean ====
abbrev S128x16384 : Shape := ⟨2, ![128, 16384]⟩
abbrev S128x4096 : Shape := ⟨2, ![128, 4096]⟩
abbrev S3x16384x4096 : Shape := ⟨3, ![3, 16384, 4096]⟩
abbrev S3x128x32 : Shape := ⟨3, ![3, 128, 32]⟩
abbrev S128x512 : Shape := ⟨2, ![128, 512]⟩
abbrev S1x4096x512 : Shape := ⟨3, ![1, 4096, 512]⟩
abbrev S1x128x128 : Shape := ⟨3, ![1, 128, 128]⟩
abbrev S128x128 : Shape := ⟨2, ![128, 128]⟩
abbrev S1x1x1 : Shape := ⟨3, ![1, 1, 1]⟩
abbrev S256x512 : Shape := ⟨2, ![256, 512]⟩
abbrev S128x256 : Shape := ⟨2, ![128, 256]⟩

abbrev nBuf : Space → Nat
  | .hbm => 5
  | .vmem => 7
  | .smem => 1
  | _ => 0

abbrev bufTy : (tb : Table) → Fin (tcTables nBuf tb) → BufTy
  | .hbm, ⟨0, _⟩ => ⟨S128x16384, .bf16⟩
  | .hbm, ⟨1, _⟩ => ⟨S128x4096, .f32⟩
  | .hbm, ⟨2, _⟩ => ⟨S3x16384x4096, .fp8e4m3⟩
  | .hbm, ⟨3, _⟩ => ⟨S3x128x32, .f32⟩
  | .hbm, ⟨4, _⟩ => ⟨S128x4096, .f32⟩
  | .local _ .vmem, ⟨0, _⟩ => ⟨S128x16384, .bf16⟩
  | .local _ .vmem, ⟨1, _⟩ => ⟨S128x512, .f32⟩
  | .local _ .vmem, ⟨2, _⟩ => ⟨S128x512, .f32⟩
  | .local _ .vmem, ⟨3, _⟩ => ⟨S1x4096x512, .fp8e4m3⟩
  | .local _ .vmem, ⟨4, _⟩ => ⟨S1x4096x512, .fp8e4m3⟩
  | .local _ .vmem, ⟨5, _⟩ => ⟨S128x512, .f32⟩
  | .local _ .vmem, ⟨6, _⟩ => ⟨S128x512, .f32⟩
  | .local _ .smem, ⟨0, _⟩ => ⟨S3x128x32, .f32⟩
  | _, _ => ⟨S128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) (c0_i32_2 : BitVec 32) (c0_i32_3 : BitVec 32) : Fin 3 → Nat :=
  let c0_4 : Index := 0#32
  let arg1 : BitVec 32 := BitVec.ofNat 32 (i 1).val
  let c32_i32 : BitVec 32 := 32#32
  let v1 : BitVec 32 := Scalar.muli arg1 c32_i32
  let v2 : BitVec 32 := Scalar.addi v1 c0_i32
  let v6 : BitVec 32 := Scalar.addi v2 c0_i32_2
  let v8 : Index := Scalar.indexCast v6
  let arg0 : BitVec 32 := BitVec.ofNat 32 (i 0).val
  let c4_i32 : BitVec 32 := 4#32
  let v3 : BitVec 32 := Scalar.muli arg0 c4_i32
  let v7 : BitVec 32 := Scalar.addi v3 c0_i32_3
  let v9 : Index := Scalar.indexCast v7
  ![0, v8.toNat, v9.toNat]
def k0_mult1 (i : grid0.Coords) : BitVec 32 :=
  let arg1 : BitVec 32 := BitVec.ofNat 32 (i 1).val
  let c4096_i32 : BitVec 32 := 4096#32
  let v95 : BitVec 32 := Scalar.muli arg1 c4096_i32
  let c0_i32_41 : BitVec 32 := 0#32
  let v96 : BitVec 32 := Scalar.addi v95 c0_i32_41
  v96
def k0_off2 (i : grid0.Coords) (c0_i32_41 : BitVec 32) : Fin 2 → Nat :=
  let c0_42 : Index := 0#32
  let arg1 : BitVec 32 := BitVec.ofNat 32 (i 1).val
  let c4096_i32 : BitVec 32 := 4096#32
  let v95 : BitVec 32 := Scalar.muli arg1 c4096_i32
  let v96 : BitVec 32 := Scalar.addi v95 c0_i32_41
  let v97 : BitVec 32 := v96
  let v98 : Index := Scalar.indexCast v97
  ![0, v98.toNat]
def k0_mult2 (i : grid0.Coords) : BitVec 32 :=
  let arg1 : BitVec 32 := BitVec.ofNat 32 (i 1).val
  let c4096_i32_95 : BitVec 32 := 4096#32
  let v196 : BitVec 32 := Scalar.muli arg1 c4096_i32_95
  let c256_i32 : BitVec 32 := 256#32
  let v197 : BitVec 32 := Scalar.addi v196 c256_i32
  v197
def k0_mult3 (i : grid0.Coords) : BitVec 32 :=
  let arg1 : BitVec 32 := BitVec.ofNat 32 (i 1).val
  let c4096_i32_147 : BitVec 32 := 4096#32
  let v297 : BitVec 32 := Scalar.muli arg1 c4096_i32_147
  let c512_i32 : BitVec 32 := 512#32
  let v298 : BitVec 32 := Scalar.addi v297 c512_i32
  v298
def k0_mult4 (i : grid0.Coords) : BitVec 32 :=
  let arg1 : BitVec 32 := BitVec.ofNat 32 (i 1).val
  let c4096_i32_198 : BitVec 32 := 4096#32
  let v398 : BitVec 32 := Scalar.muli arg1 c4096_i32_198
  let c768_i32 : BitVec 32 := 768#32
  let v399 : BitVec 32 := Scalar.addi v398 c768_i32
  v399
def k0_mult5 (i : grid0.Coords) : BitVec 32 :=
  let arg1 : BitVec 32 := BitVec.ofNat 32 (i 1).val
  let c4096_i32_249 : BitVec 32 := 4096#32
  let v499 : BitVec 32 := Scalar.muli arg1 c4096_i32_249
  let c1024_i32 : BitVec 32 := 1024#32
  let v500 : BitVec 32 := Scalar.addi v499 c1024_i32
  v500
def k0_mult6 (i : grid0.Coords) : BitVec 32 :=
  let arg1 : BitVec 32 := BitVec.ofNat 32 (i 1).val
  let c4096_i32_300 : BitVec 32 := 4096#32
  let v600 : BitVec 32 := Scalar.muli arg1 c4096_i32_300
  let c1280_i32 : BitVec 32 := 1280#32
  let v601 : BitVec 32 := Scalar.addi v600 c1280_i32
  v601
def k0_mult7 (i : grid0.Coords) : BitVec 32 :=
  let arg1 : BitVec 32 := BitVec.ofNat 32 (i 1).val
  let c4096_i32_351 : BitVec 32 := 4096#32
  let v701 : BitVec 32 := Scalar.muli arg1 c4096_i32_351
  let c1536_i32 : BitVec 32 := 1536#32
  let v702 : BitVec 32 := Scalar.addi v701 c1536_i32
  v702
def k0_mult8 (i : grid0.Coords) : BitVec 32 :=
  let arg1 : BitVec 32 := BitVec.ofNat 32 (i 1).val
  let c4096_i32_402 : BitVec 32 := 4096#32
  let v802 : BitVec 32 := Scalar.muli arg1 c4096_i32_402
  let c1792_i32 : BitVec 32 := 1792#32
  let v803 : BitVec 32 := Scalar.addi v802 c1792_i32
  v803
def k0_mult9 (i : grid0.Coords) : BitVec 32 :=
  let arg1 : BitVec 32 := BitVec.ofNat 32 (i 1).val
  let c4096_i32_453 : BitVec 32 := 4096#32
  let v903 : BitVec 32 := Scalar.muli arg1 c4096_i32_453
  let c2048_i32 : BitVec 32 := 2048#32
  let v904 : BitVec 32 := Scalar.addi v903 c2048_i32
  v904
def k0_mult10 (i : grid0.Coords) : BitVec 32 :=
  let arg1 : BitVec 32 := BitVec.ofNat 32 (i 1).val
  let c4096_i32_504 : BitVec 32 := 4096#32
  let v1004 : BitVec 32 := Scalar.muli arg1 c4096_i32_504
  let c2304_i32 : BitVec 32 := 2304#32
  let v1005 : BitVec 32 := Scalar.addi v1004 c2304_i32
  v1005
def k0_mult11 (i : grid0.Coords) : BitVec 32 :=
  let arg1 : BitVec 32 := BitVec.ofNat 32 (i 1).val
  let c4096_i32_555 : BitVec 32 := 4096#32
  let v1105 : BitVec 32 := Scalar.muli arg1 c4096_i32_555
  let c2560_i32 : BitVec 32 := 2560#32
  let v1106 : BitVec 32 := Scalar.addi v1105 c2560_i32
  v1106
def k0_mult12 (i : grid0.Coords) : BitVec 32 :=
  let arg1 : BitVec 32 := BitVec.ofNat 32 (i 1).val
  let c4096_i32_606 : BitVec 32 := 4096#32
  let v1206 : BitVec 32 := Scalar.muli arg1 c4096_i32_606
  let c2816_i32 : BitVec 32 := 2816#32
  let v1207 : BitVec 32 := Scalar.addi v1206 c2816_i32
  v1207
def k0_mult13 (i : grid0.Coords) : BitVec 32 :=
  let arg1 : BitVec 32 := BitVec.ofNat 32 (i 1).val
  let c4096_i32_657 : BitVec 32 := 4096#32
  let v1307 : BitVec 32 := Scalar.muli arg1 c4096_i32_657
  let c3072_i32 : BitVec 32 := 3072#32
  let v1308 : BitVec 32 := Scalar.addi v1307 c3072_i32
  v1308
def k0_mult14 (i : grid0.Coords) : BitVec 32 :=
  let arg1 : BitVec 32 := BitVec.ofNat 32 (i 1).val
  let c4096_i32_708 : BitVec 32 := 4096#32
  let v1408 : BitVec 32 := Scalar.muli arg1 c4096_i32_708
  let c3328_i32 : BitVec 32 := 3328#32
  let v1409 : BitVec 32 := Scalar.addi v1408 c3328_i32
  v1409
def k0_mult15 (i : grid0.Coords) : BitVec 32 :=
  let arg1 : BitVec 32 := BitVec.ofNat 32 (i 1).val
  let c4096_i32_759 : BitVec 32 := 4096#32
  let v1509 : BitVec 32 := Scalar.muli arg1 c4096_i32_759
  let c3584_i32 : BitVec 32 := 3584#32
  let v1510 : BitVec 32 := Scalar.addi v1509 c3584_i32
  v1510
def k0_mult16 (i : grid0.Coords) : BitVec 32 :=
  let arg1 : BitVec 32 := BitVec.ofNat 32 (i 1).val
  let c4096_i32_810 : BitVec 32 := 4096#32
  let v1610 : BitVec 32 := Scalar.muli arg1 c4096_i32_810
  let c3840_i32 : BitVec 32 := 3840#32
  let v1611 : BitVec 32 := Scalar.addi v1610 c3840_i32
  v1611
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S3x128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpDownReferenceIdeal.lean ====
abbrev S128x16384 : Shape := ⟨2, ![128, 16384]⟩
abbrev S128x4096 : Shape := ⟨2, ![128, 4096]⟩
abbrev S3x16384x4096 : Shape := ⟨3, ![3, 16384, 4096]⟩
abbrev S3x128x32 : Shape := ⟨3, ![3, 128, 32]⟩
abbrev S1x128x32 : Shape := ⟨3, ![1, 128, 32]⟩
abbrev S128x32 : Shape := ⟨2, ![128, 32]⟩
abbrev S128x1x32x1 : Shape := ⟨4, ![128, 1, 32, 1]⟩
abbrev S128x128x32x128 : Shape := ⟨4, ![128, 128, 32, 128]⟩
abbrev S16384x4096 : Shape := ⟨2, ![16384, 4096]⟩
abbrev S1x16384x4096 : Shape := ⟨3, ![1, 16384, 4096]⟩

abbrev nBuf : Space → Nat
  | .hbm => 10
  | .vmem => 5
  | .smem => 0
  | _ => 0

abbrev bufTy : (tb : Table) → Fin (tcTables nBuf tb) → BufTy
  | .hbm, ⟨0, _⟩ => ⟨S128x16384, .bf16⟩
  | .hbm, ⟨1, _⟩ => ⟨S128x4096, .f32⟩
  | .hbm, ⟨2, _⟩ => ⟨S3x16384x4096, .fp8e4m3⟩
  | .hbm, ⟨3, _⟩ => ⟨S3x128x32, .f32⟩
  | .hbm, ⟨4, _⟩ => ⟨S1x128x32, .f32⟩
  | .hbm, ⟨5, _⟩ => ⟨S128x32, .f32⟩
  | .hbm, ⟨6, _⟩ => ⟨S128x1x32x1, .f32⟩
  | .hbm, ⟨7, _⟩ => ⟨S128x128x32x128, .f32⟩
  | .hbm, ⟨8, _⟩ => ⟨S16384x4096, .f32⟩
  | .hbm, ⟨9, _⟩ => ⟨S128x4096, .f32⟩
  | .local _ .vmem, ⟨0, _⟩ => ⟨S128x16384, .bf16⟩
  | .local _ .vmem, ⟨1, _⟩ => ⟨S128x4096, .f32⟩
  | .local _ .vmem, ⟨2, _⟩ => ⟨S3x16384x4096, .fp8e4m3⟩
  | .local _ .vmem, ⟨3, _⟩ => ⟨S16384x4096, .f32⟩
  | .local _ .vmem, ⟨4, _⟩ => ⟨S128x4096, .f32⟩
  | _, _ => ⟨S128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x16384x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MlpDown1.lean ====
abbrev S128x16384 : Shape := ⟨2, ![128, 16384]⟩
abbrev S128x4096 : Shape := ⟨2, ![128, 4096]⟩
abbrev S3x16384x4096 : Shape := ⟨3, ![3, 16384, 4096]⟩
abbrev S3x128x32 : Shape := ⟨3, ![3, 128, 32]⟩
abbrev S128x512 : Shape := ⟨2, ![128, 512]⟩
abbrev S1x4096x512 : Shape := ⟨3, ![1, 4096, 512]⟩
abbrev S1x128x128 : Shape := ⟨3, ![1, 128, 128]⟩
abbrev S128x128 : Shape := ⟨2, ![128, 128]⟩
abbrev S1x1x1 : Shape := ⟨3, ![1, 1, 1]⟩
abbrev S256x512 : Shape := ⟨2, ![256, 512]⟩
abbrev S128x256 : Shape := ⟨2, ![128, 256]⟩

abbrev nBuf : Space → Nat
  | .hbm => 5
  | .vmem => 7
  | .smem => 1
  | _ => 0

abbrev bufTy : (tb : Table) → Fin (tcTables nBuf tb) → BufTy
  | .hbm, ⟨0, _⟩ => ⟨S128x16384, .bf16⟩
  | .hbm, ⟨1, _⟩ => ⟨S128x4096, .f32⟩
  | .hbm, ⟨2, _⟩ => ⟨S3x16384x4096, .fp8e4m3⟩
  | .hbm, ⟨3, _⟩ => ⟨S3x128x32, .f32⟩
  | .hbm, ⟨4, _⟩ => ⟨S128x4096, .f32⟩
  | .local _ .vmem, ⟨0, _⟩ => ⟨S128x16384, .bf16⟩
  | .local _ .vmem, ⟨1, _⟩ => ⟨S128x512, .f32⟩
  | .local _ .vmem, ⟨2, _⟩ => ⟨S128x512, .f32⟩
  | .local _ .vmem, ⟨3, _⟩ => ⟨S1x4096x512, .fp8e4m3⟩
  | .local _ .vmem, ⟨4, _⟩ => ⟨S1x4096x512, .fp8e4m3⟩
  | .local _ .vmem, ⟨5, _⟩ => ⟨S128x512, .f32⟩
  | .local _ .vmem, ⟨6, _⟩ => ⟨S128x512, .f32⟩
  | .local _ .smem, ⟨0, _⟩ => ⟨S3x128x32, .f32⟩
  | _, _ => ⟨S128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) (c0_i32_2 : BitVec 32) (c0_i32_3 : BitVec 32) : Fin 3 → Nat :=
  let c1 : Index := 1#32
  let arg1 : BitVec 32 := BitVec.ofNat 32 (i 1).val
  let c32_i32 : BitVec 32 := 32#32
  let v1 : BitVec 32 := Scalar.muli arg1 c32_i32
  let v2 : BitVec 32 := Scalar.addi v1 c0_i32
  let v6 : BitVec 32 := Scalar.addi v2 c0_i32_2
  let v8 : Index := Scalar.indexCast v6
  let arg0 : BitVec 32 := BitVec.ofNat 32 (i 0).val
  let c4_i32 : BitVec 32 := 4#32
  let v3 : BitVec 32 := Scalar.muli arg0 c4_i32
  let v7 : BitVec 32 := Scalar.addi v3 c0_i32_3
  let v9 : Index := Scalar.indexCast v7
  ![1, v8.toNat, v9.toNat]
def k0_mult1 (i : grid0.Coords) : BitVec 32 :=
  let arg1 : BitVec 32 := BitVec.ofNat 32 (i 1).val
  let c4096_i32 : BitVec 32 := 4096#32
  let v95 : BitVec 32 := Scalar.muli arg1 c4096_i32
  let c0_i32_40 : BitVec 32 := 0#32
  let v96 : BitVec 32 := Scalar.addi v95 c0_i32_40
  v96
def k0_off2 (i : grid0.Coords) (c0_i32_40 : BitVec 32) : Fin 2 → Nat :=
  let c0_41 : Index := 0#32
  let arg1 : BitVec 32 := BitVec.ofNat 32 (i 1).val
  let c4096_i32 : BitVec 32 := 4096#32
  let v95 : BitVec 32 := Scalar.muli arg1 c4096_i32
  let v96 : BitVec 32 := Scalar.addi v95 c0_i32_40
  let v97 : BitVec 32 := v96
  let v98 : Index := Scalar.indexCast v97
  ![0, v98.toNat]
def k0_mult2 (i : grid0.Coords) : BitVec 32 :=
  let arg1 : BitVec 32 := BitVec.ofNat 32 (i 1).val
  let c4096_i32_94 : BitVec 32 := 4096#32
  let v196 : BitVec 32 := Scalar.muli arg1 c4096_i32_94
  let c256_i32 : BitVec 32 := 256#32
  let v197 : BitVec 32 := Scalar.addi v196 c256_i32
  v197
def k0_mult3 (i : grid0.Coords) : BitVec 32 :=
  let arg1 : BitVec 32 := BitVec.ofNat 32 (i 1).val
  let c4096_i32_146 : BitVec 32 := 4096#32
  let v297 : BitVec 32 := Scalar.muli arg1 c4096_i32_146
  let c512_i32 : BitVec 32 := 512#32
  let v298 : BitVec 32 := Scalar.addi v297 c512_i32
  v298
def k0_mult4 (i : grid0.Coords) : BitVec 32 :=
  let arg1 : BitVec 32 := BitVec.ofNat 32 (i 1).val
  let c4096_i32_197 : BitVec 32 := 4096#32
  let v398 : BitVec 32 := Scalar.muli arg1 c4096_i32_197
  let c768_i32 : BitVec 32 := 768#32
  let v399 : BitVec 32 := Scalar.addi v398 c768_i32
  v399
def k0_mult5 (i : grid0.Coords) : BitVec 32 :=
  let arg1 : BitVec 32 := BitVec.ofNat 32 (i 1).val
  let c4096_i32_248 : BitVec 32 := 4096#32
  let v499 : BitVec 32 := Scalar.muli arg1 c4096_i32_248
  let c1024_i32 : BitVec 32 := 1024#32
  let v500 : BitVec 32 := Scalar.addi v499 c1024_i32
  v500
def k0_mult6 (i : grid0.Coords) : BitVec 32 :=
  let arg1 : BitVec 32 := BitVec.ofNat 32 (i 1).val
  let c4096_i32_299 : BitVec 32 := 4096#32
  let v600 : BitVec 32 := Scalar.muli arg1 c4096_i32_299
  let c1280_i32 : BitVec 32 := 1280#32
  let v601 : BitVec 32 := Scalar.addi v600 c1280_i32
  v601
def k0_mult7 (i : grid0.Coords) : BitVec 32 :=
  let arg1 : BitVec 32 := BitVec.ofNat 32 (i 1).val
  let c4096_i32_350 : BitVec 32 := 4096#32
  let v701 : BitVec 32 := Scalar.muli arg1 c4096_i32_350
  let c1536_i32 : BitVec 32 := 1536#32
  let v702 : BitVec 32 := Scalar.addi v701 c1536_i32
  v702
def k0_mult8 (i : grid0.Coords) : BitVec 32 :=
  let arg1 : BitVec 32 := BitVec.ofNat 32 (i 1).val
  let c4096_i32_401 : BitVec 32 := 4096#32
  let v802 : BitVec 32 := Scalar.muli arg1 c4096_i32_401
  let c1792_i32 : BitVec 32 := 1792#32
  let v803 : BitVec 32 := Scalar.addi v802 c1792_i32
  v803
def k0_mult9 (i : grid0.Coords) : BitVec 32 :=
  let arg1 : BitVec 32 := BitVec.ofNat 32 (i 1).val
  let c4096_i32_452 : BitVec 32 := 4096#32
  let v903 : BitVec 32 := Scalar.muli arg1 c4096_i32_452
  let c2048_i32 : BitVec 32 := 2048#32
  let v904 : BitVec 32 := Scalar.addi v903 c2048_i32
  v904
def k0_mult10 (i : grid0.Coords) : BitVec 32 :=
  let arg1 : BitVec 32 := BitVec.ofNat 32 (i 1).val
  let c4096_i32_503 : BitVec 32 := 4096#32
  let v1004 : BitVec 32 := Scalar.muli arg1 c4096_i32_503
  let c2304_i32 : BitVec 32 := 2304#32
  let v1005 : BitVec 32 := Scalar.addi v1004 c2304_i32
  v1005
def k0_mult11 (i : grid0.Coords) : BitVec 32 :=
  let arg1 : BitVec 32 := BitVec.ofNat 32 (i 1).val
  let c4096_i32_554 : BitVec 32 := 4096#32
  let v1105 : BitVec 32 := Scalar.muli arg1 c4096_i32_554
  let c2560_i32 : BitVec 32 := 2560#32
  let v1106 : BitVec 32 := Scalar.addi v1105 c2560_i32
  v1106
def k0_mult12 (i : grid0.Coords) : BitVec 32 :=
  let arg1 : BitVec 32 := BitVec.ofNat 32 (i 1).val
  let c4096_i32_605 : BitVec 32 := 4096#32
  let v1206 : BitVec 32 := Scalar.muli arg1 c4096_i32_605
  let c2816_i32 : BitVec 32 := 2816#32
  let v1207 : BitVec 32 := Scalar.addi v1206 c2816_i32
  v1207
def k0_mult13 (i : grid0.Coords) : BitVec 32 :=
  let arg1 : BitVec 32 := BitVec.ofNat 32 (i 1).val
  let c4096_i32_656 : BitVec 32 := 4096#32
  let v1307 : BitVec 32 := Scalar.muli arg1 c4096_i32_656
  let c3072_i32 : BitVec 32 := 3072#32
  let v1308 : BitVec 32 := Scalar.addi v1307 c3072_i32
  v1308
def k0_mult14 (i : grid0.Coords) : BitVec 32 :=
  let arg1 : BitVec 32 := BitVec.ofNat 32 (i 1).val
  let c4096_i32_707 : BitVec 32 := 4096#32
  let v1408 : BitVec 32 := Scalar.muli arg1 c4096_i32_707
  let c3328_i32 : BitVec 32 := 3328#32
  let v1409 : BitVec 32 := Scalar.addi v1408 c3328_i32
  v1409
def k0_mult15 (i : grid0.Coords) : BitVec 32 :=
  let arg1 : BitVec 32 := BitVec.ofNat 32 (i 1).val
  let c4096_i32_758 : BitVec 32 := 4096#32
  let v1509 : BitVec 32 := Scalar.muli arg1 c4096_i32_758
  let c3584_i32 : BitVec 32 := 3584#32
  let v1510 : BitVec 32 := Scalar.addi v1509 c3584_i32
  v1510
def k0_mult16 (i : grid0.Coords) : BitVec 32 :=
  let arg1 : BitVec 32 := BitVec.ofNat 32 (i 1).val
  let c4096_i32_809 : BitVec 32 := 4096#32
  let v1610 : BitVec 32 := Scalar.muli arg1 c4096_i32_809
  let c3840_i32 : BitVec 32 := 3840#32
  let v1611 : BitVec 32 := Scalar.addi v1610 c3840_i32
  v1611
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S3x128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpDown1ReferenceIdeal.lean ====
abbrev S128x16384 : Shape := ⟨2, ![128, 16384]⟩
abbrev S128x4096 : Shape := ⟨2, ![128, 4096]⟩
abbrev S3x16384x4096 : Shape := ⟨3, ![3, 16384, 4096]⟩
abbrev S3x128x32 : Shape := ⟨3, ![3, 128, 32]⟩
abbrev S1x128x32 : Shape := ⟨3, ![1, 128, 32]⟩
abbrev S128x32 : Shape := ⟨2, ![128, 32]⟩
abbrev S128x1x32x1 : Shape := ⟨4, ![128, 1, 32, 1]⟩
abbrev S128x128x32x128 : Shape := ⟨4, ![128, 128, 32, 128]⟩
abbrev S16384x4096 : Shape := ⟨2, ![16384, 4096]⟩
abbrev S1x16384x4096 : Shape := ⟨3, ![1, 16384, 4096]⟩

abbrev nBuf : Space → Nat
  | .hbm => 10
  | .vmem => 5
  | .smem => 0
  | _ => 0

abbrev bufTy : (tb : Table) → Fin (tcTables nBuf tb) → BufTy
  | .hbm, ⟨0, _⟩ => ⟨S128x16384, .bf16⟩
  | .hbm, ⟨1, _⟩ => ⟨S128x4096, .f32⟩
  | .hbm, ⟨2, _⟩ => ⟨S3x16384x4096, .fp8e4m3⟩
  | .hbm, ⟨3, _⟩ => ⟨S3x128x32, .f32⟩
  | .hbm, ⟨4, _⟩ => ⟨S1x128x32, .f32⟩
  | .hbm, ⟨5, _⟩ => ⟨S128x32, .f32⟩
  | .hbm, ⟨6, _⟩ => ⟨S128x1x32x1, .f32⟩
  | .hbm, ⟨7, _⟩ => ⟨S128x128x32x128, .f32⟩
  | .hbm, ⟨8, _⟩ => ⟨S16384x4096, .f32⟩
  | .hbm, ⟨9, _⟩ => ⟨S128x4096, .f32⟩
  | .local _ .vmem, ⟨0, _⟩ => ⟨S128x16384, .bf16⟩
  | .local _ .vmem, ⟨1, _⟩ => ⟨S128x4096, .f32⟩
  | .local _ .vmem, ⟨2, _⟩ => ⟨S3x16384x4096, .fp8e4m3⟩
  | .local _ .vmem, ⟨3, _⟩ => ⟨S16384x4096, .f32⟩
  | .local _ .vmem, ⟨4, _⟩ => ⟨S128x4096, .f32⟩
  | _, _ => ⟨S128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x16384x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MlpDown2.lean ====
abbrev S128x16384 : Shape := ⟨2, ![128, 16384]⟩
abbrev S128x4096 : Shape := ⟨2, ![128, 4096]⟩
abbrev S3x16384x4096 : Shape := ⟨3, ![3, 16384, 4096]⟩
abbrev S3x128x32 : Shape := ⟨3, ![3, 128, 32]⟩
abbrev S128x512 : Shape := ⟨2, ![128, 512]⟩
abbrev S1x4096x512 : Shape := ⟨3, ![1, 4096, 512]⟩
abbrev S1x128x128 : Shape := ⟨3, ![1, 128, 128]⟩
abbrev S128x128 : Shape := ⟨2, ![128, 128]⟩
abbrev S1x1x1 : Shape := ⟨3, ![1, 1, 1]⟩
abbrev S256x512 : Shape := ⟨2, ![256, 512]⟩
abbrev S128x256 : Shape := ⟨2, ![128, 256]⟩

abbrev nBuf : Space → Nat
  | .hbm => 5
  | .vmem => 7
  | .smem => 1
  | _ => 0

abbrev bufTy : (tb : Table) → Fin (tcTables nBuf tb) → BufTy
  | .hbm, ⟨0, _⟩ => ⟨S128x16384, .bf16⟩
  | .hbm, ⟨1, _⟩ => ⟨S128x4096, .f32⟩
  | .hbm, ⟨2, _⟩ => ⟨S3x16384x4096, .fp8e4m3⟩
  | .hbm, ⟨3, _⟩ => ⟨S3x128x32, .f32⟩
  | .hbm, ⟨4, _⟩ => ⟨S128x4096, .f32⟩
  | .local _ .vmem, ⟨0, _⟩ => ⟨S128x16384, .bf16⟩
  | .local _ .vmem, ⟨1, _⟩ => ⟨S128x512, .f32⟩
  | .local _ .vmem, ⟨2, _⟩ => ⟨S128x512, .f32⟩
  | .local _ .vmem, ⟨3, _⟩ => ⟨S1x4096x512, .fp8e4m3⟩
  | .local _ .vmem, ⟨4, _⟩ => ⟨S1x4096x512, .fp8e4m3⟩
  | .local _ .vmem, ⟨5, _⟩ => ⟨S128x512, .f32⟩
  | .local _ .vmem, ⟨6, _⟩ => ⟨S128x512, .f32⟩
  | .local _ .smem, ⟨0, _⟩ => ⟨S3x128x32, .f32⟩
  | _, _ => ⟨S128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) (c0_i32_2 : BitVec 32) (c0_i32_3 : BitVec 32) : Fin 3 → Nat :=
  let c2 : Index := 2#32
  let arg1 : BitVec 32 := BitVec.ofNat 32 (i 1).val
  let c32_i32 : BitVec 32 := 32#32
  let v1 : BitVec 32 := Scalar.muli arg1 c32_i32
  let v2 : BitVec 32 := Scalar.addi v1 c0_i32
  let v6 : BitVec 32 := Scalar.addi v2 c0_i32_2
  let v8 : Index := Scalar.indexCast v6
  let arg0 : BitVec 32 := BitVec.ofNat 32 (i 0).val
  let c4_i32 : BitVec 32 := 4#32
  let v3 : BitVec 32 := Scalar.muli arg0 c4_i32
  let v7 : BitVec 32 := Scalar.addi v3 c0_i32_3
  let v9 : Index := Scalar.indexCast v7
  ![2, v8.toNat, v9.toNat]
def k0_mult1 (i : grid0.Coords) : BitVec 32 :=
  let arg1 : BitVec 32 := BitVec.ofNat 32 (i 1).val
  let c4096_i32 : BitVec 32 := 4096#32
  let v95 : BitVec 32 := Scalar.muli arg1 c4096_i32
  let c0_i32_40 : BitVec 32 := 0#32
  let v96 : BitVec 32 := Scalar.addi v95 c0_i32_40
  v96
def k0_off2 (i : grid0.Coords) (c0_i32_40 : BitVec 32) : Fin 2 → Nat :=
  let c0_41 : Index := 0#32
  let arg1 : BitVec 32 := BitVec.ofNat 32 (i 1).val
  let c4096_i32 : BitVec 32 := 4096#32
  let v95 : BitVec 32 := Scalar.muli arg1 c4096_i32
  let v96 : BitVec 32 := Scalar.addi v95 c0_i32_40
  let v97 : BitVec 32 := v96
  let v98 : Index := Scalar.indexCast v97
  ![0, v98.toNat]
def k0_mult2 (i : grid0.Coords) : BitVec 32 :=
  let arg1 : BitVec 32 := BitVec.ofNat 32 (i 1).val
  let c4096_i32_94 : BitVec 32 := 4096#32
  let v196 : BitVec 32 := Scalar.muli arg1 c4096_i32_94
  let c256_i32 : BitVec 32 := 256#32
  let v197 : BitVec 32 := Scalar.addi v196 c256_i32
  v197
def k0_mult3 (i : grid0.Coords) : BitVec 32 :=
  let arg1 : BitVec 32 := BitVec.ofNat 32 (i 1).val
  let c4096_i32_146 : BitVec 32 := 4096#32
  let v297 : BitVec 32 := Scalar.muli arg1 c4096_i32_146
  let c512_i32 : BitVec 32 := 512#32
  let v298 : BitVec 32 := Scalar.addi v297 c512_i32
  v298
def k0_mult4 (i : grid0.Coords) : BitVec 32 :=
  let arg1 : BitVec 32 := BitVec.ofNat 32 (i 1).val
  let c4096_i32_197 : BitVec 32 := 4096#32
  let v398 : BitVec 32 := Scalar.muli arg1 c4096_i32_197
  let c768_i32 : BitVec 32 := 768#32
  let v399 : BitVec 32 := Scalar.addi v398 c768_i32
  v399
def k0_mult5 (i : grid0.Coords) : BitVec 32 :=
  let arg1 : BitVec 32 := BitVec.ofNat 32 (i 1).val
  let c4096_i32_248 : BitVec 32 := 4096#32
  let v499 : BitVec 32 := Scalar.muli arg1 c4096_i32_248
  let c1024_i32 : BitVec 32 := 1024#32
  let v500 : BitVec 32 := Scalar.addi v499 c1024_i32
  v500
def k0_mult6 (i : grid0.Coords) : BitVec 32 :=
  let arg1 : BitVec 32 := BitVec.ofNat 32 (i 1).val
  let c4096_i32_299 : BitVec 32 := 4096#32
  let v600 : BitVec 32 := Scalar.muli arg1 c4096_i32_299
  let c1280_i32 : BitVec 32 := 1280#32
  let v601 : BitVec 32 := Scalar.addi v600 c1280_i32
  v601
def k0_mult7 (i : grid0.Coords) : BitVec 32 :=
  let arg1 : BitVec 32 := BitVec.ofNat 32 (i 1).val
  let c4096_i32_350 : BitVec 32 := 4096#32
  let v701 : BitVec 32 := Scalar.muli arg1 c4096_i32_350
  let c1536_i32 : BitVec 32 := 1536#32
  let v702 : BitVec 32 := Scalar.addi v701 c1536_i32
  v702
def k0_mult8 (i : grid0.Coords) : BitVec 32 :=
  let arg1 : BitVec 32 := BitVec.ofNat 32 (i 1).val
  let c4096_i32_401 : BitVec 32 := 4096#32
  let v802 : BitVec 32 := Scalar.muli arg1 c4096_i32_401
  let c1792_i32 : BitVec 32 := 1792#32
  let v803 : BitVec 32 := Scalar.addi v802 c1792_i32
  v803
def k0_mult9 (i : grid0.Coords) : BitVec 32 :=
  let arg1 : BitVec 32 := BitVec.ofNat 32 (i 1).val
  let c4096_i32_452 : BitVec 32 := 4096#32
  let v903 : BitVec 32 := Scalar.muli arg1 c4096_i32_452
  let c2048_i32 : BitVec 32 := 2048#32
  let v904 : BitVec 32 := Scalar.addi v903 c2048_i32
  v904
def k0_mult10 (i : grid0.Coords) : BitVec 32 :=
  let arg1 : BitVec 32 := BitVec.ofNat 32 (i 1).val
  let c4096_i32_503 : BitVec 32 := 4096#32
  let v1004 : BitVec 32 := Scalar.muli arg1 c4096_i32_503
  let c2304_i32 : BitVec 32 := 2304#32
  let v1005 : BitVec 32 := Scalar.addi v1004 c2304_i32
  v1005
def k0_mult11 (i : grid0.Coords) : BitVec 32 :=
  let arg1 : BitVec 32 := BitVec.ofNat 32 (i 1).val
  let c4096_i32_554 : BitVec 32 := 4096#32
  let v1105 : BitVec 32 := Scalar.muli arg1 c4096_i32_554
  let c2560_i32 : BitVec 32 := 2560#32
  let v1106 : BitVec 32 := Scalar.addi v1105 c2560_i32
  v1106
def k0_mult12 (i : grid0.Coords) : BitVec 32 :=
  let arg1 : BitVec 32 := BitVec.ofNat 32 (i 1).val
  let c4096_i32_605 : BitVec 32 := 4096#32
  let v1206 : BitVec 32 := Scalar.muli arg1 c4096_i32_605
  let c2816_i32 : BitVec 32 := 2816#32
  let v1207 : BitVec 32 := Scalar.addi v1206 c2816_i32
  v1207
def k0_mult13 (i : grid0.Coords) : BitVec 32 :=
  let arg1 : BitVec 32 := BitVec.ofNat 32 (i 1).val
  let c4096_i32_656 : BitVec 32 := 4096#32
  let v1307 : BitVec 32 := Scalar.muli arg1 c4096_i32_656
  let c3072_i32 : BitVec 32 := 3072#32
  let v1308 : BitVec 32 := Scalar.addi v1307 c3072_i32
  v1308
def k0_mult14 (i : grid0.Coords) : BitVec 32 :=
  let arg1 : BitVec 32 := BitVec.ofNat 32 (i 1).val
  let c4096_i32_707 : BitVec 32 := 4096#32
  let v1408 : BitVec 32 := Scalar.muli arg1 c4096_i32_707
  let c3328_i32 : BitVec 32 := 3328#32
  let v1409 : BitVec 32 := Scalar.addi v1408 c3328_i32
  v1409
def k0_mult15 (i : grid0.Coords) : BitVec 32 :=
  let arg1 : BitVec 32 := BitVec.ofNat 32 (i 1).val
  let c4096_i32_758 : BitVec 32 := 4096#32
  let v1509 : BitVec 32 := Scalar.muli arg1 c4096_i32_758
  let c3584_i32 : BitVec 32 := 3584#32
  let v1510 : BitVec 32 := Scalar.addi v1509 c3584_i32
  v1510
def k0_mult16 (i : grid0.Coords) : BitVec 32 :=
  let arg1 : BitVec 32 := BitVec.ofNat 32 (i 1).val
  let c4096_i32_809 : BitVec 32 := 4096#32
  let v1610 : BitVec 32 := Scalar.muli arg1 c4096_i32_809
  let c3840_i32 : BitVec 32 := 3840#32
  let v1611 : BitVec 32 := Scalar.addi v1610 c3840_i32
  v1611
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S3x128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpDown2ReferenceIdeal.lean ====
abbrev S128x16384 : Shape := ⟨2, ![128, 16384]⟩
abbrev S128x4096 : Shape := ⟨2, ![128, 4096]⟩
abbrev S3x16384x4096 : Shape := ⟨3, ![3, 16384, 4096]⟩
abbrev S3x128x32 : Shape := ⟨3, ![3, 128, 32]⟩
abbrev S1x128x32 : Shape := ⟨3, ![1, 128, 32]⟩
abbrev S128x32 : Shape := ⟨2, ![128, 32]⟩
abbrev S128x1x32x1 : Shape := ⟨4, ![128, 1, 32, 1]⟩
abbrev S128x128x32x128 : Shape := ⟨4, ![128, 128, 32, 128]⟩
abbrev S16384x4096 : Shape := ⟨2, ![16384, 4096]⟩
abbrev S1x16384x4096 : Shape := ⟨3, ![1, 16384, 4096]⟩

abbrev nBuf : Space → Nat
  | .hbm => 10
  | .vmem => 5
  | .smem => 0
  | _ => 0

abbrev bufTy : (tb : Table) → Fin (tcTables nBuf tb) → BufTy
  | .hbm, ⟨0, _⟩ => ⟨S128x16384, .bf16⟩
  | .hbm, ⟨1, _⟩ => ⟨S128x4096, .f32⟩
  | .hbm, ⟨2, _⟩ => ⟨S3x16384x4096, .fp8e4m3⟩
  | .hbm, ⟨3, _⟩ => ⟨S3x128x32, .f32⟩
  | .hbm, ⟨4, _⟩ => ⟨S1x128x32, .f32⟩
  | .hbm, ⟨5, _⟩ => ⟨S128x32, .f32⟩
  | .hbm, ⟨6, _⟩ => ⟨S128x1x32x1, .f32⟩
  | .hbm, ⟨7, _⟩ => ⟨S128x128x32x128, .f32⟩
  | .hbm, ⟨8, _⟩ => ⟨S16384x4096, .f32⟩
  | .hbm, ⟨9, _⟩ => ⟨S128x4096, .f32⟩
  | .local _ .vmem, ⟨0, _⟩ => ⟨S128x16384, .bf16⟩
  | .local _ .vmem, ⟨1, _⟩ => ⟨S128x4096, .f32⟩
  | .local _ .vmem, ⟨2, _⟩ => ⟨S3x16384x4096, .fp8e4m3⟩
  | .local _ .vmem, ⟨3, _⟩ => ⟨S16384x4096, .f32⟩
  | .local _ .vmem, ⟨4, _⟩ => ⟨S128x4096, .f32⟩
  | _, _ => ⟨S128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x16384x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.MlpDownBlock.lean ====
module
public import proofs.«01_k».proof.Proof.Gen.MlpDownIdeal.Value
public import Idealize.ShloMosaic.Lib.Pipeline.ValueKit
public import Idealize.ShloMosaic.Lib.Pipeline.ReadBack
public import Idealize.ShloMosaic.Lib.Pointwise

/-! The down product of the feed-forward block over the extended reals: what one grid point adds to its output block. -/

@[expose] public section
set_option maxRecDepth 65536
noncomputable section
namespace Cert.MlpDownIdeal.Hand
open Cert.MlpDownIdeal Cert.MlpDownIdeal.Gen Idealize.ShloMosaic Idealize.ShloMosaic.TcCoe Idealize.SL.Sem
open Idealize.ShloMosaic.Pipeline (Dat)

/-- A 128×128 block of the weight times its scale. -/
def deqB (w : Vec Ideal S1x128x128 .fp8e4m3) (s : Elt Ideal .f32) : FVec Ideal S128x128 .bf16 :=
  mulf (extf .bf16 (shapeCast S128x128 w shapeCasts_S1x128x128_S128x128 : FVec Ideal S128x128 .fp8e4m3) bitsLt_fp8e4m3_bf16)
    (truncf .bf16 (broadcast S128x128 s : FVec Ideal S128x128 .f32) bitsLt_bf16_f32)

/-- Four blocks side by side. -/
def rowB (f : Fin 4 → FVec Ideal S128x128 .bf16) : FVec Ideal S128x512 .bf16 :=
  concatenate S128x512 1 [⟨S128x128, f 0⟩, ⟨S128x128, f 1⟩, ⟨S128x128, f 2⟩, ⟨S128x128, f 3⟩] concatenates_S128x128_S128x128_S128x128_S128x128_S128x512_d1

/-- Two rows of blocks, one above the other. -/
def tileB (f : Fin 2 → FVec Ideal S128x512 .bf16) : FVec Ideal S256x512 .bf16 :=
  concatenate S256x512 0 [⟨S128x512, f 0⟩, ⟨S128x512, f 1⟩] concatenates_S128x512_S128x512_S256x512_d0

/-- The product of 256 columns of the activation with the tile of the weight that stands on those rows. -/
def slabB (p : Vec Ideal S128x256 .bf16) (w : Fin 2 → Fin 4 → Vec Ideal S1x128x128 .fp8e4m3) (s : Fin 2 → Fin 4 → Elt Ideal .f32) :
    FVec Ideal S128x512 .f32 :=
  matmul (φ₁ := .bf16) dot_S128x256_S256x512_S128x512_1_0_0_1_n_n none p (tileB fun a => rowB fun b => deqB (w a b) (s a b))
    (constant S128x512 .f32 0x00000000#32 : FVec Ideal S128x512 .f32)

theorem deqB_apply (w : Vec Ideal S1x128x128 .fp8e4m3) (s : Elt Ideal .f32) (x : S128x128.Idx) :
    deqB w s x = w (ix3 0 (x 0) (x 1)) * s := by
  unfold deqB
  pointwise

theorem rowB_apply (f : Fin 4 → FVec Ideal S128x128 .bf16) (x : S128x512.Idx) (b : Fin 4) (n : Fin 128)
    (h : (x 1).val = 128 * b.val + n.val) : rowB f x = f b (ix2 (x 0) n) := by
  have hn := n.isLt
  have hx : n = ⟨(x 1).val % 128, Nat.mod_lt _ (by decide)⟩ := Fin.ext (by show n.val = (x 1).val % 128; omega)
  unfold rowB
  pointwise
  fin_cases b <;> simp only [Fin.mk_zero, Fin.mk_one, Fin.reduceFinMk] at h ⊢ <;> subst hx <;> split_ifs <;>
    first
    | (exfalso; simp at h; omega)
    | (congr 2; apply Fin.ext; dsimp only; simp at h; omega)

theorem tileB_apply (f : Fin 2 → FVec Ideal S128x512 .bf16) (x : S256x512.Idx) (a : Fin 2) (n : Fin 128)
    (h : (x 0).val = 128 * a.val + n.val) : tileB f x = f a (ix2 n (x 1)) := by
  have hn := n.isLt
  unfold tileB
  pointwise
  fin_cases a <;> simp only [Fin.mk_zero, Fin.mk_one, Fin.reduceFinMk] at h ⊢ <;> split_ifs <;>
    first
    | (exfalso; simp at h; omega)
    | (congr 2; apply Fin.ext; dsimp only; simp at h; omega)

theorem dot_apply (p : Vec Ideal S128x256 .bf16) (q : FVec Ideal S256x512 .bf16) (x : S128x512.Idx) :
    matmul (φ₁ := .bf16) dot_S128x256_S256x512_S128x512_1_0_0_1_n_n none p q (constant S128x512 .f32 0x00000000#32 : FVec Ideal S128x512 .f32) x
      = ∑ k : Fin 256, p (ix2 (x 0) k) * q (ix2 k (x 1)) := by
  pointwise

/-- The slab at an index: a sum over its 256 rows. -/
theorem slabB_apply (p : Vec Ideal S128x256 .bf16) (w : Fin 2 → Fin 4 → Vec Ideal S1x128x128 .fp8e4m3)
    (s : Fin 2 → Fin 4 → Elt Ideal .f32) (x : S128x512.Idx) (b : Fin 4) (n : Fin 128) (h : (x 1).val = 128 * b.val + n.val) :
    slabB p w s x = ∑ k : Fin 256, p (ix2 (x 0) k)
      * (w ⟨k.val / 128, by omega⟩ b (ix3 0 ⟨k.val % 128, Nat.mod_lt _ (by decide)⟩ n) * s ⟨k.val / 128, by omega⟩ b) := by
  unfold slabB
  rw [dot_apply]
  refine Finset.sum_congr rfl fun k _ => congrArg (p (ix2 (x 0) k) * ·) ?_
  refine (tileB_apply _ _ ⟨k.val / 128, by omega⟩ ⟨k.val % 128, Nat.mod_lt _ (by decide)⟩ (Nat.div_add_mod k.val 128).symm).trans ?_
  exact (rowB_apply (fun b => deqB (w ⟨k.val / 128, by omega⟩ b) (s ⟨k.val / 128, by omega⟩ b))
    (ix2 ⟨k.val % 128, Nat.mod_lt _ (by decide)⟩ (x 1)) b n h).trans (deqB_apply _ _ _)

theorem off1_eq (i : grid0.Coords) (r : Fin 16) (a : Fin 2) (b : Fin 4) :
    k0_off1 i (BitVec.ofNat 32 (2 * r.val)) (BitVec.ofNat 32 a.val) (BitVec.ofNat 32 b.val)
      = ![0, 32 * (i 1).val + 2 * r.val + a.val, 4 * (i 0).val + b.val] := by
  have h0 : (i 0).val < 8 := (i 0).isLt
  have h1 : (i 1).val < 4 := (i 1).isLt
  have := r.isLt
  have := a.isLt
  have := b.isLt
  unfold k0_off1
  funext z
  fin_cases z <;> simp [Scalar.muli, Scalar.addi, Scalar.indexCast, IntOp.muli, IntOp.addi, BitVec.toNat_add, BitVec.toNat_mul, BitVec.toNat_ofNat] <;> omega

theorem off2_eq (i : grid0.Coords) (r : Fin 16) :
    k0_off2 i (BitVec.ofNat 32 (256 * r.val)) = ![0, 4096 * (i 1).val + 256 * r.val] := by
  have h1 : (i 1).val < 4 := (i 1).isLt
  have := r.isLt
  unfold k0_off2
  funext z
  fin_cases z <;> simp [Scalar.muli, Scalar.addi, Scalar.indexCast, IntOp.muli, IntOp.addi, BitVec.toNat_add, BitVec.toNat_mul, BitVec.toNat_ofNat] <;> omega

theorem inb_w (r : Fin 16) (a : Fin 2) (b : Fin 4) : ∀ z, (![0, 256 * r.val + 128 * a.val, 128 * b.val] : Fin 3 → ℕ) z + S1x128x128.size z ≤ S1x4096x512.size z := by
  have := r.isLt
  have := a.isLt
  have := b.isLt
  intro z
  fin_cases z <;> simp <;> omega

/-- The slab of a grid point, read from the point's blocks. -/
def slabK (i : grid0.Coords) (h : Vec Ideal S128x16384 .bf16) (w : Vec Ideal S1x4096x512 .fp8e4m3) (s : Vec Ideal S3x128x32 .f32) (r : Fin 16) :
    FVec Ideal S128x512 .f32 :=
  slabB (View.ld h (Rect.unit (s := S128x16384) (k0_off2 i (BitVec.ofNat 32 (256 * r.val))) S128x256.size (k0_off2_inb i r)))
    (fun a b => View.ld w (Rect.unit (s := S1x4096x512) ![0, 256 * r.val + 128 * a.val, 128 * b.val] S1x128x128.size (inb_w r a b)))
    (fun a b => View.ld s (Rect.unit (s := S3x128x32) (k0_off1 i (BitVec.ofNat 32 (2 * r.val)) (BitVec.ofNat 32 a.val) (BitVec.ofNat 32 b.val)) S1x1x1.size (k0_off1_inb i r a b))
      (Shape.Idx.first (lt_of_lt_of_eq Nat.zero_lt_one numel1_S1x1x1.symm)))

/-- The row of the hidden activation that a point's lane reads. -/
theorem lane_h (i : grid0.Coords) (l : Fin 4096) : 4096 * (i 1).val + l.val < 16384 := by
  have h1 : (i 1).val < 4 := (i 1).isLt
  omega

theorem lane_s (i : grid0.Coords) (l : Fin 4096) : 32 * (i 1).val + l.val / 128 < 128 := by
  have h1 : (i 1).val < 4 := (i 1).isLt
  omega

theorem col_s (i : grid0.Coords) (n : Fin 512) : 4 * (i 0).val + n.val / 128 < 32 := by
  have h0 : (i 0).val < 8 := (i 0).isLt
  omega

/-- One product of a grid point: an entry of the activation times an entry of the weight with its scale. -/
def oneK (i : grid0.Coords) (h : Vec Ideal S128x16384 .bf16) (w : Vec Ideal S1x4096x512 .fp8e4m3) (s : Vec Ideal S3x128x32 .f32)
    (x : S128x512.Idx) (l : Fin 4096) : EReal :=
  h (ix2 (x 0) ⟨4096 * (i 1).val + l.val, lane_h i l⟩)
    * (w (ix3 0 l (x 1)) * s (ix3 0 ⟨32 * (i 1).val + l.val / 128, lane_s i l⟩ ⟨4 * (i 0).val + (x 1).val / 128, col_s i (x 1)⟩))

theorem slabK_apply (i : grid0.Coords) (h : Vec Ideal S128x16384 .bf16) (w : Vec Ideal S1x4096x512 .fp8e4m3) (s : Vec Ideal S3x128x32 .f32)
    (r : Fin 16) (x : S128x512.Idx) :
    slabK i h w s r x = ∑ k : Fin 256, oneK i h w s x ⟨r.val * 256 + k.val, by omega⟩ := by
  have hx : (x 1).val < 512 := (x 1).isLt
  unfold slabK
  rw [slabB_apply _ _ _ x ⟨(x 1).val / 128, by omega⟩ ⟨(x 1).val % 128, Nat.mod_lt _ (by decide)⟩ (Nat.div_add_mod _ 128).symm]
  refine Finset.sum_congr rfl fun k _ => ?_
  have hk := k.isLt
  have hr := r.isLt
  unfold oneK
  rw [View.ld_apply, View.ld_apply, View.ld_apply]
  refine congrArg₂ (· * ·) (congrArg h ?_) (congrArg₂ (· * ·) (congrArg w ?_) (congrArg s ?_))
  · funext z
    apply Fin.ext
    show k0_off2 i (BitVec.ofNat 32 (256 * r.val)) z + 1 * (ix2 (x 0) k z).val = _
    rw [off2_eq i r]
    match z with
    | ⟨0, _⟩ => show 0 + 1 * (x 0).val = (x 0).val; omega
    | ⟨1, _⟩ => show 4096 * (i 1).val + 256 * r.val + 1 * k.val = 4096 * (i 1).val + (r.val * 256 + k.val); omega
  · funext z
    apply Fin.ext
    match z with
    | ⟨0, _⟩ => rfl
    | ⟨1, _⟩ => show 256 * r.val + 128 * (k.val / 128) + 1 * (k.val % 128) = r.val * 256 + k.val; omega
    | ⟨2, _⟩ => show 128 * ((x 1).val / 128) + 1 * ((x 1).val % 128) = (x 1).val; omega
  · funext z
    apply Fin.ext
    have e := off1_eq i r ⟨k.val / 128, by omega⟩ ⟨(x 1).val / 128, by omega⟩
    have hf : ((Shape.Idx.first (lt_of_lt_of_eq Nat.zero_lt_one numel1_S1x1x1.symm) : S1x1x1.Idx) z).val < 1 := by
      have := ((Shape.Idx.first (lt_of_lt_of_eq Nat.zero_lt_one numel1_S1x1x1.symm) : S1x1x1.Idx) z).isLt
      fin_cases z <;> exact this
    show k0_off1 i (BitVec.ofNat 32 (2 * r.val)) (BitVec.ofNat 32 (k.val / 128)) (BitVec.ofNat 32 ((x 1).val / 128)) z
      + 1 * ((Shape.Idx.first (lt_of_lt_of_eq Nat.zero_lt_one numel1_S1x1x1.symm) : S1x1x1.Idx) z).val = _
    rw [e, Nat.lt_one_iff.mp hf]
    match z with
    | ⟨0, _⟩ => rfl
    | ⟨1, _⟩ => show 32 * (i 1).val + 2 * r.val + k.val / 128 + 1 * 0 = 32 * (i 1).val + (r.val * 256 + k.val) / 128; omega
    | ⟨2, _⟩ => show 4 * (i 0).val + (x 1).val / 128 + 1 * 0 = 4 * (i 0).val + (x 1).val / 128; omega

/-- The sixteen slabs of a grid point, added one after the other. -/
def accK (i : grid0.Coords) (h : Vec Ideal S128x16384 .bf16) (w : Vec Ideal S1x4096x512 .fp8e4m3) (s : Vec Ideal S3x128x32 .f32) :
    FVec Ideal S128x512 .f32 :=
  (addf (addf (addf (addf (addf (addf (addf (addf (addf (addf (addf (addf (addf (addf (addf (addf (k0_pay2 (F := Ideal)) (slabK i h w s 0)) (slabK i h w s 1)) (slabK i h w s 2)) (slabK i h w s 3)) (slabK i h w s 4)) (slabK i h w s 5)) (slabK i h w s 6)) (slabK i h w s 7)) (slabK i h w s 8)) (slabK i h w s 9)) (slabK i h w s 10)) (slabK i h w s 11)) (slabK i h w s 12)) (slabK i h w s 13)) (slabK i h w s 14)) (slabK i h w s 15))

theorem sum16 (f : Fin 16 → EReal) : f 0 + f 1 + f 2 + f 3 + f 4 + f 5 + f 6 + f 7 + f 8 + f 9 + f 10 + f 11 + f 12 + f 13 + f 14 + f 15 = ∑ r, f r := by
  simp only [Fin.sum_univ_castSucc, Finset.univ_eq_empty, Finset.sum_empty, zero_add]
  rfl

theorem pay2_apply (x : S128x512.Idx) : k0_pay2 (F := Ideal) x = 0 := by
  unfold k0_pay2
  pointwise

/-- What a point adds: the 4096 products of its lanes. -/
theorem accK_apply (i : grid0.Coords) (h : Vec Ideal S128x16384 .bf16) (w : Vec Ideal S1x4096x512 .fp8e4m3) (s : Vec Ideal S3x128x32 .f32)
    (x : S128x512.Idx) : accK i h w s x = ∑ l : Fin 4096, oneK i h w s x l := by
  have e : accK i h w s x = k0_pay2 (F := Ideal) x + slabK i h w s 0 x + slabK i h w s 1 x + slabK i h w s 2 x + slabK i h w s 3 x + slabK i h w s 4 x + slabK i h w s 5 x + slabK i h w s 6 x + slabK i h w s 7 x + slabK i h w s 8 x + slabK i h w s 9 x + slabK i h w s 10 x + slabK i h w s 11 x + slabK i h w s 12 x + slabK i h w s 13 x + slabK i h w s 14 x + slabK i h w s 15 x := rfl
  rw [e, pay2_apply, zero_add, sum16 (fun r => slabK i h w s r x)]
  refine (Finset.sum_congr rfl fun r _ => slabK_apply i h w s r x).trans ?_
  exact Fin.sum_mul_add_congr fun r k hl => rfl

variable (m : (ℓ : Loc nD τ sig) → Buf (Elt Ideal) ℓ)

theorem zero2 : (![0, 0] : Fin 2 → Nat) = fun _ => 0 := funext fun a => by fin_cases a <;> rfl

set_option maxHeartbeats 4000000 in
/-- A later point of a run adds its products to what the point before left. -/
theorem acc_later (c : Dev nD) (t : Fin cfg0.N) (h0 : ¬ t.val % 4 = 0) :
    outsAt0 m c t.val t.isLt
      = addf (outsAt0 m c (t.val - 1) (Nat.lt_of_le_of_lt (Nat.sub_le _ _) t.isLt) : FVec Ideal S128x512 .f32)
          (accK (grid0.coords t) (iblk m c 0 t) (iblk m c 2 t) (iblk m c 3 t)) := by
  rw [outsAt0_B m c t h0]
  generalize hP : outsAt0 m c (t.val - 1) _ = P
  clear hP
  frame_open
  simp (disch := decide) only [↓ View.readCov_skip, ↓ View.readCov_cons_toLoadRect, ↓ View.readCov_fill]
  frame_out
  refine Eq.trans (b := addf (shapeCast S128x512 P shapeCasts_S128x512_S128x512 : FVec Ideal S128x512 .f32)
    (accK (grid0.coords t) (iblk m c 0 t) (iblk m c 2 t) (iblk m c 3 t))) ?_ ?_
  · rfl
  · funext y
    pointwise

set_option maxHeartbeats 4000000 in
/-- The first point of a run adds its products to the block of the residual stream. -/
theorem acc_first (c : Dev nD) (t : Fin cfg0.N) (h0 : t.val % 4 = 0) :
    outsAt0 m c t.val t.isLt
      = addf (iblk m c 1 t : FVec Ideal S128x512 .f32) (accK (grid0.coords t) (iblk m c 0 t) (iblk m c 2 t) (iblk m c 3 t)) := by
  rw [outsAt0_A m c t h0]
  frame_open
  simp (disch := decide) only [↓ View.readCov_skip, ↓ View.readCov_cons_toLoadRect, ↓ View.readCov_fill]
  frame_out
  refine Eq.trans (b := addf (shapeCast S128x512 (iblk m c 1 t : Vec Ideal S128x512 .f32) shapeCasts_S128x512_S128x512 : FVec Ideal S128x512 .f32)
    (accK (grid0.coords t) (iblk m c 0 t) (iblk m c 2 t) (iblk m c 3 t))) ?_ ?_
  · rfl
  · funext y
    pointwise

end Cert.MlpDownIdeal.Hand
end
-- ==== Proof.MlpDownArray.lean ====
module
public import proofs.«01_k».proof.Proof.MlpDownBlock
public import Idealize.ShloMosaic.Lib.Claim

/-! The down product of the feed-forward block over the extended reals: the result array after the run. -/

@[expose] public section
set_option maxRecDepth 65536
noncomputable section
namespace Cert.MlpDownIdeal.Hand
open Cert.MlpDownIdeal Cert.MlpDownIdeal.Gen Idealize.ShloMosaic Idealize.ShloMosaic.TcCoe Idealize.SL.Sem
open Idealize.ShloMosaic.Pipeline (Dat)

variable (m : (ℓ : Loc nD τ sig) → Buf (Elt Ideal) ℓ)

/-- One product: an entry of the hidden activation times an entry of the layer's weight with the scale of its 128×128 block. -/
def oneArr (h : Vec Ideal S128x16384 .bf16) (w : Vec Ideal S3x16384x4096 .fp8e4m3) (s : Vec Ideal S3x128x32 .f32)
    (x : Fin 128) (y : Fin 4096) (g : Fin 16384) : EReal :=
  h (ix2 x g) * (w (ix3 0 g y) * s (ix3 0 ⟨g.val / 128, by omega⟩ ⟨y.val / 128, by omega⟩))

/-- The residual stream plus the hidden activation's product with the layer's weight, each weight entry with its block's scale. -/
def mlpArr (h : Vec Ideal S128x16384 .bf16) (l : Vec Ideal S128x4096 .f32) (w : Vec Ideal S3x16384x4096 .fp8e4m3)
    (s : Vec Ideal S3x128x32 .f32) : Vec Ideal S128x4096 .f32 :=
  fun y => l y + ∑ g : Fin 16384, oneArr h w s (y 0) (y 1) g

/-- The blocks' indices at a grid point. -/
theorem idx0 : ∀ t : Fin cfg0.N, win0_0.index t 0 = 0 ∧ win0_0.index t 1 = 0 := by decide +kernel
theorem idx1 : ∀ t : Fin cfg0.N, win0_1.index t 0 = 0 ∧ win0_1.index t 1 = t.val / 4 := by decide +kernel
theorem idx2 : ∀ t : Fin cfg0.N, win0_2.index t 0 = 0 ∧ win0_2.index t 1 = t.val % 4 ∧ win0_2.index t 2 = t.val / 4 := by decide +kernel
theorem idx3 : ∀ t : Fin cfg0.N, win0_3.index t 0 = 0 ∧ win0_3.index t 1 = 0 ∧ win0_3.index t 2 = 0 := by decide +kernel
theorem idx4 : ∀ t : Fin cfg0.N, win0_4.index t 0 = 0 ∧ win0_4.index t 1 = t.val / 4 := by decide +kernel

theorem point_lt (t : Fin cfg0.N) : t.val < 32 := lt_of_lt_of_eq t.isLt (show cfg0.N = 32 from N_0)

theorem co0 (t : Fin cfg0.N) : (grid0.coords t 0).val = t.val / 4 := by
  have ht := point_lt t
  have e : (grid0.coords t 0).val = t.val / 4 % 8 := Pipeline.Grid.coords_val t 0 (by decide) rfl
  omega

theorem co1 (t : Fin cfg0.N) : (grid0.coords t 1).val = t.val % 4 := by
  have e : (grid0.coords t 1).val = t.val / 1 % 4 := Pipeline.Grid.coords_val t 1 (by decide) rfl
  omega

theorem h_blk (c : Dev nD) (t : Fin cfg0.N) (y i : S128x16384.Idx) (h0 : (y 0).val = (i 0).val) (h1 : (y 1).val = (i 1).val) :
    (iblk m c 0 t : Vec Ideal S128x16384 .bf16) y = (m ((c : Thread nD τ).loc main_arg0) : Vec Ideal S128x16384 .bf16) i := by
  unfold iblk
  blk_simp
  rw [V_main_arg0]
  congr 1
  blk_ext [idx0 t]

theorem l_blk (c : Dev nD) (t : Fin cfg0.N) (y : S128x512.Idx) (i : S128x4096.Idx) (h0 : (i 0).val = (y 0).val)
    (h1 : (i 1).val = 512 * (t.val / 4) + (y 1).val) :
    (iblk m c 1 t : Vec Ideal S128x512 .f32) y = (m ((c : Thread nD τ).loc main_arg1) : Vec Ideal S128x4096 .f32) i := by
  unfold iblk
  blk_simp
  rw [V_main_arg1]
  congr 1
  blk_ext [idx1 t]

theorem w_blk (c : Dev nD) (t : Fin cfg0.N) (y : S1x4096x512.Idx) (i : S3x16384x4096.Idx) (h0 : (i 0).val = 0)
    (h1 : (i 1).val = 4096 * (t.val % 4) + (y 1).val) (h2 : (i 2).val = 512 * (t.val / 4) + (y 2).val) :
    (iblk m c 2 t : Vec Ideal S1x4096x512 .fp8e4m3) y = (m ((c : Thread nD τ).loc main_arg2) : Vec Ideal S3x16384x4096 .fp8e4m3) i := by
  unfold iblk
  blk_simp
  rw [V_main_arg2]
  congr 1
  blk_ext [idx2 t]

theorem s_blk (c : Dev nD) (t : Fin cfg0.N) (y : S3x128x32.Idx) :
    (iblk m c 3 t : Vec Ideal S3x128x32 .f32) y = (m ((c : Thread nD τ).loc main_arg3) : Vec Ideal S3x128x32 .f32) y := by
  unfold iblk
  blk_simp
  rw [V_main_arg3]
  congr 1
  blk_ext [idx3 t]

/-- A point's product is one product of the arrays. -/
theorem one_iblk (c : Dev nD) (t : Fin cfg0.N) (x : S128x512.Idx) (l : Fin 4096) (y : Fin 4096) (g : Fin 16384)
    (hy : y.val = 512 * (t.val / 4) + (x 1).val) (hg : g.val = 4096 * (t.val % 4) + l.val) :
    oneK (grid0.coords t) (iblk m c 0 t) (iblk m c 2 t) (iblk m c 3 t) x l
      = oneArr (m ((c : Thread nD τ).loc main_arg0)) (m ((c : Thread nD τ).loc main_arg2)) (m ((c : Thread nD τ).loc main_arg3)) (x 0) y g := by
  have c0 := co0 t
  have c1 := co1 t
  have hx : (x 1).val < 512 := (x 1).isLt
  unfold oneK oneArr
  refine congrArg₂ (· * ·) (h_blk m c t _ _ rfl ?_) (congrArg₂ (· * ·) (w_blk m c t _ _ rfl ?_ ?_) ?_)
  · show 4096 * (grid0.coords t 1).val + l.val = g.val
    omega
  · show g.val = 4096 * (t.val % 4) + l.val
    omega
  · show y.val = 512 * (t.val / 4) + (x 1).val
    omega
  · refine (s_blk m c t _).trans (congrArg _ ?_)
    refine congrArg₂ (ix3 0) (Fin.ext ?_) (Fin.ext ?_)
    · show 32 * (grid0.coords t 1).val + l.val / 128 = g.val / 128
      omega
    · show 4 * (grid0.coords t 0).val + (x 1).val / 128 = y.val / 128
      omega

/-- What a point adds, as a sum over its stretch of the contraction. -/
theorem acc_iblk (c : Dev nD) (t : Fin cfg0.N) (x : S128x512.Idx) (y : Fin 4096) (k : Fin 4)
    (hy : y.val = 512 * (t.val / 4) + (x 1).val) (hk : k.val = t.val % 4) :
    accK (grid0.coords t) (iblk m c 0 t) (iblk m c 2 t) (iblk m c 3 t) x
      = ∑ l : Fin 4096, oneArr (m ((c : Thread nD τ).loc main_arg0)) (m ((c : Thread nD τ).loc main_arg2)) (m ((c : Thread nD τ).loc main_arg3)) (x 0) y
          ⟨k.val * 4096 + l.val, by omega⟩ := by
  rw [accK_apply]
  exact Finset.sum_congr rfl fun l _ => one_iblk m c t x l y _ hy (by show k.val * 4096 + l.val = _; omega)

theorem step (c : Dev nD) (t t' : Fin cfg0.N) (h : t'.val + 1 = t.val) (h0 : ¬ t.val % 4 = 0) (x : S128x512.Idx) :
    (outsAt0 m c t.val t.isLt : FVec Ideal S128x512 .f32) x
      = (outsAt0 m c t'.val t'.isLt : FVec Ideal S128x512 .f32) x
        + accK (grid0.coords t) (iblk m c 0 t) (iblk m c 2 t) (iblk m c 3 t) x := by
  obtain ⟨n, hn⟩ := t'
  obtain ⟨k, hk⟩ := t
  dsimp only at h
  subst h
  exact congrFun (acc_later m c ⟨n + 1, hk⟩ h0) x

/-- The result array: the residual stream plus the whole product, its four stretches added one after the other. -/
theorem final_mlp (c : Dev nD) : (dats m 0 c).arrAt 4 cfg0.N
    = mlpArr (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf x => ?_
  have hr : t.val % 4 = 3 := (flush0_4 t).mp hf
  have ht := point_lt t
  have hN : cfg0.N = 32 := N_0
  have hx : (x (1 : Fin 2)).val < 512 := (x (1 : Fin 2)).isLt
  have e0 : ((((cfg0.win 4).blk t).view.emb x) (0 : Fin 2)).val = (x (0 : Fin 2)).val := by
    blk_simp [idx4 t]
  have e1 : ((((cfg0.win 4).blk t).view.emb x) (1 : Fin 2)).val = 512 * (t.val / 4) + (x (1 : Fin 2)).val := by
    blk_simp [idx4 t]
    omega
  generalize ((cfg0.win 4).blk t).view.emb x = y at e0 e1
  blk_simp
  rw [after0_4]
  have f3 := step m c t ⟨t.val - 1, by omega⟩ (by show t.val - 1 + 1 = t.val; omega) (by omega) x
  have f2 := step m c ⟨t.val - 1, by omega⟩ ⟨t.val - 2, by omega⟩ (by show t.val - 2 + 1 = t.val - 1; omega) (by show ¬ (t.val - 1) % 4 = 0; omega) x
  have f1 := step m c ⟨t.val - 2, by omega⟩ ⟨t.val - 3, by omega⟩ (by show t.val - 3 + 1 = t.val - 2; omega) (by show ¬ (t.val - 2) % 4 = 0; omega) x
  have f0 := congrFun (acc_first m c ⟨t.val - 3, by omega⟩ (by show (t.val - 3) % 4 = 0; omega)) x
  have g3 := acc_iblk m c t x (y (1 : Fin 2)) 3 e1 hr.symm
  have g2 := acc_iblk m c ⟨t.val - 1, by omega⟩ x (y (1 : Fin 2)) 2 (by rw [e1]; show _ = 512 * ((t.val - 1) / 4) + _; omega) (by show 2 = (t.val - 1) % 4; omega)
  have g1 := acc_iblk m c ⟨t.val - 2, by omega⟩ x (y (1 : Fin 2)) 1 (by rw [e1]; show _ = 512 * ((t.val - 2) / 4) + _; omega) (by show 1 = (t.val - 2) % 4; omega)
  have g0 := acc_iblk m c ⟨t.val - 3, by omega⟩ x (y (1 : Fin 2)) 0 (by rw [e1]; show _ = 512 * ((t.val - 3) / 4) + _; omega) (by show 0 = (t.val - 3) % 4; omega)
  have hl := l_blk m c ⟨t.val - 3, by omega⟩ x y e0 (by rw [e1]; show _ = 512 * ((t.val - 3) / 4) + _; omega)
  have hx0 : (y (0 : Fin 2) : Fin 128) = x (0 : Fin 2) := Fin.ext e0
  have hs : (∑ g : Fin 16384, oneArr (m ((c : Thread nD τ).loc main_arg0)) (m ((c : Thread nD τ).loc main_arg2)) (m ((c : Thread nD τ).loc main_arg3)) (x (0 : Fin 2)) (y (1 : Fin 2)) g)
      = ∑ s : Fin 4, ∑ k : Fin 4096, oneArr (m ((c : Thread nD τ).loc main_arg0)) (m ((c : Thread nD τ).loc main_arg2)) (m ((c : Thread nD τ).loc main_arg3)) (x (0 : Fin 2)) (y (1 : Fin 2)) ⟨s.val * 4096 + k.val, by omega⟩ :=
    (Fin.sum_mul_add_congr fun s k hl => rfl).symm
  refine f3.trans ?_
  rw [f2, f1, f0, g3, g2, g1]
  refine (congrArg (fun v : EReal => v + _ + _ + _) (congrArg₂ (fun v w : EReal => v + w) hl g0)).trans ?_
  unfold mlpArr
  rw [hx0, hs, Fin.sum_univ_four]
  simp only [add_assoc]

end Cert.MlpDownIdeal.Hand
end
-- ==== Proof.MlpDownClaim.lean ====
module
public import proofs.«01_k».proof.Defs
public import proofs.«01_k».proof.Proof.MlpDownArray
public import proofs.«01_k».proof.Proof.Gen.MlpDownReferenceIdeal.Value
public import Idealize.ShloMosaic.Lib.Claim
public import Idealize.ShloMosaic.Lib.Pipeline.ValueKit
public import Idealize.ShloMosaic.Lib.IdealHost

/-! The down product of the feed-forward block and its reference end with equal results over the extended reals. -/

@[expose] public section
set_option maxRecDepth 65536
noncomputable section
open Idealize.ShloMosaic Idealize.ShloMosaic.TcCoe Idealize.SL.Sem
namespace Cert.MlpDownReferenceIdeal.Hand
open Cert.MlpDownReferenceIdeal Cert.MlpDownReferenceIdeal.Gen
open Idealize.ShloMosaic.Pipeline (Dat)
variable (m : (ℓ : Loc nD τ sig) → Buf (Elt Ideal) ℓ)

/-- The layer's scales, one per 128×128 block, spread by the host over the whole weight. -/
def spread (s : Vec Ideal S3x128x32 .f32) : Vec Ideal S16384x4096 .f32 :=
  shapeCast S16384x4096 (broadcastInDim S128x128x32x128 ![0, 1, 2, 3] bcast_S128x1x32x1_S128x128x32x128_0_1_2_3
    (broadcastInDim S128x1x32x1 ![0, 2] bcast_S128x32_S128x1x32x1_0_2
      (shapeCast S128x32 (extractStridedSlice S1x128x32 ![0, 0, 0] s slices_S3x128x32_S1x128x32_0_0_0 : Vec Ideal S1x128x32 .f32) shapeCasts_S1x128x32_S128x32
        : Vec Ideal S128x32 .f32) : Vec Ideal S128x1x32x1 .f32) : Vec Ideal S128x128x32x128 .f32) shapeCasts_S128x128x32x128_S16384x4096

theorem V_s (c : Dev nD) : V m c main_v4 = spread (m ((c : Thread nD τ).loc main_arg3)) := by
  entry_read
  rfl

theorem row4 (s : Vec Ideal S128x128x32x128 .f32) (y : S16384x4096.Idx) :
    (shapeCast S16384x4096 s shapeCasts_S128x128x32x128_S16384x4096 : Vec Ideal S16384x4096 .f32) y
      = s (ix4 ⟨(y 0).val / 128, by have : (y 0).val < 16384 := (y 0).isLt; omega⟩ ⟨(y 0).val % 128, by omega⟩
          ⟨(y 1).val / 128, by have : (y 1).val < 4096 := (y 1).isLt; omega⟩ ⟨(y 1).val % 128, by omega⟩) := by
  pointwise

theorem spread_apply (s : Vec Ideal S3x128x32 .f32) (y : S16384x4096.Idx) :
    spread s y = s (ix3 0 ⟨(y 0).val / 128, by have : (y 0).val < 16384 := (y 0).isLt; omega⟩
      ⟨(y 1).val / 128, by have : (y 1).val < 4096 := (y 1).isLt; omega⟩) := by
  unfold spread
  rw [row4]
  pointwise

/-- Window 0's one block is its whole array. -/
theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S128x16384.Idx) : ((cfg0.win 0).blk t).view.emb j = j := by
  obtain ⟨e0, e1⟩ := idx_zero0 t
  funext a; apply Fin.ext
  match a with
  | ⟨0, _⟩ => show win0_0.index t (0 : Fin 2) * 128 + 1 * (j 0).val = (j 0).val; omega
  | ⟨1, _⟩ => show win0_0.index t (1 : Fin 2) * 16384 + 1 * (j 1).val = (j 1).val; omega

/-- Window 1's one block is its whole array. -/
theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S128x4096.Idx) : ((cfg0.win 1).blk t).view.emb j = j := by
  obtain ⟨e0, e1⟩ := idx_zero1 t
  funext a; apply Fin.ext
  match a with
  | ⟨0, _⟩ => show win0_1.index t (0 : Fin 2) * 128 + 1 * (j 0).val = (j 0).val; omega
  | ⟨1, _⟩ => show win0_1.index t (1 : Fin 2) * 4096 + 1 * (j 1).val = (j 1).val; omega

/-- Window 2's one block is its whole array. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)
theorem emb2 (t : Fin cfg0.N) (j : S3x16384x4096.Idx) : ((cfg0.win 2).blk t).view.emb j = j := by
  obtain ⟨e0, e1, e2⟩ := idx_zero2 t
  funext a; apply Fin.ext
  match a with
  | ⟨0, _⟩ => show win0_2.index t (0 : Fin 3) * 3 + 1 * (j 0).val = (j 0).val; omega
  | ⟨1, _⟩ => show win0_2.index t (1 : Fin 3) * 16384 + 1 * (j 1).val = (j 1).val; omega
  | ⟨2, _⟩ => show win0_2.index t (2 : Fin 3) * 4096 + 1 * (j 2).val = (j 2).val; omega

/-- Window 3's one block is its whole array. -/
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S16384x4096.Idx) : ((cfg0.win 3).blk t).view.emb j = j := by
  obtain ⟨e0, e1⟩ := idx_zero3 t
  funext a; apply Fin.ext
  match a with
  | ⟨0, _⟩ => show win0_3.index t (0 : Fin 2) * 16384 + 1 * (j 0).val = (j 0).val; omega
  | ⟨1, _⟩ => show win0_3.index t (1 : Fin 2) * 4096 + 1 * (j 1).val = (j 1).val; omega

/-- Window 4's one block is its whole array. -/
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S128x4096.Idx) : ((cfg0.win 4).blk t).view.emb j = j := by
  obtain ⟨e0, e1⟩ := idx_zero4 t
  funext a; apply Fin.ext
  match a with
  | ⟨0, _⟩ => show win0_4.index t (0 : Fin 2) * 128 + 1 * (j 0).val = (j 0).val; omega
  | ⟨1, _⟩ => show win0_4.index t (1 : Fin 2) * 4096 + 1 * (j 1).val = (j 1).val; omega

theorem h_blk (c : Dev nD) (t : Fin cfg0.N) : (iblk m c 0 t : Vec Ideal S128x16384 .bf16) = m ((c : Thread nD τ).loc main_arg0) := by
  funext y
  show (V m c main_arg0 : Vec Ideal S128x16384 .bf16) (((cfg0.win 0).blk t).view.emb y) = _
  rw [emb0, V_main_arg0]

theorem l_blk (c : Dev nD) (t : Fin cfg0.N) : (iblk m c 1 t : Vec Ideal S128x4096 .f32) = m ((c : Thread nD τ).loc main_arg1) := by
  funext y
  show (V m c main_arg1 : Vec Ideal S128x4096 .f32) (((cfg0.win 1).blk t).view.emb y) = _
  rw [emb1, V_main_arg1]

theorem w_blk (c : Dev nD) (t : Fin cfg0.N) : (iblk m c 2 t : Vec Ideal S3x16384x4096 .fp8e4m3) = m ((c : Thread nD τ).loc main_arg2) := by
  funext y
  show (V m c main_arg2 : Vec Ideal S3x16384x4096 .fp8e4m3) (((cfg0.win 2).blk t).view.emb y) = _
  rw [emb2, V_main_arg2]

theorem s_blk (c : Dev nD) (t : Fin cfg0.N) : (iblk m c 3 t : Vec Ideal S16384x4096 .f32) = spread (m ((c : Thread nD τ).loc main_arg3)) := by
  funext y
  show (V m c main_v4 : Vec Ideal S16384x4096 .f32) (((cfg0.win 3).blk t).view.emb y) = _
  rw [emb3, V_s]

theorem zero2 : (![0, 0] : Fin 2 → Nat) = fun _ => 0 := funext fun a => by fin_cases a <;> rfl

/-- The reference's product, entry by entry. -/
theorem prod_apply (h : Vec Ideal S128x16384 .bf16) (q : FVec Ideal S16384x4096 .bf16) (y : S128x4096.Idx) :
    matmul (φ₁ := .bf16) dot_S128x16384_S16384x4096_S128x4096_1_0_0_1_n_n none h q (constant S128x4096 .f32 0x00000000#32 : FVec Ideal S128x4096 .f32) y
      = ∑ g : Fin 16384, h (ix2 (y 0) g) * q (ix2 g (y 1)) := by
  pointwise

theorem deq_apply (w : Vec Ideal S1x16384x4096 .fp8e4m3) (s : Vec Ideal S16384x4096 .f32) (y : S16384x4096.Idx) :
    (mulf (extf .bf16 (shapeCast S16384x4096 w shapeCasts_S1x16384x4096_S16384x4096 : FVec Ideal S16384x4096 .fp8e4m3) bitsLt_fp8e4m3_bf16)
      (truncf .bf16 (shapeCast S16384x4096 s shapeCasts_S16384x4096_S16384x4096 : FVec Ideal S16384x4096 .f32) bitsLt_bf16_f32) : FVec Ideal S16384x4096 .bf16) y
      = w (ix3 0 (y 0) (y 1)) * s y := by
  pointwise

/-- What the reference stores. -/
theorem pay_eq (h : Vec Ideal S128x16384 .bf16) (l : Vec Ideal S128x4096 .f32) (w : Vec Ideal S3x16384x4096 .fp8e4m3) (s : Vec Ideal S3x128x32 .f32) :
    (k0_pay1 (View.ld w (Rect.unit (s := S3x16384x4096) ![0, 0, 0] S1x16384x4096.size inb_S3x16384x4096_S1x16384x4096_0_0_0)) (spread s) l h : Vec Ideal S128x4096 .f32)
      = Cert.MlpDownIdeal.Hand.mlpArr h l w s := by
  funext y
  unfold k0_pay1 Cert.MlpDownIdeal.Hand.mlpArr
  dsimp only
  refine congrArg (fun v : EReal => l y + v) ?_
  refine (prod_apply _ _ y).trans (Finset.sum_congr rfl fun g _ => ?_)
  unfold Cert.MlpDownIdeal.Hand.oneArr
  refine congrArg (fun v : EReal => h (ix2 (y 0) g) * v) ?_
  refine (deq_apply _ _ _).trans ?_
  rw [spread_apply, View.ld_apply]
  refine congrArg (fun v : EReal => v * _) (congrArg w ?_)
  funext a
  apply Fin.ext
  match a with
  | ⟨0, _⟩ => rfl
  | ⟨1, _⟩ => show 0 + 1 * g.val = g.val; omega
  | ⟨2, _⟩ => show 0 + 1 * (y 1).val = (y 1).val; omega

theorem out_y (c : Dev nD) (t : Fin cfg0.N) : ((dats m 0 c).after 4 t : Vec Ideal S128x4096 .f32)
    = Cert.MlpDownIdeal.Hand.mlpArr (m ((c : Thread nD τ).loc main_arg0)) (m ((c : Thread nD τ).loc main_arg1)) (m ((c : Thread nD τ).loc main_arg2)) (m ((c : Thread nD τ).loc main_arg3)) := by
  rw [after0_4]
  unfold out0_4
  rw [View.canon_unit_zero zero2, View.ld_unit_zero (S := S128x4096) zero2, View.ld_unit_zero (S := S16384x4096) zero2,
    View.ld_unit_zero (S := S128x16384) zero2, h_blk m c t, l_blk m c t, w_blk m c t, s_blk m c t]
  exact pay_eq _ _ _ _

/-- The reference's result array. -/
theorem final_y (c : Dev nD) : (dats m 0 c).arrAt 4 cfg0.N
    = (Cert.MlpDownIdeal.Hand.mlpArr (m ((c : Thread nD τ).loc main_arg0)) (m ((c : Thread nD τ).loc main_arg1)) (m ((c : Thread nD τ).loc main_arg2)) (m ((c : Thread nD τ).loc main_arg3)) : Vec Ideal S128x4096 .f32) := by
  refine (dats m 0 c).arrAt_eq_of_covers 4 _ (by decide +kernel) fun t hf y => ?_
  rw [emb4 t]
  exact congrFun (out_y m c t) y

end Cert.MlpDownReferenceIdeal.Hand

namespace Cert.Proof

/-- The kernel and the reference, run from memories that agree on the arguments, end with equal results. -/
theorem algebraic_mlp_down [Cert.MlpDownIdeal.Facts] [Cert.MlpDownReferenceIdeal.Facts] : Cert.algebraic_MlpDownIdeal_MlpDownReferenceIdeal := by
  pair_intro
  · run_from Cert.MlpDownIdeal.Value.run_blocks m g
  · refine Idealize.ShloMosaic.θ_run_mono (Cert.MlpDownReferenceIdeal.Value.run_blocks m' g') ?_
    intro r hr c
    obtain ⟨h0, h1, h2, h3⟩ := hagree c
    obtain ⟨ry, ra⟩ := hr c
    refine ⟨ry.trans ?_, ra⟩
    refine (Cert.MlpDownReferenceIdeal.Hand.final_y m' c).trans (Eq.trans ?_ (Cert.MlpDownIdeal.Hand.final_mlp m c).symm)
    rw [h0, h1, h2, h3]

end Cert.Proof
end
-- ==== Proof.MlpDown1Block.lean ====
module
public import proofs.«01_k».proof.Proof.Gen.MlpDown1Ideal.Value
public import Idealize.ShloMosaic.Lib.Pipeline.ValueKit
public import Idealize.ShloMosaic.Lib.Pipeline.ReadBack
public import Idealize.ShloMosaic.Lib.Pointwise

/-! The down product of the second feed-forward block over the extended reals: what one grid point adds to its output block. -/

@[expose] public section
set_option maxRecDepth 65536
noncomputable section
namespace Cert.MlpDown1Ideal.Hand
open Cert.MlpDown1Ideal Cert.MlpDown1Ideal.Gen Idealize.ShloMosaic Idealize.ShloMosaic.TcCoe Idealize.SL.Sem
open Idealize.ShloMosaic.Pipeline (Dat)

/-- A 128×128 block of the weight times its scale. -/
def deqB (w : Vec Ideal S1x128x128 .fp8e4m3) (s : Elt Ideal .f32) : FVec Ideal S128x128 .bf16 :=
  mulf (extf .bf16 (shapeCast S128x128 w shapeCasts_S1x128x128_S128x128 : FVec Ideal S128x128 .fp8e4m3) bitsLt_fp8e4m3_bf16)
    (truncf .bf16 (broadcast S128x128 s : FVec Ideal S128x128 .f32) bitsLt_bf16_f32)

/-- Four blocks side by side. -/
def rowB (f : Fin 4 → FVec Ideal S128x128 .bf16) : FVec Ideal S128x512 .bf16 :=
  concatenate S128x512 1 [⟨S128x128, f 0⟩, ⟨S128x128, f 1⟩, ⟨S128x128, f 2⟩, ⟨S128x128, f 3⟩] concatenates_S128x128_S128x128_S128x128_S128x128_S128x512_d1

/-- Two rows of blocks, one above the other. -/
def tileB (f : Fin 2 → FVec Ideal S128x512 .bf16) : FVec Ideal S256x512 .bf16 :=
  concatenate S256x512 0 [⟨S128x512, f 0⟩, ⟨S128x512, f 1⟩] concatenates_S128x512_S128x512_S256x512_d0

/-- The product of 256 columns of the activation with the tile of the weight that stands on those rows. -/
def slabB (p : Vec Ideal S128x256 .bf16) (w : Fin 2 → Fin 4 → Vec Ideal S1x128x128 .fp8e4m3) (s : Fin 2 → Fin 4 → Elt Ideal .f32) :
    FVec Ideal S128x512 .f32 :=
  matmul (φ₁ := .bf16) dot_S128x256_S256x512_S128x512_1_0_0_1_n_n none p (tileB fun a => rowB fun b => deqB (w a b) (s a b))
    (constant S128x512 .f32 0x00000000#32 : FVec Ideal S128x512 .f32)

theorem deqB_apply (w : Vec Ideal S1x128x128 .fp8e4m3) (s : Elt Ideal .f32) (x : S128x128.Idx) :
    deqB w s x = w (ix3 0 (x 0) (x 1)) * s := by
  unfold deqB
  pointwise

theorem rowB_apply (f : Fin 4 → FVec Ideal S128x128 .bf16) (x : S128x512.Idx) (b : Fin 4) (n : Fin 128)
    (h : (x 1).val = 128 * b.val + n.val) : rowB f x = f b (ix2 (x 0) n) := by
  have hn := n.isLt
  have hx : n = ⟨(x 1).val % 128, Nat.mod_lt _ (by decide)⟩ := Fin.ext (by show n.val = (x 1).val % 128; omega)
  unfold rowB
  pointwise
  fin_cases b <;> simp only [Fin.mk_zero, Fin.mk_one, Fin.reduceFinMk] at h ⊢ <;> subst hx <;> split_ifs <;>
    first
    | (exfalso; simp at h; omega)
    | (congr 2; apply Fin.ext; dsimp only; simp at h; omega)

theorem tileB_apply (f : Fin 2 → FVec Ideal S128x512 .bf16) (x : S256x512.Idx) (a : Fin 2) (n : Fin 128)
    (h : (x 0).val = 128 * a.val + n.val) : tileB f x = f a (ix2 n (x 1)) := by
  have hn := n.isLt
  unfold tileB
  pointwise
  fin_cases a <;> simp only [Fin.mk_zero, Fin.mk_one, Fin.reduceFinMk] at h ⊢ <;> split_ifs <;>
    first
    | (exfalso; simp at h; omega)
    | (congr 2; apply Fin.ext; dsimp only; simp at h; omega)

theorem dot_apply (p : Vec Ideal S128x256 .bf16) (q : FVec Ideal S256x512 .bf16) (x : S128x512.Idx) :
    matmul (φ₁ := .bf16) dot_S128x256_S256x512_S128x512_1_0_0_1_n_n none p q (constant S128x512 .f32 0x00000000#32 : FVec Ideal S128x512 .f32) x
      = ∑ k : Fin 256, p (ix2 (x 0) k) * q (ix2 k (x 1)) := by
  pointwise

/-- The slab at an index: a sum over its 256 rows. -/
theorem slabB_apply (p : Vec Ideal S128x256 .bf16) (w : Fin 2 → Fin 4 → Vec Ideal S1x128x128 .fp8e4m3)
    (s : Fin 2 → Fin 4 → Elt Ideal .f32) (x : S128x512.Idx) (b : Fin 4) (n : Fin 128) (h : (x 1).val = 128 * b.val + n.val) :
    slabB p w s x = ∑ k : Fin 256, p (ix2 (x 0) k)
      * (w ⟨k.val / 128, by omega⟩ b (ix3 0 ⟨k.val % 128, Nat.mod_lt _ (by decide)⟩ n) * s ⟨k.val / 128, by omega⟩ b) := by
  unfold slabB
  rw [dot_apply]
  refine Finset.sum_congr rfl fun k _ => congrArg (p (ix2 (x 0) k) * ·) ?_
  refine (tileB_apply _ _ ⟨k.val / 128, by omega⟩ ⟨k.val % 128, Nat.mod_lt _ (by decide)⟩ (Nat.div_add_mod k.val 128).symm).trans ?_
  exact (rowB_apply (fun b => deqB (w ⟨k.val / 128, by omega⟩ b) (s ⟨k.val / 128, by omega⟩ b))
    (ix2 ⟨k.val % 128, Nat.mod_lt _ (by decide)⟩ (x 1)) b n h).trans (deqB_apply _ _ _)

theorem off1_eq (i : grid0.Coords) (r : Fin 16) (a : Fin 2) (b : Fin 4) :
    k0_off1 i (BitVec.ofNat 32 (2 * r.val)) (BitVec.ofNat 32 a.val) (BitVec.ofNat 32 b.val)
      = ![1, 32 * (i 1).val + 2 * r.val + a.val, 4 * (i 0).val + b.val] := by
  have h0 : (i 0).val < 8 := (i 0).isLt
  have h1 : (i 1).val < 4 := (i 1).isLt
  have := r.isLt
  have := a.isLt
  have := b.isLt
  unfold k0_off1
  funext z
  fin_cases z <;> simp [Scalar.muli, Scalar.addi, Scalar.indexCast, IntOp.muli, IntOp.addi, BitVec.toNat_add, BitVec.toNat_mul, BitVec.toNat_ofNat] <;> omega

theorem off2_eq (i : grid0.Coords) (r : Fin 16) :
    k0_off2 i (BitVec.ofNat 32 (256 * r.val)) = ![0, 4096 * (i 1).val + 256 * r.val] := by
  have h1 : (i 1).val < 4 := (i 1).isLt
  have := r.isLt
  unfold k0_off2
  funext z
  fin_cases z <;> simp [Scalar.muli, Scalar.addi, Scalar.indexCast, IntOp.muli, IntOp.addi, BitVec.toNat_add, BitVec.toNat_mul, BitVec.toNat_ofNat] <;> omega

theorem inb_w (r : Fin 16) (a : Fin 2) (b : Fin 4) : ∀ z, (![0, 256 * r.val + 128 * a.val, 128 * b.val] : Fin 3 → ℕ) z + S1x128x128.size z ≤ S1x4096x512.size z := by
  have := r.isLt
  have := a.isLt
  have := b.isLt
  intro z
  fin_cases z <;> simp <;> omega

/-- The slab of a grid point, read from the point's blocks. -/
def slabK (i : grid0.Coords) (h : Vec Ideal S128x16384 .bf16) (w : Vec Ideal S1x4096x512 .fp8e4m3) (s : Vec Ideal S3x128x32 .f32) (r : Fin 16) :
    FVec Ideal S128x512 .f32 :=
  slabB (View.ld h (Rect.unit (s := S128x16384) (k0_off2 i (BitVec.ofNat 32 (256 * r.val))) S128x256.size (k0_off2_inb i r)))
    (fun a b => View.ld w (Rect.unit (s := S1x4096x512) ![0, 256 * r.val + 128 * a.val, 128 * b.val] S1x128x128.size (inb_w r a b)))
    (fun a b => View.ld s (Rect.unit (s := S3x128x32) (k0_off1 i (BitVec.ofNat 32 (2 * r.val)) (BitVec.ofNat 32 a.val) (BitVec.ofNat 32 b.val)) S1x1x1.size (k0_off1_inb i r a b))
      (Shape.Idx.first (lt_of_lt_of_eq Nat.zero_lt_one numel1_S1x1x1.symm)))

/-- The row of the hidden activation that a point's lane reads. -/
theorem lane_h (i : grid0.Coords) (l : Fin 4096) : 4096 * (i 1).val + l.val < 16384 := by
  have h1 : (i 1).val < 4 := (i 1).isLt
  omega

theorem lane_s (i : grid0.Coords) (l : Fin 4096) : 32 * (i 1).val + l.val / 128 < 128 := by
  have h1 : (i 1).val < 4 := (i 1).isLt
  omega

theorem col_s (i : grid0.Coords) (n : Fin 512) : 4 * (i 0).val + n.val / 128 < 32 := by
  have h0 : (i 0).val < 8 := (i 0).isLt
  omega

/-- One product of a grid point: an entry of the activation times an entry of the weight with its scale. -/
def oneK (i : grid0.Coords) (h : Vec Ideal S128x16384 .bf16) (w : Vec Ideal S1x4096x512 .fp8e4m3) (s : Vec Ideal S3x128x32 .f32)
    (x : S128x512.Idx) (l : Fin 4096) : EReal :=
  h (ix2 (x 0) ⟨4096 * (i 1).val + l.val, lane_h i l⟩)
    * (w (ix3 0 l (x 1)) * s (ix3 1 ⟨32 * (i 1).val + l.val / 128, lane_s i l⟩ ⟨4 * (i 0).val + (x 1).val / 128, col_s i (x 1)⟩))

theorem slabK_apply (i : grid0.Coords) (h : Vec Ideal S128x16384 .bf16) (w : Vec Ideal S1x4096x512 .fp8e4m3) (s : Vec Ideal S3x128x32 .f32)
    (r : Fin 16) (x : S128x512.Idx) :
    slabK i h w s r x = ∑ k : Fin 256, oneK i h w s x ⟨r.val * 256 + k.val, by omega⟩ := by
  have hx : (x 1).val < 512 := (x 1).isLt
  unfold slabK
  rw [slabB_apply _ _ _ x ⟨(x 1).val / 128, by omega⟩ ⟨(x 1).val % 128, Nat.mod_lt _ (by decide)⟩ (Nat.div_add_mod _ 128).symm]
  refine Finset.sum_congr rfl fun k _ => ?_
  have hk := k.isLt
  have hr := r.isLt
  unfold oneK
  rw [View.ld_apply, View.ld_apply, View.ld_apply]
  refine congrArg₂ (· * ·) (congrArg h ?_) (congrArg₂ (· * ·) (congrArg w ?_) (congrArg s ?_))
  · funext z
    apply Fin.ext
    show k0_off2 i (BitVec.ofNat 32 (256 * r.val)) z + 1 * (ix2 (x 0) k z).val = _
    rw [off2_eq i r]
    match z with
    | ⟨0, _⟩ => show 0 + 1 * (x 0).val = (x 0).val; omega
    | ⟨1, _⟩ => show 4096 * (i 1).val + 256 * r.val + 1 * k.val = 4096 * (i 1).val + (r.val * 256 + k.val); omega
  · funext z
    apply Fin.ext
    match z with
    | ⟨0, _⟩ => rfl
    | ⟨1, _⟩ => show 256 * r.val + 128 * (k.val / 128) + 1 * (k.val % 128) = r.val * 256 + k.val; omega
    | ⟨2, _⟩ => show 128 * ((x 1).val / 128) + 1 * ((x 1).val % 128) = (x 1).val; omega
  · funext z
    apply Fin.ext
    have e := off1_eq i r ⟨k.val / 128, by omega⟩ ⟨(x 1).val / 128, by omega⟩
    have hf : ((Shape.Idx.first (lt_of_lt_of_eq Nat.zero_lt_one numel1_S1x1x1.symm) : S1x1x1.Idx) z).val < 1 := by
      have := ((Shape.Idx.first (lt_of_lt_of_eq Nat.zero_lt_one numel1_S1x1x1.symm) : S1x1x1.Idx) z).isLt
      fin_cases z <;> exact this
    show k0_off1 i (BitVec.ofNat 32 (2 * r.val)) (BitVec.ofNat 32 (k.val / 128)) (BitVec.ofNat 32 ((x 1).val / 128)) z
      + 1 * ((Shape.Idx.first (lt_of_lt_of_eq Nat.zero_lt_one numel1_S1x1x1.symm) : S1x1x1.Idx) z).val = _
    rw [e, Nat.lt_one_iff.mp hf]
    match z with
    | ⟨0, _⟩ => rfl
    | ⟨1, _⟩ => show 32 * (i 1).val + 2 * r.val + k.val / 128 + 1 * 0 = 32 * (i 1).val + (r.val * 256 + k.val) / 128; omega
    | ⟨2, _⟩ => show 4 * (i 0).val + (x 1).val / 128 + 1 * 0 = 4 * (i 0).val + (x 1).val / 128; omega

/-- The sixteen slabs of a grid point, added one after the other. -/
def accK (i : grid0.Coords) (h : Vec Ideal S128x16384 .bf16) (w : Vec Ideal S1x4096x512 .fp8e4m3) (s : Vec Ideal S3x128x32 .f32) :
    FVec Ideal S128x512 .f32 :=
  (addf (addf (addf (addf (addf (addf (addf (addf (addf (addf (addf (addf (addf (addf (addf (addf (k0_pay2 (F := Ideal)) (slabK i h w s 0)) (slabK i h w s 1)) (slabK i h w s 2)) (slabK i h w s 3)) (slabK i h w s 4)) (slabK i h w s 5)) (slabK i h w s 6)) (slabK i h w s 7)) (slabK i h w s 8)) (slabK i h w s 9)) (slabK i h w s 10)) (slabK i h w s 11)) (slabK i h w s 12)) (slabK i h w s 13)) (slabK i h w s 14)) (slabK i h w s 15))

theorem sum16 (f : Fin 16 → EReal) : f 0 + f 1 + f 2 + f 3 + f 4 + f 5 + f 6 + f 7 + f 8 + f 9 + f 10 + f 11 + f 12 + f 13 + f 14 + f 15 = ∑ r, f r := by
  simp only [Fin.sum_univ_castSucc, Finset.univ_eq_empty, Finset.sum_empty, zero_add]
  rfl

theorem pay2_apply (x : S128x512.Idx) : k0_pay2 (F := Ideal) x = 0 := by
  unfold k0_pay2
  pointwise

/-- What a point adds: the 4096 products of its lanes. -/
theorem accK_apply (i : grid0.Coords) (h : Vec Ideal S128x16384 .bf16) (w : Vec Ideal S1x4096x512 .fp8e4m3) (s : Vec Ideal S3x128x32 .f32)
    (x : S128x512.Idx) : accK i h w s x = ∑ l : Fin 4096, oneK i h w s x l := by
  have e : accK i h w s x = k0_pay2 (F := Ideal) x + slabK i h w s 0 x + slabK i h w s 1 x + slabK i h w s 2 x + slabK i h w s 3 x + slabK i h w s 4 x + slabK i h w s 5 x + slabK i h w s 6 x + slabK i h w s 7 x + slabK i h w s 8 x + slabK i h w s 9 x + slabK i h w s 10 x + slabK i h w s 11 x + slabK i h w s 12 x + slabK i h w s 13 x + slabK i h w s 14 x + slabK i h w s 15 x := rfl
  rw [e, pay2_apply, zero_add, sum16 (fun r => slabK i h w s r x)]
  refine (Finset.sum_congr rfl fun r _ => slabK_apply i h w s r x).trans ?_
  exact Fin.sum_mul_add_congr fun r k hl => rfl

variable (m : (ℓ : Loc nD τ sig) → Buf (Elt Ideal) ℓ)

theorem zero2 : (![0, 0] : Fin 2 → Nat) = fun _ => 0 := funext fun a => by fin_cases a <;> rfl

set_option maxHeartbeats 4000000 in
/-- A later point of a run adds its products to what the point before left. -/
theorem acc_later (c : Dev nD) (t : Fin cfg0.N) (h0 : ¬ t.val % 4 = 0) :
    outsAt0 m c t.val t.isLt
      = addf (outsAt0 m c (t.val - 1) (Nat.lt_of_le_of_lt (Nat.sub_le _ _) t.isLt) : FVec Ideal S128x512 .f32)
          (accK (grid0.coords t) (iblk m c 0 t) (iblk m c 2 t) (iblk m c 3 t)) := by
  rw [outsAt0_B m c t h0]
  generalize hP : outsAt0 m c (t.val - 1) _ = P
  clear hP
  frame_open
  simp (disch := decide) only [↓ View.readCov_skip, ↓ View.readCov_cons_toLoadRect, ↓ View.readCov_fill]
  frame_out
  refine Eq.trans (b := addf (shapeCast S128x512 P shapeCasts_S128x512_S128x512 : FVec Ideal S128x512 .f32)
    (accK (grid0.coords t) (iblk m c 0 t) (iblk m c 2 t) (iblk m c 3 t))) ?_ ?_
  · rfl
  · funext y
    pointwise

set_option maxHeartbeats 4000000 in
/-- The first point of a run adds its products to the block of the residual stream. -/
theorem acc_first (c : Dev nD) (t : Fin cfg0.N) (h0 : t.val % 4 = 0) :
    outsAt0 m c t.val t.isLt
      = addf (iblk m c 1 t : FVec Ideal S128x512 .f32) (accK (grid0.coords t) (iblk m c 0 t) (iblk m c 2 t) (iblk m c 3 t)) := by
  rw [outsAt0_A m c t h0]
  frame_open
  simp (disch := decide) only [↓ View.readCov_skip, ↓ View.readCov_cons_toLoadRect, ↓ View.readCov_fill]
  frame_out
  refine Eq.trans (b := addf (shapeCast S128x512 (iblk m c 1 t : Vec Ideal S128x512 .f32) shapeCasts_S128x512_S128x512 : FVec Ideal S128x512 .f32)
    (accK (grid0.coords t) (iblk m c 0 t) (iblk m c 2 t) (iblk m c 3 t))) ?_ ?_
  · rfl
  · funext y
    pointwise

end Cert.MlpDown1Ideal.Hand
end
-- ==== Proof.MlpDown1Array.lean ====
module
public import proofs.«01_k».proof.Proof.MlpDown1Block
public import Idealize.ShloMosaic.Lib.Claim

/-! The down product of the second feed-forward block over the extended reals: the result array after the run. -/

@[expose] public section
set_option maxRecDepth 65536
noncomputable section
namespace Cert.MlpDown1Ideal.Hand
open Cert.MlpDown1Ideal Cert.MlpDown1Ideal.Gen Idealize.ShloMosaic Idealize.ShloMosaic.TcCoe Idealize.SL.Sem
open Idealize.ShloMosaic.Pipeline (Dat)

variable (m : (ℓ : Loc nD τ sig) → Buf (Elt Ideal) ℓ)

/-- One product: an entry of the hidden activation times an entry of the layer's weight with the scale of its 128×128 block. -/
def oneArr (h : Vec Ideal S128x16384 .bf16) (w : Vec Ideal S3x16384x4096 .fp8e4m3) (s : Vec Ideal S3x128x32 .f32)
    (x : Fin 128) (y : Fin 4096) (g : Fin 16384) : EReal :=
  h (ix2 x g) * (w (ix3 1 g y) * s (ix3 1 ⟨g.val / 128, by omega⟩ ⟨y.val / 128, by omega⟩))

/-- The residual stream plus the hidden activation's product with the layer's weight, each weight entry with its block's scale. -/
def mlpArr (h : Vec Ideal S128x16384 .bf16) (l : Vec Ideal S128x4096 .f32) (w : Vec Ideal S3x16384x4096 .fp8e4m3)
    (s : Vec Ideal S3x128x32 .f32) : Vec Ideal S128x4096 .f32 :=
  fun y => l y + ∑ g : Fin 16384, oneArr h w s (y 0) (y 1) g

/-- The blocks' indices at a grid point. -/
theorem idx0 : ∀ t : Fin cfg0.N, win0_0.index t 0 = 0 ∧ win0_0.index t 1 = 0 := by decide +kernel
theorem idx1 : ∀ t : Fin cfg0.N, win0_1.index t 0 = 0 ∧ win0_1.index t 1 = t.val / 4 := by decide +kernel
theorem idx2 : ∀ t : Fin cfg0.N, win0_2.index t 0 = 1 ∧ win0_2.index t 1 = t.val % 4 ∧ win0_2.index t 2 = t.val / 4 := by decide +kernel
theorem idx3 : ∀ t : Fin cfg0.N, win0_3.index t 0 = 0 ∧ win0_3.index t 1 = 0 ∧ win0_3.index t 2 = 0 := by decide +kernel
theorem idx4 : ∀ t : Fin cfg0.N, win0_4.index t 0 = 0 ∧ win0_4.index t 1 = t.val / 4 := by decide +kernel

theorem point_lt (t : Fin cfg0.N) : t.val < 32 := lt_of_lt_of_eq t.isLt (show cfg0.N = 32 from N_0)

theorem co0 (t : Fin cfg0.N) : (grid0.coords t 0).val = t.val / 4 := by
  have ht := point_lt t
  have e : (grid0.coords t 0).val = t.val / 4 % 8 := Pipeline.Grid.coords_val t 0 (by decide) rfl
  omega

theorem co1 (t : Fin cfg0.N) : (grid0.coords t 1).val = t.val % 4 := by
  have e : (grid0.coords t 1).val = t.val / 1 % 4 := Pipeline.Grid.coords_val t 1 (by decide) rfl
  omega

theorem h_blk (c : Dev nD) (t : Fin cfg0.N) (y i : S128x16384.Idx) (h0 : (y 0).val = (i 0).val) (h1 : (y 1).val = (i 1).val) :
    (iblk m c 0 t : Vec Ideal S128x16384 .bf16) y = (m ((c : Thread nD τ).loc main_arg0) : Vec Ideal S128x16384 .bf16) i := by
  unfold iblk
  blk_simp
  rw [V_main_arg0]
  congr 1
  blk_ext [idx0 t]

theorem l_blk (c : Dev nD) (t : Fin cfg0.N) (y : S128x512.Idx) (i : S128x4096.Idx) (h0 : (i 0).val = (y 0).val)
    (h1 : (i 1).val = 512 * (t.val / 4) + (y 1).val) :
    (iblk m c 1 t : Vec Ideal S128x512 .f32) y = (m ((c : Thread nD τ).loc main_arg1) : Vec Ideal S128x4096 .f32) i := by
  unfold iblk
  blk_simp
  rw [V_main_arg1]
  congr 1
  blk_ext [idx1 t]

theorem w_blk (c : Dev nD) (t : Fin cfg0.N) (y : S1x4096x512.Idx) (i : S3x16384x4096.Idx) (h0 : (i 0).val = 1)
    (h1 : (i 1).val = 4096 * (t.val % 4) + (y 1).val) (h2 : (i 2).val = 512 * (t.val / 4) + (y 2).val) :
    (iblk m c 2 t : Vec Ideal S1x4096x512 .fp8e4m3) y = (m ((c : Thread nD τ).loc main_arg2) : Vec Ideal S3x16384x4096 .fp8e4m3) i := by
  unfold iblk
  blk_simp
  rw [V_main_arg2]
  congr 1
  blk_ext [idx2 t]

theorem s_blk (c : Dev nD) (t : Fin cfg0.N) (y : S3x128x32.Idx) :
    (iblk m c 3 t : Vec Ideal S3x128x32 .f32) y = (m ((c : Thread nD τ).loc main_arg3) : Vec Ideal S3x128x32 .f32) y := by
  unfold iblk
  blk_simp
  rw [V_main_arg3]
  congr 1
  blk_ext [idx3 t]

/-- A point's product is one product of the arrays. -/
theorem one_iblk (c : Dev nD) (t : Fin cfg0.N) (x : S128x512.Idx) (l : Fin 4096) (y : Fin 4096) (g : Fin 16384)
    (hy : y.val = 512 * (t.val / 4) + (x 1).val) (hg : g.val = 4096 * (t.val % 4) + l.val) :
    oneK (grid0.coords t) (iblk m c 0 t) (iblk m c 2 t) (iblk m c 3 t) x l
      = oneArr (m ((c : Thread nD τ).loc main_arg0)) (m ((c : Thread nD τ).loc main_arg2)) (m ((c : Thread nD τ).loc main_arg3)) (x 0) y g := by
  have c0 := co0 t
  have c1 := co1 t
  have hx : (x 1).val < 512 := (x 1).isLt
  unfold oneK oneArr
  refine congrArg₂ (· * ·) (h_blk m c t _ _ rfl ?_) (congrArg₂ (· * ·) (w_blk m c t _ _ rfl ?_ ?_) ?_)
  · show 4096 * (grid0.coords t 1).val + l.val = g.val
    omega
  · show g.val = 4096 * (t.val % 4) + l.val
    omega
  · show y.val = 512 * (t.val / 4) + (x 1).val
    omega
  · refine (s_blk m c t _).trans (congrArg _ ?_)
    refine congrArg₂ (ix3 1) (Fin.ext ?_) (Fin.ext ?_)
    · show 32 * (grid0.coords t 1).val + l.val / 128 = g.val / 128
      omega
    · show 4 * (grid0.coords t 0).val + (x 1).val / 128 = y.val / 128
      omega

/-- What a point adds, as a sum over its stretch of the contraction. -/
theorem acc_iblk (c : Dev nD) (t : Fin cfg0.N) (x : S128x512.Idx) (y : Fin 4096) (k : Fin 4)
    (hy : y.val = 512 * (t.val / 4) + (x 1).val) (hk : k.val = t.val % 4) :
    accK (grid0.coords t) (iblk m c 0 t) (iblk m c 2 t) (iblk m c 3 t) x
      = ∑ l : Fin 4096, oneArr (m ((c : Thread nD τ).loc main_arg0)) (m ((c : Thread nD τ).loc main_arg2)) (m ((c : Thread nD τ).loc main_arg3)) (x 0) y
          ⟨k.val * 4096 + l.val, by omega⟩ := by
  rw [accK_apply]
  exact Finset.sum_congr rfl fun l _ => one_iblk m c t x l y _ hy (by show k.val * 4096 + l.val = _; omega)

theorem step (c : Dev nD) (t t' : Fin cfg0.N) (h : t'.val + 1 = t.val) (h0 : ¬ t.val % 4 = 0) (x : S128x512.Idx) :
    (outsAt0 m c t.val t.isLt : FVec Ideal S128x512 .f32) x
      = (outsAt0 m c t'.val t'.isLt : FVec Ideal S128x512 .f32) x
        + accK (grid0.coords t) (iblk m c 0 t) (iblk m c 2 t) (iblk m c 3 t) x := by
  obtain ⟨n, hn⟩ := t'
  obtain ⟨k, hk⟩ := t
  dsimp only at h
  subst h
  exact congrFun (acc_later m c ⟨n + 1, hk⟩ h0) x

/-- The result array: the residual stream plus the whole product, its four stretches added one after the other. -/
theorem final_mlp (c : Dev nD) : (dats m 0 c).arrAt 4 cfg0.N
    = mlpArr (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf x => ?_
  have hr : t.val % 4 = 3 := (flush0_4 t).mp hf
  have ht := point_lt t
  have hN : cfg0.N = 32 := N_0
  have hx : (x (1 : Fin 2)).val < 512 := (x (1 : Fin 2)).isLt
  have e0 : ((((cfg0.win 4).blk t).view.emb x) (0 : Fin 2)).val = (x (0 : Fin 2)).val := by
    blk_simp [idx4 t]
  have e1 : ((((cfg0.win 4).blk t).view.emb x) (1 : Fin 2)).val = 512 * (t.val / 4) + (x (1 : Fin 2)).val := by
    blk_simp [idx4 t]
    omega
  generalize ((cfg0.win 4).blk t).view.emb x = y at e0 e1
  blk_simp
  rw [after0_4]
  have f3 := step m c t ⟨t.val - 1, by omega⟩ (by show t.val - 1 + 1 = t.val; omega) (by omega) x
  have f2 := step m c ⟨t.val - 1, by omega⟩ ⟨t.val - 2, by omega⟩ (by show t.val - 2 + 1 = t.val - 1; omega) (by show ¬ (t.val - 1) % 4 = 0; omega) x
  have f1 := step m c ⟨t.val - 2, by omega⟩ ⟨t.val - 3, by omega⟩ (by show t.val - 3 + 1 = t.val - 2; omega) (by show ¬ (t.val - 2) % 4 = 0; omega) x
  have f0 := congrFun (acc_first m c ⟨t.val - 3, by omega⟩ (by show (t.val - 3) % 4 = 0; omega)) x
  have g3 := acc_iblk m c t x (y (1 : Fin 2)) 3 e1 hr.symm
  have g2 := acc_iblk m c ⟨t.val - 1, by omega⟩ x (y (1 : Fin 2)) 2 (by rw [e1]; show _ = 512 * ((t.val - 1) / 4) + _; omega) (by show 2 = (t.val - 1) % 4; omega)
  have g1 := acc_iblk m c ⟨t.val - 2, by omega⟩ x (y (1 : Fin 2)) 1 (by rw [e1]; show _ = 512 * ((t.val - 2) / 4) + _; omega) (by show 1 = (t.val - 2) % 4; omega)
  have g0 := acc_iblk m c ⟨t.val - 3, by omega⟩ x (y (1 : Fin 2)) 0 (by rw [e1]; show _ = 512 * ((t.val - 3) / 4) + _; omega) (by show 0 = (t.val - 3) % 4; omega)
  have hl := l_blk m c ⟨t.val - 3, by omega⟩ x y e0 (by rw [e1]; show _ = 512 * ((t.val - 3) / 4) + _; omega)
  have hx0 : (y (0 : Fin 2) : Fin 128) = x (0 : Fin 2) := Fin.ext e0
  have hs : (∑ g : Fin 16384, oneArr (m ((c : Thread nD τ).loc main_arg0)) (m ((c : Thread nD τ).loc main_arg2)) (m ((c : Thread nD τ).loc main_arg3)) (x (0 : Fin 2)) (y (1 : Fin 2)) g)
      = ∑ s : Fin 4, ∑ k : Fin 4096, oneArr (m ((c : Thread nD τ).loc main_arg0)) (m ((c : Thread nD τ).loc main_arg2)) (m ((c : Thread nD τ).loc main_arg3)) (x (0 : Fin 2)) (y (1 : Fin 2)) ⟨s.val * 4096 + k.val, by omega⟩ :=
    (Fin.sum_mul_add_congr fun s k hl => rfl).symm
  refine f3.trans ?_
  rw [f2, f1, f0, g3, g2, g1]
  refine (congrArg (fun v : EReal => v + _ + _ + _) (congrArg₂ (fun v w : EReal => v + w) hl g0)).trans ?_
  unfold mlpArr
  rw [hx0, hs, Fin.sum_univ_four]
  simp only [add_assoc]

end Cert.MlpDown1Ideal.Hand
end
-- ==== Proof.MlpDown1Claim.lean ====
module
public import proofs.«01_k».proof.Defs
public import proofs.«01_k».proof.Proof.MlpDown1Array
public import proofs.«01_k».proof.Proof.Gen.MlpDown1ReferenceIdeal.Value
public import Idealize.ShloMosaic.Lib.Claim
public import Idealize.ShloMosaic.Lib.Pipeline.ValueKit
public import Idealize.ShloMosaic.Lib.IdealHost

/-! The down product of the second feed-forward block and its reference end with equal results over the extended reals. -/

@[expose] public section
set_option maxRecDepth 65536
noncomputable section
open Idealize.ShloMosaic Idealize.ShloMosaic.TcCoe Idealize.SL.Sem
namespace Cert.MlpDown1ReferenceIdeal.Hand
open Cert.MlpDown1ReferenceIdeal Cert.MlpDown1ReferenceIdeal.Gen
open Idealize.ShloMosaic.Pipeline (Dat)
variable (m : (ℓ : Loc nD τ sig) → Buf (Elt Ideal) ℓ)

/-- The layer's scales, one per 128×128 block, spread by the host over the whole weight. -/
def spread (s : Vec Ideal S3x128x32 .f32) : Vec Ideal S16384x4096 .f32 :=
  shapeCast S16384x4096 (broadcastInDim S128x128x32x128 ![0, 1, 2, 3] bcast_S128x1x32x1_S128x128x32x128_0_1_2_3
    (broadcastInDim S128x1x32x1 ![0, 2] bcast_S128x32_S128x1x32x1_0_2
      (shapeCast S128x32 (extractStridedSlice S1x128x32 ![1, 0, 0] s slices_S3x128x32_S1x128x32_1_0_0 : Vec Ideal S1x128x32 .f32) shapeCasts_S1x128x32_S128x32
        : Vec Ideal S128x32 .f32) : Vec Ideal S128x1x32x1 .f32) : Vec Ideal S128x128x32x128 .f32) shapeCasts_S128x128x32x128_S16384x4096

theorem V_s (c : Dev nD) : V m c main_v4 = spread (m ((c : Thread nD τ).loc main_arg3)) := by
  entry_read
  rfl

theorem row4 (s : Vec Ideal S128x128x32x128 .f32) (y : S16384x4096.Idx) :
    (shapeCast S16384x4096 s shapeCasts_S128x128x32x128_S16384x4096 : Vec Ideal S16384x4096 .f32) y
      = s (ix4 ⟨(y 0).val / 128, by have : (y 0).val < 16384 := (y 0).isLt; omega⟩ ⟨(y 0).val % 128, by omega⟩
          ⟨(y 1).val / 128, by have : (y 1).val < 4096 := (y 1).isLt; omega⟩ ⟨(y 1).val % 128, by omega⟩) := by
  pointwise

theorem spread_apply (s : Vec Ideal S3x128x32 .f32) (y : S16384x4096.Idx) :
    spread s y = s (ix3 1 ⟨(y 0).val / 128, by have : (y 0).val < 16384 := (y 0).isLt; omega⟩
      ⟨(y 1).val / 128, by have : (y 1).val < 4096 := (y 1).isLt; omega⟩) := by
  unfold spread
  rw [row4]
  pointwise

/-- Window 0's one block is its whole array. -/
theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S128x16384.Idx) : ((cfg0.win 0).blk t).view.emb j = j := by
  obtain ⟨e0, e1⟩ := idx_zero0 t
  funext a; apply Fin.ext
  match a with
  | ⟨0, _⟩ => show win0_0.index t (0 : Fin 2) * 128 + 1 * (j 0).val = (j 0).val; omega
  | ⟨1, _⟩ => show win0_0.index t (1 : Fin 2) * 16384 + 1 * (j 1).val = (j 1).val; omega

/-- Window 1's one block is its whole array. -/
theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S128x4096.Idx) : ((cfg0.win 1).blk t).view.emb j = j := by
  obtain ⟨e0, e1⟩ := idx_zero1 t
  funext a; apply Fin.ext
  match a with
  | ⟨0, _⟩ => show win0_1.index t (0 : Fin 2) * 128 + 1 * (j 0).val = (j 0).val; omega
  | ⟨1, _⟩ => show win0_1.index t (1 : Fin 2) * 4096 + 1 * (j 1).val = (j 1).val; omega

/-- Window 2's one block is its whole array. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)
theorem emb2 (t : Fin cfg0.N) (j : S3x16384x4096.Idx) : ((cfg0.win 2).blk t).view.emb j = j := by
  obtain ⟨e0, e1, e2⟩ := idx_zero2 t
  funext a; apply Fin.ext
  match a with
  | ⟨0, _⟩ => show win0_2.index t (0 : Fin 3) * 3 + 1 * (j 0).val = (j 0).val; omega
  | ⟨1, _⟩ => show win0_2.index t (1 : Fin 3) * 16384 + 1 * (j 1).val = (j 1).val; omega
  | ⟨2, _⟩ => show win0_2.index t (2 : Fin 3) * 4096 + 1 * (j 2).val = (j 2).val; omega

/-- Window 3's one block is its whole array. -/
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S16384x4096.Idx) : ((cfg0.win 3).blk t).view.emb j = j := by
  obtain ⟨e0, e1⟩ := idx_zero3 t
  funext a; apply Fin.ext
  match a with
  | ⟨0, _⟩ => show win0_3.index t (0 : Fin 2) * 16384 + 1 * (j 0).val = (j 0).val; omega
  | ⟨1, _⟩ => show win0_3.index t (1 : Fin 2) * 4096 + 1 * (j 1).val = (j 1).val; omega

/-- Window 4's one block is its whole array. -/
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S128x4096.Idx) : ((cfg0.win 4).blk t).view.emb j = j := by
  obtain ⟨e0, e1⟩ := idx_zero4 t
  funext a; apply Fin.ext
  match a with
  | ⟨0, _⟩ => show win0_4.index t (0 : Fin 2) * 128 + 1 * (j 0).val = (j 0).val; omega
  | ⟨1, _⟩ => show win0_4.index t (1 : Fin 2) * 4096 + 1 * (j 1).val = (j 1).val; omega

theorem h_blk (c : Dev nD) (t : Fin cfg0.N) : (iblk m c 0 t : Vec Ideal S128x16384 .bf16) = m ((c : Thread nD τ).loc main_arg0) := by
  funext y
  show (V m c main_arg0 : Vec Ideal S128x16384 .bf16) (((cfg0.win 0).blk t).view.emb y) = _
  rw [emb0, V_main_arg0]

theorem l_blk (c : Dev nD) (t : Fin cfg0.N) : (iblk m c 1 t : Vec Ideal S128x4096 .f32) = m ((c : Thread nD τ).loc main_arg1) := by
  funext y
  show (V m c main_arg1 : Vec Ideal S128x4096 .f32) (((cfg0.win 1).blk t).view.emb y) = _
  rw [emb1, V_main_arg1]

theorem w_blk (c : Dev nD) (t : Fin cfg0.N) : (iblk m c 2 t : Vec Ideal S3x16384x4096 .fp8e4m3) = m ((c : Thread nD τ).loc main_arg2) := by
  funext y
  show (V m c main_arg2 : Vec Ideal S3x16384x4096 .fp8e4m3) (((cfg0.win 2).blk t).view.emb y) = _
  rw [emb2, V_main_arg2]

theorem s_blk (c : Dev nD) (t : Fin cfg0.N) : (iblk m c 3 t : Vec Ideal S16384x4096 .f32) = spread (m ((c : Thread nD τ).loc main_arg3)) := by
  funext y
  show (V m c main_v4 : Vec Ideal S16384x4096 .f32) (((cfg0.win 3).blk t).view.emb y) = _
  rw [emb3, V_s]

theorem zero2 : (![0, 0] : Fin 2 → Nat) = fun _ => 0 := funext fun a => by fin_cases a <;> rfl

/-- The reference's product, entry by entry. -/
theorem prod_apply (h : Vec Ideal S128x16384 .bf16) (q : FVec Ideal S16384x4096 .bf16) (y : S128x4096.Idx) :
    matmul (φ₁ := .bf16) dot_S128x16384_S16384x4096_S128x4096_1_0_0_1_n_n none h q (constant S128x4096 .f32 0x00000000#32 : FVec Ideal S128x4096 .f32) y
      = ∑ g : Fin 16384, h (ix2 (y 0) g) * q (ix2 g (y 1)) := by
  pointwise

theorem deq_apply (w : Vec Ideal S1x16384x4096 .fp8e4m3) (s : Vec Ideal S16384x4096 .f32) (y : S16384x4096.Idx) :
    (mulf (extf .bf16 (shapeCast S16384x4096 w shapeCasts_S1x16384x4096_S16384x4096 : FVec Ideal S16384x4096 .fp8e4m3) bitsLt_fp8e4m3_bf16)
      (truncf .bf16 (shapeCast S16384x4096 s shapeCasts_S16384x4096_S16384x4096 : FVec Ideal S16384x4096 .f32) bitsLt_bf16_f32) : FVec Ideal S16384x4096 .bf16) y
      = w (ix3 0 (y 0) (y 1)) * s y := by
  pointwise

/-- What the reference stores. -/
theorem pay_eq (h : Vec Ideal S128x16384 .bf16) (l : Vec Ideal S128x4096 .f32) (w : Vec Ideal S3x16384x4096 .fp8e4m3) (s : Vec Ideal S3x128x32 .f32) :
    (k0_pay1 (View.ld w (Rect.unit (s := S3x16384x4096) ![1, 0, 0] S1x16384x4096.size inb_S3x16384x4096_S1x16384x4096_1_0_0)) (spread s) l h : Vec Ideal S128x4096 .f32)
      = Cert.MlpDown1Ideal.Hand.mlpArr h l w s := by
  funext y
  unfold k0_pay1 Cert.MlpDown1Ideal.Hand.mlpArr
  dsimp only
  refine congrArg (fun v : EReal => l y + v) ?_
  refine (prod_apply _ _ y).trans (Finset.sum_congr rfl fun g _ => ?_)
  unfold Cert.MlpDown1Ideal.Hand.oneArr
  refine congrArg (fun v : EReal => h (ix2 (y 0) g) * v) ?_
  refine (deq_apply _ _ _).trans ?_
  rw [spread_apply, View.ld_apply]
  refine congrArg (fun v : EReal => v * _) (congrArg w ?_)
  funext a
  apply Fin.ext
  match a with
  | ⟨0, _⟩ => rfl
  | ⟨1, _⟩ => show 0 + 1 * g.val = g.val; omega
  | ⟨2, _⟩ => show 0 + 1 * (y 1).val = (y 1).val; omega

theorem out_y (c : Dev nD) (t : Fin cfg0.N) : ((dats m 0 c).after 4 t : Vec Ideal S128x4096 .f32)
    = Cert.MlpDown1Ideal.Hand.mlpArr (m ((c : Thread nD τ).loc main_arg0)) (m ((c : Thread nD τ).loc main_arg1)) (m ((c : Thread nD τ).loc main_arg2)) (m ((c : Thread nD τ).loc main_arg3)) := by
  rw [after0_4]
  unfold out0_4
  rw [View.canon_unit_zero zero2, View.ld_unit_zero (S := S128x4096) zero2, View.ld_unit_zero (S := S16384x4096) zero2,
    View.ld_unit_zero (S := S128x16384) zero2, h_blk m c t, l_blk m c t, w_blk m c t, s_blk m c t]
  exact pay_eq _ _ _ _

/-- The reference's result array. -/
theorem final_y (c : Dev nD) : (dats m 0 c).arrAt 4 cfg0.N
    = (Cert.MlpDown1Ideal.Hand.mlpArr (m ((c : Thread nD τ).loc main_arg0)) (m ((c : Thread nD τ).loc main_arg1)) (m ((c : Thread nD τ).loc main_arg2)) (m ((c : Thread nD τ).loc main_arg3)) : Vec Ideal S128x4096 .f32) := by
  refine (dats m 0 c).arrAt_eq_of_covers 4 _ (by decide +kernel) fun t hf y => ?_
  rw [emb4 t]
  exact congrFun (out_y m c t) y

end Cert.MlpDown1ReferenceIdeal.Hand

namespace Cert.Proof

/-- The kernel and the reference, run from memories that agree on the arguments, end with equal results. -/
theorem algebraic_mlp_down1 [Cert.MlpDown1Ideal.Facts] [Cert.MlpDown1ReferenceIdeal.Facts] : Cert.algebraic_MlpDown1Ideal_MlpDown1ReferenceIdeal := by
  pair_intro
  · run_from Cert.MlpDown1Ideal.Value.run_blocks m g
  · refine Idealize.ShloMosaic.θ_run_mono (Cert.MlpDown1ReferenceIdeal.Value.run_blocks m' g') ?_
    intro r hr c
    obtain ⟨h0, h1, h2, h3⟩ := hagree c
    obtain ⟨ry, ra⟩ := hr c
    refine ⟨ry.trans ?_, ra⟩
    refine (Cert.MlpDown1ReferenceIdeal.Hand.final_y m' c).trans (Eq.trans ?_ (Cert.MlpDown1Ideal.Hand.final_mlp m c).symm)
    rw [h0, h1, h2, h3]

end Cert.Proof
end
-- ==== Proof.MlpDown2Block.lean ====
module
public import proofs.«01_k».proof.Proof.Gen.MlpDown2Ideal.Value
public import Idealize.ShloMosaic.Lib.Pipeline.ValueKit
public import Idealize.ShloMosaic.Lib.Pipeline.ReadBack
public import Idealize.ShloMosaic.Lib.Pointwise

/-! The down product of the third feed-forward block over the extended reals: what one grid point adds to its output block. -/

@[expose] public section
set_option maxRecDepth 65536
noncomputable section
namespace Cert.MlpDown2Ideal.Hand
open Cert.MlpDown2Ideal Cert.MlpDown2Ideal.Gen Idealize.ShloMosaic Idealize.ShloMosaic.TcCoe Idealize.SL.Sem
open Idealize.ShloMosaic.Pipeline (Dat)

/-- A 128×128 block of the weight times its scale. -/
def deqB (w : Vec Ideal S1x128x128 .fp8e4m3) (s : Elt Ideal .f32) : FVec Ideal S128x128 .bf16 :=
  mulf (extf .bf16 (shapeCast S128x128 w shapeCasts_S1x128x128_S128x128 : FVec Ideal S128x128 .fp8e4m3) bitsLt_fp8e4m3_bf16)
    (truncf .bf16 (broadcast S128x128 s : FVec Ideal S128x128 .f32) bitsLt_bf16_f32)

/-- Four blocks side by side. -/
def rowB (f : Fin 4 → FVec Ideal S128x128 .bf16) : FVec Ideal S128x512 .bf16 :=
  concatenate S128x512 1 [⟨S128x128, f 0⟩, ⟨S128x128, f 1⟩, ⟨S128x128, f 2⟩, ⟨S128x128, f 3⟩] concatenates_S128x128_S128x128_S128x128_S128x128_S128x512_d1

/-- Two rows of blocks, one above the other. -/
def tileB (f : Fin 2 → FVec Ideal S128x512 .bf16) : FVec Ideal S256x512 .bf16 :=
  concatenate S256x512 0 [⟨S128x512, f 0⟩, ⟨S128x512, f 1⟩] concatenates_S128x512_S128x512_S256x512_d0

/-- The product of 256 columns of the activation with the tile of the weight that stands on those rows. -/
def slabB (p : Vec Ideal S128x256 .bf16) (w : Fin 2 → Fin 4 → Vec Ideal S1x128x128 .fp8e4m3) (s : Fin 2 → Fin 4 → Elt Ideal .f32) :
    FVec Ideal S128x512 .f32 :=
  matmul (φ₁ := .bf16) dot_S128x256_S256x512_S128x512_1_0_0_1_n_n none p (tileB fun a => rowB fun b => deqB (w a b) (s a b))
    (constant S128x512 .f32 0x00000000#32 : FVec Ideal S128x512 .f32)

theorem deqB_apply (w : Vec Ideal S1x128x128 .fp8e4m3) (s : Elt Ideal .f32) (x : S128x128.Idx) :
    deqB w s x = w (ix3 0 (x 0) (x 1)) * s := by
  unfold deqB
  pointwise

theorem rowB_apply (f : Fin 4 → FVec Ideal S128x128 .bf16) (x : S128x512.Idx) (b : Fin 4) (n : Fin 128)
    (h : (x 1).val = 128 * b.val + n.val) : rowB f x = f b (ix2 (x 0) n) := by
  have hn := n.isLt
  have hx : n = ⟨(x 1).val % 128, Nat.mod_lt _ (by decide)⟩ := Fin.ext (by show n.val = (x 1).val % 128; omega)
  unfold rowB
  pointwise
  fin_cases b <;> simp only [Fin.mk_zero, Fin.mk_one, Fin.reduceFinMk] at h ⊢ <;> subst hx <;> split_ifs <;>
    first
    | (exfalso; simp at h; omega)
    | (congr 2; apply Fin.ext; dsimp only; simp at h; omega)

theorem tileB_apply (f : Fin 2 → FVec Ideal S128x512 .bf16) (x : S256x512.Idx) (a : Fin 2) (n : Fin 128)
    (h : (x 0).val = 128 * a.val + n.val) : tileB f x = f a (ix2 n (x 1)) := by
  have hn := n.isLt
  unfold tileB
  pointwise
  fin_cases a <;> simp only [Fin.mk_zero, Fin.mk_one, Fin.reduceFinMk] at h ⊢ <;> split_ifs <;>
    first
    | (exfalso; simp at h; omega)
    | (congr 2; apply Fin.ext; dsimp only; simp at h; omega)

theorem dot_apply (p : Vec Ideal S128x256 .bf16) (q : FVec Ideal S256x512 .bf16) (x : S128x512.Idx) :
    matmul (φ₁ := .bf16) dot_S128x256_S256x512_S128x512_1_0_0_1_n_n none p q (constant S128x512 .f32 0x00000000#32 : FVec Ideal S128x512 .f32) x
      = ∑ k : Fin 256, p (ix2 (x 0) k) * q (ix2 k (x 1)) := by
  pointwise

/-- The slab at an index: a sum over its 256 rows. -/
theorem slabB_apply (p : Vec Ideal S128x256 .bf16) (w : Fin 2 → Fin 4 → Vec Ideal S1x128x128 .fp8e4m3)
    (s : Fin 2 → Fin 4 → Elt Ideal .f32) (x : S128x512.Idx) (b : Fin 4) (n : Fin 128) (h : (x 1).val = 128 * b.val + n.val) :
    slabB p w s x = ∑ k : Fin 256, p (ix2 (x 0) k)
      * (w ⟨k.val / 128, by omega⟩ b (ix3 0 ⟨k.val % 128, Nat.mod_lt _ (by decide)⟩ n) * s ⟨k.val / 128, by omega⟩ b) := by
  unfold slabB
  rw [dot_apply]
  refine Finset.sum_congr rfl fun k _ => congrArg (p (ix2 (x 0) k) * ·) ?_
  refine (tileB_apply _ _ ⟨k.val / 128, by omega⟩ ⟨k.val % 128, Nat.mod_lt _ (by decide)⟩ (Nat.div_add_mod k.val 128).symm).trans ?_
  exact (rowB_apply (fun b => deqB (w ⟨k.val / 128, by omega⟩ b) (s ⟨k.val / 128, by omega⟩ b))
    (ix2 ⟨k.val % 128, Nat.mod_lt _ (by decide)⟩ (x 1)) b n h).trans (deqB_apply _ _ _)

theorem off1_eq (i : grid0.Coords) (r : Fin 16) (a : Fin 2) (b : Fin 4) :
    k0_off1 i (BitVec.ofNat 32 (2 * r.val)) (BitVec.ofNat 32 a.val) (BitVec.ofNat 32 b.val)
      = ![2, 32 * (i 1).val + 2 * r.val + a.val, 4 * (i 0).val + b.val] := by
  have h0 : (i 0).val < 8 := (i 0).isLt
  have h1 : (i 1).val < 4 := (i 1).isLt
  have := r.isLt
  have := a.isLt
  have := b.isLt
  unfold k0_off1
  funext z
  fin_cases z <;> simp [Scalar.muli, Scalar.addi, Scalar.indexCast, IntOp.muli, IntOp.addi, BitVec.toNat_add, BitVec.toNat_mul, BitVec.toNat_ofNat] <;> omega

theorem off2_eq (i : grid0.Coords) (r : Fin 16) :
    k0_off2 i (BitVec.ofNat 32 (256 * r.val)) = ![0, 4096 * (i 1).val + 256 * r.val] := by
  have h1 : (i 1).val < 4 := (i 1).isLt
  have := r.isLt
  unfold k0_off2
  funext z
  fin_cases z <;> simp [Scalar.muli, Scalar.addi, Scalar.indexCast, IntOp.muli, IntOp.addi, BitVec.toNat_add, BitVec.toNat_mul, BitVec.toNat_ofNat] <;> omega

theorem inb_w (r : Fin 16) (a : Fin 2) (b : Fin 4) : ∀ z, (![0, 256 * r.val + 128 * a.val, 128 * b.val] : Fin 3 → ℕ) z + S1x128x128.size z ≤ S1x4096x512.size z := by
  have := r.isLt
  have := a.isLt
  have := b.isLt
  intro z
  fin_cases z <;> simp <;> omega

/-- The slab of a grid point, read from the point's blocks. -/
def slabK (i : grid0.Coords) (h : Vec Ideal S128x16384 .bf16) (w : Vec Ideal S1x4096x512 .fp8e4m3) (s : Vec Ideal S3x128x32 .f32) (r : Fin 16) :
    FVec Ideal S128x512 .f32 :=
  slabB (View.ld h (Rect.unit (s := S128x16384) (k0_off2 i (BitVec.ofNat 32 (256 * r.val))) S128x256.size (k0_off2_inb i r)))
    (fun a b => View.ld w (Rect.unit (s := S1x4096x512) ![0, 256 * r.val + 128 * a.val, 128 * b.val] S1x128x128.size (inb_w r a b)))
    (fun a b => View.ld s (Rect.unit (s := S3x128x32) (k0_off1 i (BitVec.ofNat 32 (2 * r.val)) (BitVec.ofNat 32 a.val) (BitVec.ofNat 32 b.val)) S1x1x1.size (k0_off1_inb i r a b))
      (Shape.Idx.first (lt_of_lt_of_eq Nat.zero_lt_one numel1_S1x1x1.symm)))

/-- The row of the hidden activation that a point's lane reads. -/
theorem lane_h (i : grid0.Coords) (l : Fin 4096) : 4096 * (i 1).val + l.val < 16384 := by
  have h1 : (i 1).val < 4 := (i 1).isLt
  omega

theorem lane_s (i : grid0.Coords) (l : Fin 4096) : 32 * (i 1).val + l.val / 128 < 128 := by
  have h1 : (i 1).val < 4 := (i 1).isLt
  omega

theorem col_s (i : grid0.Coords) (n : Fin 512) : 4 * (i 0).val + n.val / 128 < 32 := by
  have h0 : (i 0).val < 8 := (i 0).isLt
  omega

/-- One product of a grid point: an entry of the activation times an entry of the weight with its scale. -/
def oneK (i : grid0.Coords) (h : Vec Ideal S128x16384 .bf16) (w : Vec Ideal S1x4096x512 .fp8e4m3) (s : Vec Ideal S3x128x32 .f32)
    (x : S128x512.Idx) (l : Fin 4096) : EReal :=
  h (ix2 (x 0) ⟨4096 * (i 1).val + l.val, lane_h i l⟩)
    * (w (ix3 0 l (x 1)) * s (ix3 2 ⟨32 * (i 1).val + l.val / 128, lane_s i l⟩ ⟨4 * (i 0).val + (x 1).val / 128, col_s i (x 1)⟩))

theorem slabK_apply (i : grid0.Coords) (h : Vec Ideal S128x16384 .bf16) (w : Vec Ideal S1x4096x512 .fp8e4m3) (s : Vec Ideal S3x128x32 .f32)
    (r : Fin 16) (x : S128x512.Idx) :
    slabK i h w s r x = ∑ k : Fin 256, oneK i h w s x ⟨r.val * 256 + k.val, by omega⟩ := by
  have hx : (x 1).val < 512 := (x 1).isLt
  unfold slabK
  rw [slabB_apply _ _ _ x ⟨(x 1).val / 128, by omega⟩ ⟨(x 1).val % 128, Nat.mod_lt _ (by decide)⟩ (Nat.div_add_mod _ 128).symm]
  refine Finset.sum_congr rfl fun k _ => ?_
  have hk := k.isLt
  have hr := r.isLt
  unfold oneK
  rw [View.ld_apply, View.ld_apply, View.ld_apply]
  refine congrArg₂ (· * ·) (congrArg h ?_) (congrArg₂ (· * ·) (congrArg w ?_) (congrArg s ?_))
  · funext z
    apply Fin.ext
    show k0_off2 i (BitVec.ofNat 32 (256 * r.val)) z + 1 * (ix2 (x 0) k z).val = _
    rw [off2_eq i r]
    match z with
    | ⟨0, _⟩ => show 0 + 1 * (x 0).val = (x 0).val; omega
    | ⟨1, _⟩ => show 4096 * (i 1).val + 256 * r.val + 1 * k.val = 4096 * (i 1).val + (r.val * 256 + k.val); omega
  · funext z
    apply Fin.ext
    match z with
    | ⟨0, _⟩ => rfl
    | ⟨1, _⟩ => show 256 * r.val + 128 * (k.val / 128) + 1 * (k.val % 128) = r.val * 256 + k.val; omega
    | ⟨2, _⟩ => show 128 * ((x 1).val / 128) + 1 * ((x 1).val % 128) = (x 1).val; omega
  · funext z
    apply Fin.ext
    have e := off1_eq i r ⟨k.val / 128, by omega⟩ ⟨(x 1).val / 128, by omega⟩
    have hf : ((Shape.Idx.first (lt_of_lt_of_eq Nat.zero_lt_one numel1_S1x1x1.symm) : S1x1x1.Idx) z).val < 1 := by
      have := ((Shape.Idx.first (lt_of_lt_of_eq Nat.zero_lt_one numel1_S1x1x1.symm) : S1x1x1.Idx) z).isLt
      fin_cases z <;> exact this
    show k0_off1 i (BitVec.ofNat 32 (2 * r.val)) (BitVec.ofNat 32 (k.val / 128)) (BitVec.ofNat 32 ((x 1).val / 128)) z
      + 1 * ((Shape.Idx.first (lt_of_lt_of_eq Nat.zero_lt_one numel1_S1x1x1.symm) : S1x1x1.Idx) z).val = _
    rw [e, Nat.lt_one_iff.mp hf]
    match z with
    | ⟨0, _⟩ => rfl
    | ⟨1, _⟩ => show 32 * (i 1).val + 2 * r.val + k.val / 128 + 1 * 0 = 32 * (i 1).val + (r.val * 256 + k.val) / 128; omega
    | ⟨2, _⟩ => show 4 * (i 0).val + (x 1).val / 128 + 1 * 0 = 4 * (i 0).val + (x 1).val / 128; omega

/-- The sixteen slabs of a grid point, added one after the other. -/
def accK (i : grid0.Coords) (h : Vec Ideal S128x16384 .bf16) (w : Vec Ideal S1x4096x512 .fp8e4m3) (s : Vec Ideal S3x128x32 .f32) :
    FVec Ideal S128x512 .f32 :=
  (addf (addf (addf (addf (addf (addf (addf (addf (addf (addf (addf (addf (addf (addf (addf (addf (k0_pay2 (F := Ideal)) (slabK i h w s 0)) (slabK i h w s 1)) (slabK i h w s 2)) (slabK i h w s 3)) (slabK i h w s 4)) (slabK i h w s 5)) (slabK i h w s 6)) (slabK i h w s 7)) (slabK i h w s 8)) (slabK i h w s 9)) (slabK i h w s 10)) (slabK i h w s 11)) (slabK i h w s 12)) (slabK i h w s 13)) (slabK i h w s 14)) (slabK i h w s 15))

theorem sum16 (f : Fin 16 → EReal) : f 0 + f 1 + f 2 + f 3 + f 4 + f 5 + f 6 + f 7 + f 8 + f 9 + f 10 + f 11 + f 12 + f 13 + f 14 + f 15 = ∑ r, f r := by
  simp only [Fin.sum_univ_castSucc, Finset.univ_eq_empty, Finset.sum_empty, zero_add]
  rfl

theorem pay2_apply (x : S128x512.Idx) : k0_pay2 (F := Ideal) x = 0 := by
  unfold k0_pay2
  pointwise

/-- What a point adds: the 4096 products of its lanes. -/
theorem accK_apply (i : grid0.Coords) (h : Vec Ideal S128x16384 .bf16) (w : Vec Ideal S1x4096x512 .fp8e4m3) (s : Vec Ideal S3x128x32 .f32)
    (x : S128x512.Idx) : accK i h w s x = ∑ l : Fin 4096, oneK i h w s x l := by
  have e : accK i h w s x = k0_pay2 (F := Ideal) x + slabK i h w s 0 x + slabK i h w s 1 x + slabK i h w s 2 x + slabK i h w s 3 x + slabK i h w s 4 x + slabK i h w s 5 x + slabK i h w s 6 x + slabK i h w s 7 x + slabK i h w s 8 x + slabK i h w s 9 x + slabK i h w s 10 x + slabK i h w s 11 x + slabK i h w s 12 x + slabK i h w s 13 x + slabK i h w s 14 x + slabK i h w s 15 x := rfl
  rw [e, pay2_apply, zero_add, sum16 (fun r => slabK i h w s r x)]
  refine (Finset.sum_congr rfl fun r _ => slabK_apply i h w s r x).trans ?_
  exact Fin.sum_mul_add_congr fun r k hl => rfl

variable (m : (ℓ : Loc nD τ sig) → Buf (Elt Ideal) ℓ)

theorem zero2 : (![0, 0] : Fin 2 → Nat) = fun _ => 0 := funext fun a => by fin_cases a <;> rfl

set_option maxHeartbeats 4000000 in
/-- A later point of a run adds its products to what the point before left. -/
theorem acc_later (c : Dev nD) (t : Fin cfg0.N) (h0 : ¬ t.val % 4 = 0) :
    outsAt0 m c t.val t.isLt
      = addf (outsAt0 m c (t.val - 1) (Nat.lt_of_le_of_lt (Nat.sub_le _ _) t.isLt) : FVec Ideal S128x512 .f32)
          (accK (grid0.coords t) (iblk m c 0 t) (iblk m c 2 t) (iblk m c 3 t)) := by
  rw [outsAt0_B m c t h0]
  generalize hP : outsAt0 m c (t.val - 1) _ = P
  clear hP
  frame_open
  simp (disch := decide) only [↓ View.readCov_skip, ↓ View.readCov_cons_toLoadRect, ↓ View.readCov_fill]
  frame_out
  refine Eq.trans (b := addf (shapeCast S128x512 P shapeCasts_S128x512_S128x512 : FVec Ideal S128x512 .f32)
    (accK (grid0.coords t) (iblk m c 0 t) (iblk m c 2 t) (iblk m c 3 t))) ?_ ?_
  · rfl
  · funext y
    pointwise

set_option maxHeartbeats 4000000 in
/-- The first point of a run adds its products to the block of the residual stream. -/
theorem acc_first (c : Dev nD) (t : Fin cfg0.N) (h0 : t.val % 4 = 0) :
    outsAt0 m c t.val t.isLt
      = addf (iblk m c 1 t : FVec Ideal S128x512 .f32) (accK (grid0.coords t) (iblk m c 0 t) (iblk m c 2 t) (iblk m c 3 t)) := by
  rw [outsAt0_A m c t h0]
  frame_open
  simp (disch := decide) only [↓ View.readCov_skip, ↓ View.readCov_cons_toLoadRect, ↓ View.readCov_fill]
  frame_out
  refine Eq.trans (b := addf (shapeCast S128x512 (iblk m c 1 t : Vec Ideal S128x512 .f32) shapeCasts_S128x512_S128x512 : FVec Ideal S128x512 .f32)
    (accK (grid0.coords t) (iblk m c 0 t) (iblk m c 2 t) (iblk m c 3 t))) ?_ ?_
  · rfl
  · funext y
    pointwise

end Cert.MlpDown2Ideal.Hand
end
-- ==== Proof.MlpDown2Array.lean ====
module
public import proofs.«01_k».proof.Proof.MlpDown2Block
public import Idealize.ShloMosaic.Lib.Claim

/-! The down product of the third feed-forward block over the extended reals: the result array after the run. -/

@[expose] public section
set_option maxRecDepth 65536
noncomputable section
namespace Cert.MlpDown2Ideal.Hand
open Cert.MlpDown2Ideal Cert.MlpDown2Ideal.Gen Idealize.ShloMosaic Idealize.ShloMosaic.TcCoe Idealize.SL.Sem
open Idealize.ShloMosaic.Pipeline (Dat)

variable (m : (ℓ : Loc nD τ sig) → Buf (Elt Ideal) ℓ)

/-- One product: an entry of the hidden activation times an entry of the layer's weight with the scale of its 128×128 block. -/
def oneArr (h : Vec Ideal S128x16384 .bf16) (w : Vec Ideal S3x16384x4096 .fp8e4m3) (s : Vec Ideal S3x128x32 .f32)
    (x : Fin 128) (y : Fin 4096) (g : Fin 16384) : EReal :=
  h (ix2 x g) * (w (ix3 2 g y) * s (ix3 2 ⟨g.val / 128, by omega⟩ ⟨y.val / 128, by omega⟩))

/-- The residual stream plus the hidden activation's product with the layer's weight, each weight entry with its block's scale. -/
def mlpArr (h : Vec Ideal S128x16384 .bf16) (l : Vec Ideal S128x4096 .f32) (w : Vec Ideal S3x16384x4096 .fp8e4m3)
    (s : Vec Ideal S3x128x32 .f32) : Vec Ideal S128x4096 .f32 :=
  fun y => l y + ∑ g : Fin 16384, oneArr h w s (y 0) (y 1) g

/-- The blocks' indices at a grid point. -/
theorem idx0 : ∀ t : Fin cfg0.N, win0_0.index t 0 = 0 ∧ win0_0.index t 1 = 0 := by decide +kernel
theorem idx1 : ∀ t : Fin cfg0.N, win0_1.index t 0 = 0 ∧ win0_1.index t 1 = t.val / 4 := by decide +kernel
theorem idx2 : ∀ t : Fin cfg0.N, win0_2.index t 0 = 2 ∧ win0_2.index t 1 = t.val % 4 ∧ win0_2.index t 2 = t.val / 4 := by decide +kernel
theorem idx3 : ∀ t : Fin cfg0.N, win0_3.index t 0 = 0 ∧ win0_3.index t 1 = 0 ∧ win0_3.index t 2 = 0 := by decide +kernel
theorem idx4 : ∀ t : Fin cfg0.N, win0_4.index t 0 = 0 ∧ win0_4.index t 1 = t.val / 4 := by decide +kernel

theorem point_lt (t : Fin cfg0.N) : t.val < 32 := lt_of_lt_of_eq t.isLt (show cfg0.N = 32 from N_0)

theorem co0 (t : Fin cfg0.N) : (grid0.coords t 0).val = t.val / 4 := by
  have ht := point_lt t
  have e : (grid0.coords t 0).val = t.val / 4 % 8 := Pipeline.Grid.coords_val t 0 (by decide) rfl
  omega

theorem co1 (t : Fin cfg0.N) : (grid0.coords t 1).val = t.val % 4 := by
  have e : (grid0.coords t 1).val = t.val / 1 % 4 := Pipeline.Grid.coords_val t 1 (by decide) rfl
  omega

theorem h_blk (c : Dev nD) (t : Fin cfg0.N) (y i : S128x16384.Idx) (h0 : (y 0).val = (i 0).val) (h1 : (y 1).val = (i 1).val) :
    (iblk m c 0 t : Vec Ideal S128x16384 .bf16) y = (m ((c : Thread nD τ).loc main_arg0) : Vec Ideal S128x16384 .bf16) i := by
  unfold iblk
  blk_simp
  rw [V_main_arg0]
  congr 1
  blk_ext [idx0 t]

theorem l_blk (c : Dev nD) (t : Fin cfg0.N) (y : S128x512.Idx) (i : S128x4096.Idx) (h0 : (i 0).val = (y 0).val)
    (h1 : (i 1).val = 512 * (t.val / 4) + (y 1).val) :
    (iblk m c 1 t : Vec Ideal S128x512 .f32) y = (m ((c : Thread nD τ).loc main_arg1) : Vec Ideal S128x4096 .f32) i := by
  unfold iblk
  blk_simp
  rw [V_main_arg1]
  congr 1
  blk_ext [idx1 t]

theorem w_blk (c : Dev nD) (t : Fin cfg0.N) (y : S1x4096x512.Idx) (i : S3x16384x4096.Idx) (h0 : (i 0).val = 2)
    (h1 : (i 1).val = 4096 * (t.val % 4) + (y 1).val) (h2 : (i 2).val = 512 * (t.val / 4) + (y 2).val) :
    (iblk m c 2 t : Vec Ideal S1x4096x512 .fp8e4m3) y = (m ((c : Thread nD τ).loc main_arg2) : Vec Ideal S3x16384x4096 .fp8e4m3) i := by
  unfold iblk
  blk_simp
  rw [V_main_arg2]
  congr 1
  blk_ext [idx2 t]

theorem s_blk (c : Dev nD) (t : Fin cfg0.N) (y : S3x128x32.Idx) :
    (iblk m c 3 t : Vec Ideal S3x128x32 .f32) y = (m ((c : Thread nD τ).loc main_arg3) : Vec Ideal S3x128x32 .f32) y := by
  unfold iblk
  blk_simp
  rw [V_main_arg3]
  congr 1
  blk_ext [idx3 t]

/-- A point's product is one product of the arrays. -/
theorem one_iblk (c : Dev nD) (t : Fin cfg0.N) (x : S128x512.Idx) (l : Fin 4096) (y : Fin 4096) (g : Fin 16384)
    (hy : y.val = 512 * (t.val / 4) + (x 1).val) (hg : g.val = 4096 * (t.val % 4) + l.val) :
    oneK (grid0.coords t) (iblk m c 0 t) (iblk m c 2 t) (iblk m c 3 t) x l
      = oneArr (m ((c : Thread nD τ).loc main_arg0)) (m ((c : Thread nD τ).loc main_arg2)) (m ((c : Thread nD τ).loc main_arg3)) (x 0) y g := by
  have c0 := co0 t
  have c1 := co1 t
  have hx : (x 1).val < 512 := (x 1).isLt
  unfold oneK oneArr
  refine congrArg₂ (· * ·) (h_blk m c t _ _ rfl ?_) (congrArg₂ (· * ·) (w_blk m c t _ _ rfl ?_ ?_) ?_)
  · show 4096 * (grid0.coords t 1).val + l.val = g.val
    omega
  · show g.val = 4096 * (t.val % 4) + l.val
    omega
  · show y.val = 512 * (t.val / 4) + (x 1).val
    omega
  · refine (s_blk m c t _).trans (congrArg _ ?_)
    refine congrArg₂ (ix3 2) (Fin.ext ?_) (Fin.ext ?_)
    · show 32 * (grid0.coords t 1).val + l.val / 128 = g.val / 128
      omega
    · show 4 * (grid0.coords t 0).val + (x 1).val / 128 = y.val / 128
      omega

/-- What a point adds, as a sum over its stretch of the contraction. -/
theorem acc_iblk (c : Dev nD) (t : Fin cfg0.N) (x : S128x512.Idx) (y : Fin 4096) (k : Fin 4)
    (hy : y.val = 512 * (t.val / 4) + (x 1).val) (hk : k.val = t.val % 4) :
    accK (grid0.coords t) (iblk m c 0 t) (iblk m c 2 t) (iblk m c 3 t) x
      = ∑ l : Fin 4096, oneArr (m ((c : Thread nD τ).loc main_arg0)) (m ((c : Thread nD τ).loc main_arg2)) (m ((c : Thread nD τ).loc main_arg3)) (x 0) y
          ⟨k.val * 4096 + l.val, by omega⟩ := by
  rw [accK_apply]
  exact Finset.sum_congr rfl fun l _ => one_iblk m c t x l y _ hy (by show k.val * 4096 + l.val = _; omega)

theorem step (c : Dev nD) (t t' : Fin cfg0.N) (h : t'.val + 1 = t.val) (h0 : ¬ t.val % 4 = 0) (x : S128x512.Idx) :
    (outsAt0 m c t.val t.isLt : FVec Ideal S128x512 .f32) x
      = (outsAt0 m c t'.val t'.isLt : FVec Ideal S128x512 .f32) x
        + accK (grid0.coords t) (iblk m c 0 t) (iblk m c 2 t) (iblk m c 3 t) x := by
  obtain ⟨n, hn⟩ := t'
  obtain ⟨k, hk⟩ := t
  dsimp only at h
  subst h
  exact congrFun (acc_later m c ⟨n + 1, hk⟩ h0) x

/-- The result array: the residual stream plus the whole product, its four stretches added one after the other. -/
theorem final_mlp (c : Dev nD) : (dats m 0 c).arrAt 4 cfg0.N
    = mlpArr (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf x => ?_
  have hr : t.val % 4 = 3 := (flush0_4 t).mp hf
  have ht := point_lt t
  have hN : cfg0.N = 32 := N_0
  have hx : (x (1 : Fin 2)).val < 512 := (x (1 : Fin 2)).isLt
  have e0 : ((((cfg0.win 4).blk t).view.emb x) (0 : Fin 2)).val = (x (0 : Fin 2)).val := by
    blk_simp [idx4 t]
  have e1 : ((((cfg0.win 4).blk t).view.emb x) (1 : Fin 2)).val = 512 * (t.val / 4) + (x (1 : Fin 2)).val := by
    blk_simp [idx4 t]
    omega
  generalize ((cfg0.win 4).blk t).view.emb x = y at e0 e1
  blk_simp
  rw [after0_4]
  have f3 := step m c t ⟨t.val - 1, by omega⟩ (by show t.val - 1 + 1 = t.val; omega) (by omega) x
  have f2 := step m c ⟨t.val - 1, by omega⟩ ⟨t.val - 2, by omega⟩ (by show t.val - 2 + 1 = t.val - 1; omega) (by show ¬ (t.val - 1) % 4 = 0; omega) x
  have f1 := step m c ⟨t.val - 2, by omega⟩ ⟨t.val - 3, by omega⟩ (by show t.val - 3 + 1 = t.val - 2; omega) (by show ¬ (t.val - 2) % 4 = 0; omega) x
  have f0 := congrFun (acc_first m c ⟨t.val - 3, by omega⟩ (by show (t.val - 3) % 4 = 0; omega)) x
  have g3 := acc_iblk m c t x (y (1 : Fin 2)) 3 e1 hr.symm
  have g2 := acc_iblk m c ⟨t.val - 1, by omega⟩ x (y (1 : Fin 2)) 2 (by rw [e1]; show _ = 512 * ((t.val - 1) / 4) + _; omega) (by show 2 = (t.val - 1) % 4; omega)
  have g1 := acc_iblk m c ⟨t.val - 2, by omega⟩ x (y (1 : Fin 2)) 1 (by rw [e1]; show _ = 512 * ((t.val - 2) / 4) + _; omega) (by show 1 = (t.val - 2) % 4; omega)
  have g0 := acc_iblk m c ⟨t.val - 3, by omega⟩ x (y (1 : Fin 2)) 0 (by rw [e1]; show _ = 512 * ((t.val - 3) / 4) + _; omega) (by show 0 = (t.val - 3) % 4; omega)
  have hl := l_blk m c ⟨t.val - 3, by omega⟩ x y e0 (by rw [e1]; show _ = 512 * ((t.val - 3) / 4) + _; omega)
  have hx0 : (y (0 : Fin 2) : Fin 128) = x (0 : Fin 2) := Fin.ext e0
  have hs : (∑ g : Fin 16384, oneArr (m ((c : Thread nD τ).loc main_arg0)) (m ((c : Thread nD τ).loc main_arg2)) (m ((c : Thread nD τ).loc main_arg3)) (x (0 : Fin 2)) (y (1 : Fin 2)) g)
      = ∑ s : Fin 4, ∑ k : Fin 4096, oneArr (m ((c : Thread nD τ).loc main_arg0)) (m ((c : Thread nD τ).loc main_arg2)) (m ((c : Thread nD τ).loc main_arg3)) (x (0 : Fin 2)) (y (1 : Fin 2)) ⟨s.val * 4096 + k.val, by omega⟩ :=
    (Fin.sum_mul_add_congr fun s k hl => rfl).symm
  refine f3.trans ?_
  rw [f2, f1, f0, g3, g2, g1]
  refine (congrArg (fun v : EReal => v + _ + _ + _) (congrArg₂ (fun v w : EReal => v + w) hl g0)).trans ?_
  unfold mlpArr
  rw [hx0, hs, Fin.sum_univ_four]
  simp only [add_assoc]

end Cert.MlpDown2Ideal.Hand
end
-- ==== Proof.MlpDown2Claim.lean ====
module
public import proofs.«01_k».proof.Defs
public import proofs.«01_k».proof.Proof.MlpDown2Array
public import proofs.«01_k».proof.Proof.Gen.MlpDown2ReferenceIdeal.Value
public import Idealize.ShloMosaic.Lib.Claim
public import Idealize.ShloMosaic.Lib.Pipeline.ValueKit
public import Idealize.ShloMosaic.Lib.IdealHost

/-! The down product of the third feed-forward block and its reference end with equal results over the extended reals. -/

@[expose] public section
set_option maxRecDepth 65536
noncomputable section
open Idealize.ShloMosaic Idealize.ShloMosaic.TcCoe Idealize.SL.Sem
namespace Cert.MlpDown2ReferenceIdeal.Hand
open Cert.MlpDown2ReferenceIdeal Cert.MlpDown2ReferenceIdeal.Gen
open Idealize.ShloMosaic.Pipeline (Dat)
variable (m : (ℓ : Loc nD τ sig) → Buf (Elt Ideal) ℓ)

/-- The layer's scales, one per 128×128 block, spread by the host over the whole weight. -/
def spread (s : Vec Ideal S3x128x32 .f32) : Vec Ideal S16384x4096 .f32 :=
  shapeCast S16384x4096 (broadcastInDim S128x128x32x128 ![0, 1, 2, 3] bcast_S128x1x32x1_S128x128x32x128_0_1_2_3
    (broadcastInDim S128x1x32x1 ![0, 2] bcast_S128x32_S128x1x32x1_0_2
      (shapeCast S128x32 (extractStridedSlice S1x128x32 ![2, 0, 0] s slices_S3x128x32_S1x128x32_2_0_0 : Vec Ideal S1x128x32 .f32) shapeCasts_S1x128x32_S128x32
        : Vec Ideal S128x32 .f32) : Vec Ideal S128x1x32x1 .f32) : Vec Ideal S128x128x32x128 .f32) shapeCasts_S128x128x32x128_S16384x4096

theorem V_s (c : Dev nD) : V m c main_v4 = spread (m ((c : Thread nD τ).loc main_arg3)) := by
  entry_read
  rfl

theorem row4 (s : Vec Ideal S128x128x32x128 .f32) (y : S16384x4096.Idx) :
    (shapeCast S16384x4096 s shapeCasts_S128x128x32x128_S16384x4096 : Vec Ideal S16384x4096 .f32) y
      = s (ix4 ⟨(y 0).val / 128, by have : (y 0).val < 16384 := (y 0).isLt; omega⟩ ⟨(y 0).val % 128, by omega⟩
          ⟨(y 1).val / 128, by have : (y 1).val < 4096 := (y 1).isLt; omega⟩ ⟨(y 1).val % 128, by omega⟩) := by
  pointwise

theorem spread_apply (s : Vec Ideal S3x128x32 .f32) (y : S16384x4096.Idx) :
    spread s y = s (ix3 2 ⟨(y 0).val / 128, by have : (y 0).val < 16384 := (y 0).isLt; omega⟩
      ⟨(y 1).val / 128, by have : (y 1).val < 4096 := (y 1).isLt; omega⟩) := by
  unfold spread
  rw [row4]
  pointwise

/-- Window 0's one block is its whole array. -/
theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S128x16384.Idx) : ((cfg0.win 0).blk t).view.emb j = j := by
  obtain ⟨e0, e1⟩ := idx_zero0 t
  funext a; apply Fin.ext
  match a with
  | ⟨0, _⟩ => show win0_0.index t (0 : Fin 2) * 128 + 1 * (j 0).val = (j 0).val; omega
  | ⟨1, _⟩ => show win0_0.index t (1 : Fin 2) * 16384 + 1 * (j 1).val = (j 1).val; omega

/-- Window 1's one block is its whole array. -/
theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S128x4096.Idx) : ((cfg0.win 1).blk t).view.emb j = j := by
  obtain ⟨e0, e1⟩ := idx_zero1 t
  funext a; apply Fin.ext
  match a with
  | ⟨0, _⟩ => show win0_1.index t (0 : Fin 2) * 128 + 1 * (j 0).val = (j 0).val; omega
  | ⟨1, _⟩ => show win0_1.index t (1 : Fin 2) * 4096 + 1 * (j 1).val = (j 1).val; omega

/-- Window 2's one block is its whole array. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)
theorem emb2 (t : Fin cfg0.N) (j : S3x16384x4096.Idx) : ((cfg0.win 2).blk t).view.emb j = j := by
  obtain ⟨e0, e1, e2⟩ := idx_zero2 t
  funext a; apply Fin.ext
  match a with
  | ⟨0, _⟩ => show win0_2.index t (0 : Fin 3) * 3 + 1 * (j 0).val = (j 0).val; omega
  | ⟨1, _⟩ => show win0_2.index t (1 : Fin 3) * 16384 + 1 * (j 1).val = (j 1).val; omega
  | ⟨2, _⟩ => show win0_2.index t (2 : Fin 3) * 4096 + 1 * (j 2).val = (j 2).val; omega

/-- Window 3's one block is its whole array. -/
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S16384x4096.Idx) : ((cfg0.win 3).blk t).view.emb j = j := by
  obtain ⟨e0, e1⟩ := idx_zero3 t
  funext a; apply Fin.ext
  match a with
  | ⟨0, _⟩ => show win0_3.index t (0 : Fin 2) * 16384 + 1 * (j 0).val = (j 0).val; omega
  | ⟨1, _⟩ => show win0_3.index t (1 : Fin 2) * 4096 + 1 * (j 1).val = (j 1).val; omega

/-- Window 4's one block is its whole array. -/
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S128x4096.Idx) : ((cfg0.win 4).blk t).view.emb j = j := by
  obtain ⟨e0, e1⟩ := idx_zero4 t
  funext a; apply Fin.ext
  match a with
  | ⟨0, _⟩ => show win0_4.index t (0 : Fin 2) * 128 + 1 * (j 0).val = (j 0).val; omega
  | ⟨1, _⟩ => show win0_4.index t (1 : Fin 2) * 4096 + 1 * (j 1).val = (j 1).val; omega

theorem h_blk (c : Dev nD) (t : Fin cfg0.N) : (iblk m c 0 t : Vec Ideal S128x16384 .bf16) = m ((c : Thread nD τ).loc main_arg0) := by
  funext y
  show (V m c main_arg0 : Vec Ideal S128x16384 .bf16) (((cfg0.win 0).blk t).view.emb y) = _
  rw [emb0, V_main_arg0]

theorem l_blk (c : Dev nD) (t : Fin cfg0.N) : (iblk m c 1 t : Vec Ideal S128x4096 .f32) = m ((c : Thread nD τ).loc main_arg1) := by
  funext y
  show (V m c main_arg1 : Vec Ideal S128x4096 .f32) (((cfg0.win 1).blk t).view.emb y) = _
  rw [emb1, V_main_arg1]

theorem w_blk (c : Dev nD) (t : Fin cfg0.N) : (iblk m c 2 t : Vec Ideal S3x16384x4096 .fp8e4m3) = m ((c : Thread nD τ).loc main_arg2) := by
  funext y
  show (V m c main_arg2 : Vec Ideal S3x16384x4096 .fp8e4m3) (((cfg0.win 2).blk t).view.emb y) = _
  rw [emb2, V_main_arg2]

theorem s_blk (c : Dev nD) (t : Fin cfg0.N) : (iblk m c 3 t : Vec Ideal S16384x4096 .f32) = spread (m ((c : Thread nD τ).loc main_arg3)) := by
  funext y
  show (V m c main_v4 : Vec Ideal S16384x4096 .f32) (((cfg0.win 3).blk t).view.emb y) = _
  rw [emb3, V_s]

theorem zero2 : (![0, 0] : Fin 2 → Nat) = fun _ => 0 := funext fun a => by fin_cases a <;> rfl

/-- The reference's product, entry by entry. -/
theorem prod_apply (h : Vec Ideal S128x16384 .bf16) (q : FVec Ideal S16384x4096 .bf16) (y : S128x4096.Idx) :
    matmul (φ₁ := .bf16) dot_S128x16384_S16384x4096_S128x4096_1_0_0_1_n_n none h q (constant S128x4096 .f32 0x00000000#32 : FVec Ideal S128x4096 .f32) y
      = ∑ g : Fin 16384, h (ix2 (y 0) g) * q (ix2 g (y 1)) := by
  pointwise

theorem deq_apply (w : Vec Ideal S1x16384x4096 .fp8e4m3) (s : Vec Ideal S16384x4096 .f32) (y : S16384x4096.Idx) :
    (mulf (extf .bf16 (shapeCast S16384x4096 w shapeCasts_S1x16384x4096_S16384x4096 : FVec Ideal S16384x4096 .fp8e4m3) bitsLt_fp8e4m3_bf16)
      (truncf .bf16 (shapeCast S16384x4096 s shapeCasts_S16384x4096_S16384x4096 : FVec Ideal S16384x4096 .f32) bitsLt_bf16_f32) : FVec Ideal S16384x4096 .bf16) y
      = w (ix3 0 (y 0) (y 1)) * s y := by
  pointwise

/-- What the reference stores. -/
theorem pay_eq (h : Vec Ideal S128x16384 .bf16) (l : Vec Ideal S128x4096 .f32) (w : Vec Ideal S3x16384x4096 .fp8e4m3) (s : Vec Ideal S3x128x32 .f32) :
    (k0_pay1 (View.ld w (Rect.unit (s := S3x16384x4096) ![2, 0, 0] S1x16384x4096.size inb_S3x16384x4096_S1x16384x4096_2_0_0)) (spread s) l h : Vec Ideal S128x4096 .f32)
      = Cert.MlpDown2Ideal.Hand.mlpArr h l w s := by
  funext y
  unfold k0_pay1 Cert.MlpDown2Ideal.Hand.mlpArr
  dsimp only
  refine congrArg (fun v : EReal => l y + v) ?_
  refine (prod_apply _ _ y).trans (Finset.sum_congr rfl fun g _ => ?_)
  unfold Cert.MlpDown2Ideal.Hand.oneArr
  refine congrArg (fun v : EReal => h (ix2 (y 0) g) * v) ?_
  refine (deq_apply _ _ _).trans ?_
  rw [spread_apply, View.ld_apply]
  refine congrArg (fun v : EReal => v * _) (congrArg w ?_)
  funext a
  apply Fin.ext
  match a with
  | ⟨0, _⟩ => rfl
  | ⟨1, _⟩ => show 0 + 1 * g.val = g.val; omega
  | ⟨2, _⟩ => show 0 + 1 * (y 1).val = (y 1).val; omega

theorem out_y (c : Dev nD) (t : Fin cfg0.N) : ((dats m 0 c).after 4 t : Vec Ideal S128x4096 .f32)
    = Cert.MlpDown2Ideal.Hand.mlpArr (m ((c : Thread nD τ).loc main_arg0)) (m ((c : Thread nD τ).loc main_arg1)) (m ((c : Thread nD τ).loc main_arg2)) (m ((c : Thread nD τ).loc main_arg3)) := by
  rw [after0_4]
  unfold out0_4
  rw [View.canon_unit_zero zero2, View.ld_unit_zero (S := S128x4096) zero2, View.ld_unit_zero (S := S16384x4096) zero2,
    View.ld_unit_zero (S := S128x16384) zero2, h_blk m c t, l_blk m c t, w_blk m c t, s_blk m c t]
  exact pay_eq _ _ _ _

/-- The reference's result array. -/
theorem final_y (c : Dev nD) : (dats m 0 c).arrAt 4 cfg0.N
    = (Cert.MlpDown2Ideal.Hand.mlpArr (m ((c : Thread nD τ).loc main_arg0)) (m ((c : Thread nD τ).loc main_arg1)) (m ((c : Thread nD τ).loc main_arg2)) (m ((c : Thread nD τ).loc main_arg3)) : Vec Ideal S128x4096 .f32) := by
  refine (dats m 0 c).arrAt_eq_of_covers 4 _ (by decide +kernel) fun t hf y => ?_
  rw [emb4 t]
  exact congrFun (out_y m c t) y

end Cert.MlpDown2ReferenceIdeal.Hand

namespace Cert.Proof

/-- The kernel and the reference, run from memories that agree on the arguments, end with equal results. -/
theorem algebraic_mlp_down2 [Cert.MlpDown2Ideal.Facts] [Cert.MlpDown2ReferenceIdeal.Facts] : Cert.algebraic_MlpDown2Ideal_MlpDown2ReferenceIdeal := by
  pair_intro
  · run_from Cert.MlpDown2Ideal.Value.run_blocks m g
  · refine Idealize.ShloMosaic.θ_run_mono (Cert.MlpDown2ReferenceIdeal.Value.run_blocks m' g') ?_
    intro r hr c
    obtain ⟨h0, h1, h2, h3⟩ := hagree c
    obtain ⟨ry, ra⟩ := hr c
    refine ⟨ry.trans ?_, ra⟩
    refine (Cert.MlpDown2ReferenceIdeal.Hand.final_y m' c).trans (Eq.trans ?_ (Cert.MlpDown2Ideal.Hand.final_mlp m c).symm)
    rw [h0, h1, h2, h3]

end Cert.Proof
end
-- ==== Proof.DownBlock.lean ====
module
public import proofs.«01_k».proof.Proof.Gen.DownIdeal.Value
public import Idealize.ShloMosaic.Lib.Pipeline.ValueKit
public import Idealize.ShloMosaic.Lib.Pipeline.ReadBack
public import Idealize.ShloMosaic.Lib.Pointwise

/-! The down projection over the extended reals: what one grid point leaves in its two output blocks. -/

@[expose] public section
set_option maxRecDepth 65536
noncomputable section
namespace Cert.DownIdeal.Hand
open Cert.DownIdeal Cert.DownIdeal.Gen Idealize.ShloMosaic Idealize.ShloMosaic.TcCoe Idealize.SL.Sem
open Idealize.ShloMosaic.Pipeline (Dat)

/-- Clipping to the range of the 8-bit float: between -448 and 448. -/
def clip8 (v : EReal) : EReal :=
  min (Ideal.ofBits FTy.f32 0x43E00000#32) (max (Ideal.ofBits FTy.f32 0xC3E00000#32) v)

/-- A block of the hidden activation divided by its row's scale (any lane of the scale's row) and clipped. -/
def quantBlk (h : Vec Ideal S1792x1024 .f32) (hs : Vec Ideal S1792x128 .f32) : Vec Ideal S1792x1024 .fp8e4m3 :=
  fun y => clip8 (Ideal.div (h y) (hs (ix2 (y 0) ⟨(y 1).val % 128, Nat.mod_lt _ (by decide)⟩)))

/-- The accumulator with the product of a quantised block and a block of the weight added. -/
def accBlk (P : Vec Ideal S1792x4096 .f32) (q : Vec Ideal S1792x1024 .fp8e4m3) (w : Vec Ideal S1024x4096 .fp8e4m3) :
    Vec Ideal S1792x4096 .f32 :=
  fun y => P y + ∑ k : Fin 1024, q (ix2 (y 0) k) * w (ix2 k (y 1))

/-- Eight copies of a tile of scales side by side, read at a column: the column's residue modulo 128. -/
theorem quant_pay (hs : Vec Ideal S448x128 .f32) (h : Vec Ideal S448x1024 .f32) (x : S448x1024.Idx) :
    k0_pay4 hs h x = clip8 (Ideal.div (h x) (hs (ix2 (x 0) ⟨(x 1).val % 128, Nat.mod_lt _ (by decide)⟩))) := by
  unfold k0_pay4 clip8
  pointwise
  have h1 : (x 1).val < 1024 := (x 1).isLt
  congr 3
  split_ifs <;> (congr 2; apply Fin.ext; dsimp only; omega)

/-- One accumulation: the accumulator's tile plus the product of the two tiles. -/
theorem acc_pay (a : Vec Ideal S448x256 .f32) (q : Vec Ideal S448x1024 .fp8e4m3) (w : Vec Ideal S1024x256 .fp8e4m3)
    (x : S448x256.Idx) : k0_pay1 a q w x = a x + ∑ k : Fin 1024, q (ix2 (x 0) k) * w (ix2 k (x 1)) := by
  unfold k0_pay1
  pointwise

/-- A stored tile of the quantised block is that tile of `quantBlk`. -/
theorem quant_tile (h : Vec Ideal S1792x1024 .f32) (hs : Vec Ideal S1792x128 .f32) (o : ℕ)
    (i2 : ∀ a, (![o, 0] : Fin 2 → ℕ) a + (![448, 128] : Fin 2 → ℕ) a ≤ S1792x128.size a)
    (i3 : ∀ a, (![o, 0] : Fin 2 → ℕ) a + (![448, 1024] : Fin 2 → ℕ) a ≤ S1792x1024.size a) (x : S448x1024.Idx) :
    k0_pay4 (View.ld hs (Rect.unit (s := S1792x128) ![o, 0] ![448, 128] i2)) (View.ld h (Rect.unit (s := S1792x1024) ![o, 0] ![448, 1024] i3)) x
      = quantBlk h hs ((Rect.unit (s := S1792x1024) ![o, 0] ![448, 1024] i3).emb x) := by
  rw [quant_pay]
  unfold quantBlk
  congr 2
  rw [View.ld_apply]
  congr 1
  funext a
  apply Fin.ext
  fin_cases a
  · simp [Rect.emb_apply]
  · simp [Rect.emb_apply]

/-- A stored tile of the accumulator is that tile of `accBlk`. -/
theorem acc_tile (P : Vec Ideal S1792x4096 .f32) (h : Vec Ideal S1792x1024 .f32) (hs : Vec Ideal S1792x128 .f32)
    (w : Vec Ideal S1024x4096 .fp8e4m3) (o n : ℕ)
    (i1 : ∀ a, (![o, n] : Fin 2 → ℕ) a + (![448, 256] : Fin 2 → ℕ) a ≤ S1792x4096.size a)
    (i2 : ∀ a, (![o, 0] : Fin 2 → ℕ) a + (![448, 128] : Fin 2 → ℕ) a ≤ S1792x128.size a)
    (i3 : ∀ a, (![o, 0] : Fin 2 → ℕ) a + (![448, 1024] : Fin 2 → ℕ) a ≤ S1792x1024.size a)
    (i4 : ∀ a, (![0, n] : Fin 2 → ℕ) a + (![1024, 256] : Fin 2 → ℕ) a ≤ S1024x4096.size a) (x : S448x256.Idx) :
    k0_pay1 (View.ld P (Rect.unit (s := S1792x4096) ![o, n] ![448, 256] i1))
        (k0_pay4 (View.ld hs (Rect.unit (s := S1792x128) ![o, 0] ![448, 128] i2)) (View.ld h (Rect.unit (s := S1792x1024) ![o, 0] ![448, 1024] i3)))
        (View.ld w (Rect.unit (s := S1024x4096) ![0, n] ![1024, 256] i4)) x
      = accBlk P (quantBlk h hs) w ((Rect.unit (s := S1792x4096) ![o, n] ![448, 256] i1).emb x) := by
  rw [acc_pay]
  unfold accBlk
  congr 1
  refine Finset.sum_congr rfl fun k _ => ?_
  rw [quant_tile]
  congr 2
  · funext a
    apply Fin.ext
    fin_cases a <;> simp [Rect.emb_apply]
  · rw [View.ld_apply]
    congr 1
    funext a
    apply Fin.ext
    fin_cases a <;> simp [Rect.emb_apply]

variable (m : (ℓ : Loc nD τ sig) → Buf (Elt Ideal) ℓ)

set_option maxHeartbeats 4000000 in
/-- At every later point the accumulator gets the point's product added to what the point before left. -/
theorem acc_later (c : Dev nD) (t : Fin cfg0.N) (h0 : ¬ t.val % 14 = 0) :
    (outsAt0 m c t.val t.isLt).2
      = accBlk (outsAt0 m c (t.val - 1) (Nat.lt_of_le_of_lt (Nat.sub_le _ _) t.isLt)).2
          (quantBlk (iblk m c 0 t) (iblk m c 1 t)) (iblk m c 2 t) := by
  rw [outsAt0_B m c t h0]
  dsimp only
  generalize hP : outsAt0 m c (t.val - 1) _ = P
  obtain ⟨P1, P2⟩ := P
  clear hP
  funext y
  have hcov := cover0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) P2 y
  revert hcov
  frame_open
  simp (disch := decide) only [↓ View.readCov_skip, ↓ View.readCov_cons_toLoadRect, ↓ View.readCov_fill]
  frame_out
  intro hcov
  refine View.canon_apply_of_pieces _ _ (View.PiecesOf.mem ?_) y hcov
  repeat' refine And.intro (acc_tile _ _ _ _ _ _ _ _ _ _) ?_
  exact trivial

set_option maxHeartbeats 4000000 in
/-- At the first point the accumulator is the point's product added to zero. -/
theorem acc_first (c : Dev nD) (t : Fin cfg0.N) (h0 : t.val % 14 = 0) :
    (outsAt0 m c t.val t.isLt).2
      = accBlk (fun _ => 0) (quantBlk (iblk m c 0 t) (iblk m c 1 t)) (iblk m c 2 t) := by
  have hz : (fun _ => 0 : Vec Ideal S1792x4096 .f32) = k0_pay3 (F := Ideal) := by
    funext x
    unfold k0_pay3
    pointwise
  rw [outsAt0_A m c t h0, hz]
  dsimp only
  funext y
  have hcov := View.cover_of_tiledL ((kernelRun0_A c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)).2.1.dropLast) S448x256.size (by sl_kernel_rfl) y
  revert hcov
  frame_open
  simp (disch := decide) only [↓ View.readCov_skip, ↓ View.readCov_cons_toLoadRect, ↓ View.readCov_fill]
  frame_out
  intro hcov
  refine View.canon_append_of_piecesOf _ [_] _ ?_ y hcov
  repeat' refine And.intro (acc_tile _ _ _ _ _ _ _ _ _ _) ?_
  exact trivial

set_option maxHeartbeats 4000000 in
/-- Every point leaves the quantised block in the first output. -/
theorem quant_point (c : Dev nD) (t : Fin cfg0.N) :
    (outsAt0 m c t.val t.isLt).1 = quantBlk (iblk m c 0 t) (iblk m c 1 t) := by
  by_cases h0 : t.val % 14 = 0
  · rw [outsAt0_A m c t h0]
    dsimp only
    funext y
    have hcov := cover0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) y
    revert hcov
    frame_out
    intro hcov
    refine View.canon_apply_of_pieces _ _ (View.PiecesOf.mem ?_) y hcov
    repeat' refine And.intro (quant_tile _ _ _ _ _) ?_
    exact trivial
  · rw [outsAt0_B m c t h0]
    dsimp only
    generalize hP : (outsAt0 m c (t.val - 1) _).2 = P2
    clear hP
    funext y
    have hcov := cover0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) P2 y
    revert hcov
    frame_out
    intro hcov
    refine View.canon_apply_of_pieces _ _ (View.PiecesOf.mem ?_) y hcov
    repeat' refine And.intro (quant_tile _ _ _ _ _) ?_
    exact trivial

end Cert.DownIdeal.Hand
end
-- ==== Proof.DownArray.lean ====
module
public import proofs.«01_k».proof.Proof.DownBlock
public import Idealize.ShloMosaic.Lib.Claim

/-! The down projection over the extended reals: the two result arrays after the run. -/

@[expose] public section
set_option maxRecDepth 65536
noncomputable section
namespace Cert.DownIdeal.Hand
open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The hidden activation divided by its row's scale and clipped. -/
def quantArr (h : Vec Ideal S1792x14336 .f32) (hs : Vec Ideal S1792x1 .f32) : Vec Ideal S1792x14336 .fp8e4m3 :=
  fun y => clip8 (Ideal.div (h y) (hs (ix2 (y 0) 0)))

/-- Its product with the weight. -/
def downArr (q : Vec Ideal S1792x14336 .fp8e4m3) (w : Vec Ideal S14336x4096 .fp8e4m3) : Vec Ideal S1792x4096 .f32 :=
  fun y => ∑ k : Fin 14336, q (ix2 (y 0) k) * w (ix2 k (y 1))

/-- The blocks' indices at a grid point. -/
theorem idx0 : ∀ t : Fin cfg0.N, win0_0.index t 0 = 0 ∧ win0_0.index t 1 = t.val := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = t.val := by decide +kernel

/-- The scales the kernel reads are the host's broadcast of the argument. -/
theorem V_scale (c : Dev nD) : V m c main_v0
    = broadcastInDim S1792x128 ![0, 1] bcast_S1792x1_S1792x128_0_1 (m ((c : Thread nD τ).loc main_arg1)) := by
  entry_read
  rfl

/-- A point's quantised block is a block of the quantised array. -/
theorem quant_iblk (c : Dev nD) (t : Fin cfg0.N) (y : S1792x1024.Idx) (i : S1792x14336.Idx) (h0 : (i 0).val = (y 0).val)
    (h1 : (i 1).val = 1024 * t.val + (y 1).val) :
    quantBlk (iblk m c 0 t) (iblk m c 1 t) y
      = quantArr (m ((c : Thread nD τ).loc main_arg0)) (m ((c : Thread nD τ).loc main_arg1)) i := by
  unfold quantBlk quantArr iblk
  blk_simp
  rw [V_scale, V_main_arg0]
  pointwise
  congr 2
  · congr 1
    blk_ext [idx0 t]
  · congr 1
    blk_ext [idx1 t]
    trace_state

/-- The first result array is the quantised array. -/
theorem final_quant (c : Dev nD) : (dats m 0 c).arrAt 3 cfg0.N
    = quantArr (m ((c : Thread nD τ).loc main_arg0)) (m ((c : Thread nD τ).loc main_arg1)) := by
  refine (dats m 0 c).arrAt_eq_of_covers 3 _ (by decide +kernel) fun t hf y => ?_
  blk_simp
  rw [after0_3, quant_point]
  refine quant_iblk m c t _ _ ?_ ?_
  · blk_simp [idx3 t]
  · blk_simp [idx3 t]
    omega

theorem lane_lt (t : Fin cfg0.N) (k : Fin 1024) : t.val * 1024 + k.val < 14336 := by
  have ht : t.val < 14 := lt_of_lt_of_eq t.isLt (show cfg0.N = 14 from N_0)
  have hk := k.isLt
  omega

/-- What a point adds to the accumulator. -/
def term (c : Dev nD) (t : Fin cfg0.N) (y : S1792x4096.Idx) : EReal :=
  ∑ k : Fin 1024, quantArr (m ((c : Thread nD τ).loc main_arg0)) (m ((c : Thread nD τ).loc main_arg1))
      (ix2 (y 0) ⟨t.val * 1024 + k.val, lane_lt t k⟩)
    * (m ((c : Thread nD τ).loc main_arg2) : Vec Ideal S14336x4096 .fp8e4m3) (ix2 ⟨t.val * 1024 + k.val, lane_lt t k⟩ (y 1))

theorem acc_term (c : Dev nD) (t : Fin cfg0.N) (P : Vec Ideal S1792x4096 .f32) (y : S1792x4096.Idx) :
    accBlk P (quantBlk (iblk m c 0 t) (iblk m c 1 t)) (iblk m c 2 t) y = P y + term m c t y := by
  unfold accBlk term
  refine congrArg (P y + ·) (Finset.sum_congr rfl fun k _ => ?_)
  refine congrArg₂ (· * ·) (quant_iblk m c t _ _ rfl ?_) ?_
  · show t.val * 1024 + k.val = 1024 * t.val + k.val
    omega
  · unfold iblk
    blk_simp
    rw [V_main_arg2]
    congr 1
    blk_ext [idx2 t]

/-- The second result array is the quantised array times the weight: the grid's fourteen partial products, one after the other. -/
theorem final_down (c : Dev nD) : (dats m 0 c).arrAt 4 cfg0.N
    = downArr (quantArr (m ((c : Thread nD τ).loc main_arg0)) (m ((c : Thread nD τ).loc main_arg1))) (m ((c : Thread nD τ).loc main_arg2)) := by
  refine (dats m 0 c).arrAt_eq_of_after_last 4 t0_13 (by decide +kernel) _ fun y => ?_
  blk_simp
  rw [after0_4]
  have key := Pipeline.eq_sum_fin_of_reset_step_apply_last (fun n h => (outsAt0 m c n h).2) 14 (fun _ => 0) (term m c)
    (fun t h i => by show (outsAt0 m c t.val t.isLt).2 i = _; rw [acc_first m c t h, acc_term])
    (fun t h i => by show (outsAt0 m c t.val t.isLt).2 i = _; rw [acc_later m c t h, acc_term])
    (by rw [show cfg0.N = 14 from N_0]) t0_13 rfl y
  refine Eq.trans key ?_
  rw [zero_add]
  unfold downArr term
  exact Fin.sum_mul_add_congr fun t k hl => rfl

end Cert.DownIdeal.Hand
end
-- ==== Proof.DownClaim.lean ====
module
public import proofs.«01_k».proof.Defs
public import proofs.«01_k».proof.Proof.DownArray
public import proofs.«01_k».proof.Proof.Gen.DownReferenceIdeal.Value
public import Idealize.ShloMosaic.Lib.Claim

/-! The down projection and its reference end with equal results over the extended reals. -/

@[expose] public section
set_option maxRecDepth 65536
noncomputable section
open Idealize.ShloMosaic Idealize.ShloMosaic.TcCoe Idealize.SL.Sem
namespace Cert.DownReferenceIdeal.Hand
open Cert.DownReferenceIdeal Cert.DownReferenceIdeal.Gen

/-- The reference's first result is the quantised array. -/
theorem ref_quant (h : Vec Ideal S1792x14336 .f32) (hs : Vec Ideal S1792x1 .f32) :
    (k0_pay1 h hs : Vec Ideal S1792x14336 .fp8e4m3) = Cert.DownIdeal.Hand.quantArr h hs := by
  funext y
  unfold k0_pay1 Cert.DownIdeal.Hand.quantArr Cert.DownIdeal.Hand.clip8
  pointwise

/-- The reference's second result is the quantised array times the weight. -/
theorem ref_down (h : Vec Ideal S1792x14336 .f32) (hs : Vec Ideal S1792x1 .f32) (w : Vec Ideal S14336x4096 .fp8e4m3) :
    (k0_pay2 h hs w : Vec Ideal S1792x4096 .f32) = Cert.DownIdeal.Hand.downArr (Cert.DownIdeal.Hand.quantArr h hs) w := by
  funext y
  unfold k0_pay2 Cert.DownIdeal.Hand.downArr
  rw [ref_quant]
  pointwise

end Cert.DownReferenceIdeal.Hand

namespace Cert.Proof

/-- The kernel and the reference, run from memories that agree on the arguments, end with equal results. -/
theorem algebraic_down [Cert.DownIdeal.Facts] [Cert.DownReferenceIdeal.Facts] : Cert.algebraic_DownIdeal_DownReferenceIdeal := by
  pair_intro
  · run_from Cert.DownIdeal.Value.run_blocks m g
  · run_from Cert.DownReferenceIdeal.Value.run m' g'
    · rw [Cert.DownReferenceIdeal.Hand.ref_quant, Cert.DownIdeal.Hand.final_quant]
    · rw [Cert.DownReferenceIdeal.Hand.ref_down, Cert.DownIdeal.Hand.final_down]

end Cert.Proof
end
-- ==== Proof.UpRunA.lean ====
module

public import proofs.«01_k».proof.Proof.Gen.Up.Frame
public import proofs.«01_k».proof.Proof.Gen.Up.Skeleton
public import Idealize.ShloMosaic.Lib.Pipeline.TableIdle

@[expose] public section

set_option maxRecDepth 65536

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body at the first point of its grid: from the inputs' buffers at their blocks and the results' and the scratch at anything, it runs to its end handing back the inputs as they were and the codes, the scales, the activation block and the running maximum with the stored pieces written; the pieces are found by the run. -/
noncomputable def runA (c : Dev nD) (i : grid0.Coords) (arg1 : Memref sig .tc .vmem S1792x1152 .bf16) (harg1 : arg1.IsWhole) (arg2 : Memref sig .tc .vmem S1152x1024 .fp8e4m3) (harg2 : arg2.IsWhole) (arg3 : Memref sig .tc .vmem S1152x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1792x1152 .fp8e4m3) (harg6 : arg6.IsWhole) (arg7 : Memref sig .tc .vmem S1792x128 .f32) (harg7 : arg7.IsWhole) (arg8 : Memref sig .tc .vmem S1792x1024 .f32) (harg8 : arg8.IsWhole) (arg9 : Memref sig .tc .vmem S1792x128 .f32) (harg9 : arg9.IsWhole) (arg10 : Memref sig .tc .vmem S1792x128 .f32) (harg10 : arg10.IsWhole) (hc1 : k0_cond1 i = 1#1) (hc2 : ¬ k0_cond2 i = 1#1)
    (x1 : Vec F S1792x1152 .bf16) (x2 : Vec F S1152x1024 .fp8e4m3) (x3 : Vec F S1152x1024 .fp8e4m3) (x4 : Vec F S1x1024 .f32) (x5 : Vec F S1x1024 .f32) :
    Σ' (L6 : List (View.Piece (Elt F) S1792x1152 .fp8e4m3)) (L7 : List (View.Piece (Elt F) S1792x128 .f32)) (L8 : List (View.Piece (Elt F) S1792x1024 .f32)), { L10 : List (View.Piece (Elt F) S1792x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg10.view.loc (c : Thread nD τ) ↦[arg10.view.set]{fullShare} arg10.view.writes (Elt F) f L10)) -∗ K ⟨⟩))
          ⊢ wp frame (wpE (defs₀ (F := F)) Variants.none c none) E (cc0_proj_up i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_proj_up_eq_skeleton]; unfold cc0_proj_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H10

end Cert.Up.Hand

end
-- ==== Proof.UpRunB.lean ====
module

public import proofs.«01_k».proof.Proof.UpRunA

@[expose] public section

set_option maxRecDepth 65536

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body at a middle point of its grid: the codes and scales stored at the first point are read and left as they were, the activation block is stored whole, and the running maximum is updated over its old contents. -/
noncomputable def runB (c : Dev nD) (i : grid0.Coords) (arg1 : Memref sig .tc .vmem S1792x1152 .bf16) (harg1 : arg1.IsWhole) (arg2 : Memref sig .tc .vmem S1152x1024 .fp8e4m3) (harg2 : arg2.IsWhole) (arg3 : Memref sig .tc .vmem S1152x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1792x1152 .fp8e4m3) (harg6 : arg6.IsWhole) (arg7 : Memref sig .tc .vmem S1792x128 .f32) (harg7 : arg7.IsWhole) (arg8 : Memref sig .tc .vmem S1792x1024 .f32) (harg8 : arg8.IsWhole) (arg9 : Memref sig .tc .vmem S1792x128 .f32) (harg9 : arg9.IsWhole) (arg10 : Memref sig .tc .vmem S1792x128 .f32) (harg10 : arg10.IsWhole) (hc1 : ¬ k0_cond1 i = 1#1) (hc2 : ¬ k0_cond2 i = 1#1)
    (x2 : Vec F S1152x1024 .fp8e4m3) (x3 : Vec F S1152x1024 .fp8e4m3) (x4 : Vec F S1x1024 .f32) (x5 : Vec F S1x1024 .f32) (x6 : Vec F S1792x1152 .fp8e4m3) (x7 : Vec F S1792x128 .f32) (x10 : Vec F S1792x128 .f32) :
    Σ' (L8 : List (View.Piece (Elt F) S1792x1024 .f32)), { L10 : List (View.Piece (Elt F) S1792x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg10 fullShare x10
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg10.view.loc (c : Thread nD τ) ↦[arg10.view.set]{fullShare} arg10.view.writes (Elt F) f L10)) -∗ K ⟨⟩))
          ⊢ wp frame (wpE (defs₀ (F := F)) Variants.none c none) E (cc0_proj_up i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0_proj_up_eq_skeleton]; unfold cc0_proj_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H10

end Cert.Up.Hand

end
-- ==== Proof.UpRunC.lean ====
module

public import proofs.«01_k».proof.Proof.UpRunB

@[expose] public section

set_option maxRecDepth 65536

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body at the last point of its grid: as at a middle point, and afterwards the scale result is stored whole. -/
noncomputable def runC (c : Dev nD) (i : grid0.Coords) (arg1 : Memref sig .tc .vmem S1792x1152 .bf16) (harg1 : arg1.IsWhole) (arg2 : Memref sig .tc .vmem S1152x1024 .fp8e4m3) (harg2 : arg2.IsWhole) (arg3 : Memref sig .tc .vmem S1152x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1792x1152 .fp8e4m3) (harg6 : arg6.IsWhole) (arg7 : Memref sig .tc .vmem S1792x128 .f32) (harg7 : arg7.IsWhole) (arg8 : Memref sig .tc .vmem S1792x1024 .f32) (harg8 : arg8.IsWhole) (arg9 : Memref sig .tc .vmem S1792x128 .f32) (harg9 : arg9.IsWhole) (arg10 : Memref sig .tc .vmem S1792x128 .f32) (harg10 : arg10.IsWhole) (hc1 : ¬ k0_cond1 i = 1#1) (hc2 : k0_cond2 i = 1#1)
    (x2 : Vec F S1152x1024 .fp8e4m3) (x3 : Vec F S1152x1024 .fp8e4m3) (x4 : Vec F S1x1024 .f32) (x5 : Vec F S1x1024 .f32) (x6 : Vec F S1792x1152 .fp8e4m3) (x7 : Vec F S1792x128 .f32) (x10 : Vec F S1792x128 .f32) :
    Σ' (L8 : List (View.Piece (Elt F) S1792x1024 .f32)) (L9 : List (View.Piece (Elt F) S1792x128 .f32)), { L10 : List (View.Piece (Elt F) S1792x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare x10
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0_proj_up i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_proj_up_eq_skeleton]; unfold cc0_proj_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    iexists _; iexact H10

end Cert.Up.Hand

end
-- ==== Proof.UpBody.lean ====
module

public import proofs.«01_k».proof.Proof.UpRunC
public import Idealize.ShloMosaic.Lib.Claim

@[expose] public section

set_option maxRecDepth 65536

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions, the schedule and the staging memrefs -/

/-- The body's first branch is taken at the first point only. -/
theorem hcond1 : ∀ t : Fin cfg0.N, k0_cond1 (grid0.coords t) = 1#1 ↔ t.val = 0 := by decide +kernel
/-- The body's second branch is taken at the last point only. -/
theorem hcond2 : ∀ t : Fin cfg0.N, k0_cond2 (grid0.coords t) = 1#1 ↔ t.val = 13 := by decide +kernel
/-- After the first point, result window 5's buffer holds what an earlier point stored. -/
theorem fresh5 : ∀ t : Fin cfg0.N, t.val ≠ 0 → cfg0.fresh 5 t.val = false := by decide +kernel
/-- After the first point, result window 6's buffer holds what an earlier point stored. -/
theorem fresh6 : ∀ t : Fin cfg0.N, t.val ≠ 0 → cfg0.fresh 6 t.val = false := by decide +kernel
/-- Result window 5 is stored at the first point only. -/
theorem idle5 : ∀ t : Fin cfg0.N, idle0 5 (grid0.coords t) = !(t.val == 0) := by decide +kernel
/-- Result window 6 is stored at the first point only. -/
theorem idle6 : ∀ t : Fin cfg0.N, idle0 6 (grid0.coords t) = !(t.val == 0) := by decide +kernel
/-- Result window 8 is stored at the last point only. -/
theorem idle8 : ∀ t : Fin cfg0.N, idle0 8 (grid0.coords t) = !(t.val == 13) := by decide +kernel
/-- Result window 5 is written back after the last point only. -/
theorem fl5 : ∀ t : Fin cfg0.N, (win0 5).flush t = (t.val == 13) := by decide +kernel
/-- Result window 6 is written back after the last point only. -/
theorem fl6 : ∀ t : Fin cfg0.N, (win0 6).flush t = (t.val == 13) := by decide +kernel
/-- Result window 8 is written back after the last point only. -/
theorem fl8 : ∀ t : Fin cfg0.N, (win0 8).flush t = (t.val == 13) := by decide +kernel

/-- Window 0's staging memref at a point. -/
abbrev ms0 (t : Fin cfg0.N) : Memref sig .tc .vmem S1792x1152 .bf16 := win0_0.stage (cfg0.slots t 0)
/-- It is a whole buffer. -/
abbrev hs0 (t : Fin cfg0.N) : (ms0 t).IsWhole := hstage0_0 ((cfg0.slots t 0).cast nbuf0_0)
/-- Window 1's staging memref at a point. -/
abbrev ms1 (t : Fin cfg0.N) : Memref sig .tc .vmem S1152x1024 .fp8e4m3 := win0_1.stage (cfg0.slots t 1)
/-- It is a whole buffer. -/
abbrev hs1 (t : Fin cfg0.N) : (ms1 t).IsWhole := hstage0_1 ((cfg0.slots t 1).cast nbuf0_1)
/-- Window 2's staging memref at a point. -/
abbrev ms2 (t : Fin cfg0.N) : Memref sig .tc .vmem S1152x1024 .fp8e4m3 := win0_2.stage (cfg0.slots t 2)
/-- It is a whole buffer. -/
abbrev hs2 (t : Fin cfg0.N) : (ms2 t).IsWhole := hstage0_2 ((cfg0.slots t 2).cast nbuf0_2)
/-- Window 3's staging memref at a point. -/
abbrev ms3 (t : Fin cfg0.N) : Memref sig .tc .vmem S1x1024 .f32 := win0_3.stage (cfg0.slots t 3)
/-- It is a whole buffer. -/
abbrev hs3 (t : Fin cfg0.N) : (ms3 t).IsWhole := hstage0_3 ((cfg0.slots t 3).cast nbuf0_3)
/-- Window 4's staging memref at a point. -/
abbrev ms4 (t : Fin cfg0.N) : Memref sig .tc .vmem S1x1024 .f32 := win0_4.stage (cfg0.slots t 4)
/-- It is a whole buffer. -/
abbrev hs4 (t : Fin cfg0.N) : (ms4 t).IsWhole := hstage0_4 ((cfg0.slots t 4).cast nbuf0_4)
/-- Window 5's staging memref at a point. -/
abbrev ms5 (t : Fin cfg0.N) : Memref sig .tc .vmem S1792x1152 .fp8e4m3 := win0_5.stage (cfg0.slots t 5)
/-- It is a whole buffer. -/
abbrev hs5 (t : Fin cfg0.N) : (ms5 t).IsWhole := hstage0_5 ((cfg0.slots t 5).cast nbuf0_5)
/-- Window 6's staging memref at a point. -/
abbrev ms6 (t : Fin cfg0.N) : Memref sig .tc .vmem S1792x128 .f32 := win0_6.stage (cfg0.slots t 6)
/-- It is a whole buffer. -/
abbrev hs6 (t : Fin cfg0.N) : (ms6 t).IsWhole := hstage0_6 ((cfg0.slots t 6).cast nbuf0_6)
/-- Window 7's staging memref at a point. -/
abbrev ms7 (t : Fin cfg0.N) : Memref sig .tc .vmem S1792x1024 .f32 := win0_7.stage (cfg0.slots t 7)
/-- It is a whole buffer. -/
abbrev hs7 (t : Fin cfg0.N) : (ms7 t).IsWhole := hstage0_7 ((cfg0.slots t 7).cast nbuf0_7)
/-- Window 8's staging memref at a point. -/
abbrev ms8 (t : Fin cfg0.N) : Memref sig .tc .vmem S1792x128 .f32 := win0_8.stage (cfg0.slots t 8)
/-- It is a whole buffer. -/
abbrev hs8 (t : Fin cfg0.N) : (ms8 t).IsWhole := hstage0_8 ((cfg0.slots t 8).cast nbuf0_8)
/-- The scratch buffer. -/
abbrev mS : Memref sig .tc .vmem S1792x128 .f32 := Memref.whole cc0_scratch0
/-- A buffer through which the contents of kernel operand 6 are stated. -/
abbrev VO6 : View sig .tc .vmem S1792x1152 .fp8e4m3 := (Memref.whole cc0_stg5_0 : Memref sig .tc .vmem S1792x1152 .fp8e4m3).view
/-- A buffer through which the contents of kernel operand 7 are stated. -/
abbrev VO7 : View sig .tc .vmem S1792x128 .f32 := (Memref.whole cc0_stg6_0 : Memref sig .tc .vmem S1792x128 .f32).view
/-- A buffer through which the contents of kernel operand 8 are stated. -/
abbrev VO8 : View sig .tc .vmem S1792x1024 .f32 := (Memref.whole cc0_stg7_0 : Memref sig .tc .vmem S1792x1024 .f32).view
/-- A buffer through which the contents of kernel operand 9 are stated. -/
abbrev VO9 : View sig .tc .vmem S1792x128 .f32 := (Memref.whole cc0_stg8_0 : Memref sig .tc .vmem S1792x128 .f32).view
/-- A buffer through which the contents of kernel operand 10 are stated. -/
abbrev VO10 : View sig .tc .vmem S1792x128 .f32 := (Memref.whole cc0_scratch0 : Memref sig .tc .vmem S1792x128 .f32).view

/-! ## The three runs at a point, their pieces covering the buffers they store -/

/-- The first point's run, at the point's memrefs and blocks. -/
abbrev atA (c : Dev nD) (t : Fin cfg0.N) (h0 : t.val = 0) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) mS (Memref.isWhole_whole _) ((hcond1 t).mpr h0) (fun h => by have := (hcond2 t).mp h; omega) (iblk m c 0 t) (iblk m c 1 t) (iblk m c 2 t) (iblk m c 3 t) (iblk m c 4 t)
/-- A middle point's run, over the codes, the scales and the running maximum it finds. -/
abbrev atB (c : Dev nD) (t : Fin cfg0.N) (h0 : t.val ≠ 0) (h1 : t.val ≠ 13) (x6 : Vec F S1792x1152 .fp8e4m3) (x7 : Vec F S1792x128 .f32) (x10 : Vec F S1792x128 .f32) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) mS (Memref.isWhole_whole _) (fun h => h0 ((hcond1 t).mp h)) (fun h => h1 ((hcond2 t).mp h)) (iblk m c 1 t) (iblk m c 2 t) (iblk m c 3 t) (iblk m c 4 t) x6 x7 x10
/-- The last point's run, over the codes, the scales and the running maximum it finds. -/
abbrev atC (c : Dev nD) (t : Fin cfg0.N) (h1 : t.val = 13) (x6 : Vec F S1792x1152 .fp8e4m3) (x7 : Vec F S1792x128 .f32) (x10 : Vec F S1792x128 .f32) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) mS (Memref.isWhole_whole _) (fun h => by have := (hcond1 t).mp h; omega) ((hcond2 t).mpr h1) (iblk m c 1 t) (iblk m c 2 t) (iblk m c 3 t) (iblk m c 4 t) x6 x7 x10

/-- At the first point the stores into operand 6 cover its buffer. -/
theorem covA6 (c : Dev nD) (t : Fin cfg0.N) (h0 : t.val = 0) (y : S1792x1152.Idx) : ∃ pc ∈ (atA m c t h0).1, y ∈ pc.1.set :=
  View.cover_of_tiledL (atA m c t h0).1 S128x1152.size (by sl_kernel_rfl) y
/-- What the first point leaves in operand 6's buffer. -/
def outA6 (c : Dev nD) (t : Fin cfg0.N) (h0 : t.val = 0) : Vec F S1792x1152 .fp8e4m3 := VO6.read (Elt F) (VO6.writes (Elt F) VO6.junk (atA m c t h0).1)
/-- At the first point the stores into operand 7 cover its buffer. -/
theorem covA7 (c : Dev nD) (t : Fin cfg0.N) (h0 : t.val = 0) (y : S1792x128.Idx) : ∃ pc ∈ (atA m c t h0).2.1, y ∈ pc.1.set :=
  View.cover_of_tiledL (atA m c t h0).2.1 S128x128.size (by sl_kernel_rfl) y
/-- What the first point leaves in operand 7's buffer. -/
def outA7 (c : Dev nD) (t : Fin cfg0.N) (h0 : t.val = 0) : Vec F S1792x128 .f32 := VO7.read (Elt F) (VO7.writes (Elt F) VO7.junk (atA m c t h0).2.1)
/-- At the first point the stores into operand 8 cover its buffer. -/
theorem covA8 (c : Dev nD) (t : Fin cfg0.N) (h0 : t.val = 0) (y : S1792x1024.Idx) : ∃ pc ∈ (atA m c t h0).2.2.1, y ∈ pc.1.set :=
  View.cover_of_tiledL (atA m c t h0).2.2.1 S448x256.size (by sl_kernel_rfl) y
/-- What the first point leaves in operand 8's buffer. -/
def outA8 (c : Dev nD) (t : Fin cfg0.N) (h0 : t.val = 0) : Vec F S1792x1024 .f32 := VO8.read (Elt F) (VO8.writes (Elt F) VO8.junk (atA m c t h0).2.2.1)
/-- At the first point the stores into operand 10 cover its buffer. -/
theorem covA10 (c : Dev nD) (t : Fin cfg0.N) (h0 : t.val = 0) (y : S1792x128.Idx) : ∃ pc ∈ (atA m c t h0).2.2.2.1, y ∈ pc.1.set :=
  (View.cover_of_tiledL ((atA m c t h0).2.2.2.1.take 4) S448x128.size (by sl_kernel_rfl) y).imp fun _ h => ⟨List.mem_of_mem_take h.1, h.2⟩
/-- What the first point leaves in operand 10's buffer. -/
def outA10 (c : Dev nD) (t : Fin cfg0.N) (h0 : t.val = 0) : Vec F S1792x128 .f32 := VO10.read (Elt F) (VO10.writes (Elt F) VO10.junk (atA m c t h0).2.2.2.1)
/-- At a middle point the stores into operand 8 cover its buffer. -/
theorem covB8 (c : Dev nD) (t : Fin cfg0.N) (h0 : t.val ≠ 0) (h1 : t.val ≠ 13) (x6 : Vec F S1792x1152 .fp8e4m3) (x7 : Vec F S1792x128 .f32) (x10 : Vec F S1792x128 .f32) (y : S1792x1024.Idx) : ∃ pc ∈ (atB m c t h0 h1 x6 x7 x10).1, y ∈ pc.1.set :=
  View.cover_of_tiledL (atB m c t h0 h1 x6 x7 x10).1 S448x256.size (by sl_kernel_rfl) y
/-- What a middle point leaves in operand 8's buffer. -/
def outB8 (c : Dev nD) (t : Fin cfg0.N) (h0 : t.val ≠ 0) (h1 : t.val ≠ 13) (x6 : Vec F S1792x1152 .fp8e4m3) (x7 : Vec F S1792x128 .f32) (x10 : Vec F S1792x128 .f32) : Vec F S1792x1024 .f32 := VO8.read (Elt F) (VO8.writes (Elt F) VO8.junk (atB m c t h0 h1 x6 x7 x10).1)
/-- At a middle point the stores into operand 10 cover its buffer. -/
theorem covB10 (c : Dev nD) (t : Fin cfg0.N) (h0 : t.val ≠ 0) (h1 : t.val ≠ 13) (x6 : Vec F S1792x1152 .fp8e4m3) (x7 : Vec F S1792x128 .f32) (x10 : Vec F S1792x128 .f32) (y : S1792x128.Idx) : ∃ pc ∈ (atB m c t h0 h1 x6 x7 x10).2.1, y ∈ pc.1.set :=
  (View.cover_of_tiledL ((atB m c t h0 h1 x6 x7 x10).2.1.take 4) S448x128.size (by sl_kernel_rfl) y).imp fun _ h => ⟨List.mem_of_mem_take h.1, h.2⟩
/-- What a middle point leaves in operand 10's buffer. -/
def outB10 (c : Dev nD) (t : Fin cfg0.N) (h0 : t.val ≠ 0) (h1 : t.val ≠ 13) (x6 : Vec F S1792x1152 .fp8e4m3) (x7 : Vec F S1792x128 .f32) (x10 : Vec F S1792x128 .f32) : Vec F S1792x128 .f32 := VO10.read (Elt F) (VO10.writes (Elt F) VO10.junk (atB m c t h0 h1 x6 x7 x10).2.1)
/-- At the last point the stores into operand 8 cover its buffer. -/
theorem covC8 (c : Dev nD) (t : Fin cfg0.N) (h1 : t.val = 13) (x6 : Vec F S1792x1152 .fp8e4m3) (x7 : Vec F S1792x128 .f32) (x10 : Vec F S1792x128 .f32) (y : S1792x1024.Idx) : ∃ pc ∈ (atC m c t h1 x6 x7 x10).1, y ∈ pc.1.set :=
  View.cover_of_tiledL (atC m c t h1 x6 x7 x10).1 S448x256.size (by sl_kernel_rfl) y
/-- What the last point leaves in operand 8's buffer. -/
def outC8 (c : Dev nD) (t : Fin cfg0.N) (h1 : t.val = 13) (x6 : Vec F S1792x1152 .fp8e4m3) (x7 : Vec F S1792x128 .f32) (x10 : Vec F S1792x128 .f32) : Vec F S1792x1024 .f32 := VO8.read (Elt F) (VO8.writes (Elt F) VO8.junk (atC m c t h1 x6 x7 x10).1)
/-- At the last point the stores into operand 9 cover its buffer. -/
theorem covC9 (c : Dev nD) (t : Fin cfg0.N) (h1 : t.val = 13) (x6 : Vec F S1792x1152 .fp8e4m3) (x7 : Vec F S1792x128 .f32) (x10 : Vec F S1792x128 .f32) (y : S1792x128.Idx) : ∃ pc ∈ (atC m c t h1 x6 x7 x10).2.1, y ∈ pc.1.set :=
  View.cover_of_tiledL (atC m c t h1 x6 x7 x10).2.1 S128x128.size (by sl_kernel_rfl) y
/-- What the last point leaves in operand 9's buffer. -/
def outC9 (c : Dev nD) (t : Fin cfg0.N) (h1 : t.val = 13) (x6 : Vec F S1792x1152 .fp8e4m3) (x7 : Vec F S1792x128 .f32) (x10 : Vec F S1792x128 .f32) : Vec F S1792x128 .f32 := VO9.read (Elt F) (VO9.writes (Elt F) VO9.junk (atC m c t h1 x6 x7 x10).2.1)
/-- At the last point the stores into operand 10 cover its buffer. -/
theorem covC10 (c : Dev nD) (t : Fin cfg0.N) (h1 : t.val = 13) (x6 : Vec F S1792x1152 .fp8e4m3) (x7 : Vec F S1792x128 .f32) (x10 : Vec F S1792x128 .f32) (y : S1792x128.Idx) : ∃ pc ∈ (atC m c t h1 x6 x7 x10).2.2.1, y ∈ pc.1.set :=
  (View.cover_of_tiledL ((atC m c t h1 x6 x7 x10).2.2.1.take 4) S448x128.size (by sl_kernel_rfl) y).imp fun _ h => ⟨List.mem_of_mem_take h.1, h.2⟩
/-- What the last point leaves in operand 10's buffer. -/
def outC10 (c : Dev nD) (t : Fin cfg0.N) (h1 : t.val = 13) (x6 : Vec F S1792x1152 .fp8e4m3) (x7 : Vec F S1792x128 .f32) (x10 : Vec F S1792x128 .f32) : Vec F S1792x128 .f32 := VO10.read (Elt F) (VO10.writes (Elt F) VO10.junk (atC m c t h1 x6 x7 x10).2.2.1)

/-! ## What the buffers hold point by point -/

theorem h0lt : 0 < cfg0.N := by decide
/-- The codes: stored at the first point, kept to the end. -/
def xcAt (c : Dev nD) : Vec F S1792x1152 .fp8e4m3 := outA6 m c ⟨0, h0lt⟩ rfl
/-- The scales: stored at the first point, kept to the end. -/
def xsAt (c : Dev nD) : Vec F S1792x128 .f32 := outA7 m c ⟨0, h0lt⟩ rfl
/-- The running maximum after each point. -/
def stAt (c : Dev nD) : (n : ℕ) → n < cfg0.N → Vec F S1792x128 .f32
  | 0, hn => outA10 m c ⟨0, hn⟩ rfl
  | n + 1, hn =>
    if h1 : n + 1 = 13 then outC10 m c ⟨n + 1, hn⟩ h1 (xcAt m c) (xsAt m c) (stAt c n (Nat.lt_of_succ_lt hn))
    else outB10 m c ⟨n + 1, hn⟩ (Nat.succ_ne_zero n) h1 (xcAt m c) (xsAt m c) (stAt c n (Nat.lt_of_succ_lt hn))
/-- The running maximum a point after the first finds. -/
def prAt (c : Dev nD) (t : Fin cfg0.N) : Vec F S1792x128 .f32 := stAt m c (t.val - 1) (Nat.lt_of_le_of_lt (Nat.sub_le _ _) t.isLt)
/-- The activation block after each point. -/
def hAt (c : Dev nD) (t : Fin cfg0.N) : Vec F S1792x1024 .f32 :=
  if h0 : t.val = 0 then outA8 m c t h0
  else if h1 : t.val = 13 then outC8 m c t h1 (xcAt m c) (xsAt m c) (prAt m c t)
  else outB8 m c t h0 h1 (xcAt m c) (xsAt m c) (prAt m c t)
/-- The activation's scales: stored at the last point. -/
def hsAt (c : Dev nD) (t : Fin cfg0.N) : Vec F S1792x128 .f32 :=
  if h1 : t.val = 13 then outC9 m c t h1 (xcAt m c) (xsAt m c) (prAt m c t) else VO9.read (Elt F) VO9.junk

/-- The running maximum after a middle point. -/
theorem stAt_B (c : Dev nD) (t : Fin cfg0.N) (h0 : t.val ≠ 0) (h1 : t.val ≠ 13) :
    stAt m c t.val t.isLt = outB10 m c t h0 h1 (xcAt m c) (xsAt m c) (prAt m c t) := by
  obtain ⟨n, hn⟩ := t
  cases n with
  | zero => exact absurd rfl h0
  | succ n => exact (dif_neg h1).trans rfl
/-- The running maximum after the last point. -/
theorem stAt_C (c : Dev nD) (t : Fin cfg0.N) (h1 : t.val = 13) :
    stAt m c t.val t.isLt = outC10 m c t h1 (xcAt m c) (xsAt m c) (prAt m c t) := by
  obtain ⟨n, hn⟩ := t
  cases n with
  | zero => exact absurd h1 (by simp)
  | succ n => exact (dif_pos h1).trans rfl
/-- The running maximum after the first point. -/
theorem stAt_A (c : Dev nD) (t : Fin cfg0.N) (h0 : t.val = 0) : stAt m c t.val t.isLt = outA10 m c t h0 := by
  obtain ⟨n, hn⟩ := t
  cases n with
  | zero => exact rfl
  | succ n => exact absurd h0 (Nat.succ_ne_zero n)

/-- The invariant between points: the scratch at the running maximum (before the first point: at anything), and the
    generator register at some state. -/
def PhiS (c : Dev nD) : (n : ℕ) → n ≤ cfg0.N → sProp 𝕄
  | 0, _ => Pipeline.ΦA spec0 c
  | n + 1, h => iprop(owns (c : Thread nD τ) mS fullShare (stAt m c n h) ∗ ∃ r, prngReg c r)

/-- The proof data: arrays as the region finds them, after each point the inputs at their blocks and the results at
    the contents above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => xcAt m c
    | ⟨6, _⟩ => xsAt m c
    | ⟨7, _⟩ => hAt m c t
    | ⟨8, _⟩ => hsAt m c t
  Φ t := PhiS m c t.val (Nat.le_of_lt_succ t.isLt)
  q _ := fullShare
  owed _ := 0

/-- The arrays are the region-entry contents. -/
theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = xcAt m c := by dsimp only [dats]
theorem after6 (c : Dev nD) (t : Fin cfg0.N) : (dats m 0 c).after 6 t = xsAt m c := by dsimp only [dats]
theorem after7 (c : Dev nD) (t : Fin cfg0.N) : (dats m 0 c).after 7 t = hAt m c t := by dsimp only [dats]
theorem after8 (c : Dev nD) (t : Fin cfg0.N) : (dats m 0 c).after 8 t = hsAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
/-- After the first point, window 5's buffer holds what the first point stored. -/
theorem before5 (c : Dev nD) (t : Fin cfg0.N) (h0 : t.val ≠ 0) (d) : (dats m 0 c).before 5 t d = xcAt m c := by
  rw [Dat.before_out_traj (dats m 0 c) 5 rfl (fun _ _ => rfl) (fun t _ _ _ => by rw [after5, after5]) _ t rfl d, fresh5 t h0,
    if_neg Bool.false_ne_true, after5]
/-- After the first point, window 6's buffer holds what the first point stored. -/
theorem before6 (c : Dev nD) (t : Fin cfg0.N) (h0 : t.val ≠ 0) (d) : (dats m 0 c).before 6 t d = xsAt m c := by
  rw [Dat.before_out_traj (dats m 0 c) 6 rfl (fun _ _ => rfl) (fun t _ _ _ => by rw [after6, after6]) _ t rfl d, fresh6 t h0,
    if_neg Bool.false_ne_true, after6]

/-! ## The body at each kind of point -/

set_option maxHeartbeats 1600000 in
/-- The body's triple at a first point: from the invariant and the buffers at what they hold to the invariant after the
    point and the buffers at what the point leaves. -/
theorem soundA (c : Dev nD) (t : Fin cfg0.N) (h0 : t.val = 0) :
    iprop((dats m 0 c).Φ t.castSucc ∗ (dats m 0 c).owesAt () t.castSucc
      ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ (∃ d, owns (c : Thread nD τ) (ms8 t) fullShare ((dats m 0 c).before 8 t d)))) := by
  unfold bodyAt0
  simp only [before0, before1, before2, before3, before4, after0, after1, after2, after3, after4, after5, after6, after7, after8]
  rw [show (dats m 0 c).owesAt () t.succ = (dats m 0 c).owesAt () t.castSucc from rfl]
  rw [show (dats m 0 c).Φ t.succ = iprop(owns (c : Thread nD τ) mS fullShare (stAt m c t.val t.isLt) ∗ ∃ r, prngReg c r) from rfl]
  rw [show (dats m 0 c).Φ t.castSucc = Pipeline.ΦA spec0 c from by
    obtain ⟨n, hn⟩ := t; simp only at h0; subst h0; rfl]
  unfold Pipeline.ΦA; rw [scopedRest0_eq]
  have e5 : xcAt m c = outA6 m c t h0 := by obtain ⟨n, hn⟩ := t; simp only at h0; subst h0; rfl
  have e6 : xsAt m c = outA7 m c t h0 := by obtain ⟨n, hn⟩ := t; simp only at h0; subst h0; rfl
  have e7 : hAt m c t = outA8 m c t h0 := by unfold hAt; rw [dif_pos h0]
  rw [e5, e6, e7, stAt_A m c t h0]
  iintro ⟨⟨⟨%fs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply ((atA m c t h0).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS]
  · iexists fs; unfold mS; rw [owns_whole_eq]; iexists fs; isplitr; swap; · iexact HS
    ipureintro; rfl
  iintro ⟨H0, H1, H2, H3, H4, ⟨%e5, H5⟩, ⟨%e6, H6⟩, ⟨%e7, H7⟩, ⟨%eS, HS⟩⟩
  isplitl [HS HR]
  · isplitr [HR]
    · unfold owns; iexists _; isplitr
      swap; · iexact HS
      ipureintro; exact View.read_writes_of_cover _ _ _ _ _ (covA10 m c t h0)
    iexact HR
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (covA6 m c t h0)
  isplitl [H6]
  · unfold owns; iexists _; isplitr
    swap; · iexact H6
    ipureintro; exact View.read_writes_of_cover _ _ _ _ _ (covA7 m c t h0)
  isplitl [H7]
  · unfold owns; iexists _; isplitr
    swap; · iexact H7
    ipureintro; exact View.read_writes_of_cover _ _ _ _ _ (covA8 m c t h0)
  iexact H8

set_option maxHeartbeats 1600000 in
/-- The body's triple at a middle point: from the invariant and the buffers at what they hold to the invariant after the
    point and the buffers at what the point leaves. -/
theorem soundB (c : Dev nD) (t : Fin cfg0.N) (h0 : t.val ≠ 0) (h1 : t.val ≠ 13) :
    iprop((dats m 0 c).Φ t.castSucc ∗ (dats m 0 c).owesAt () t.castSucc
      ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ (∃ d, owns (c : Thread nD τ) (ms5 t) fullShare ((dats m 0 c).before 5 t d)) ∗ (∃ d, owns (c : Thread nD τ) (ms6 t) fullShare ((dats m 0 c).before 6 t d)) ∗ owns (c : Thread nD τ) (ms7 t) fullShare ((dats m 0 c).after 7 t) ∗ (∃ d, owns (c : Thread nD τ) (ms8 t) fullShare ((dats m 0 c).before 8 t d)))) := by
  unfold bodyAt0
  have hz : t.val ≠ 0 := by omega
  simp only [before0, before1, before2, before3, before4, before5 m c t hz, before6 m c t hz, after0, after1, after2, after3, after4, after5, after6, after7, after8]
  rw [show (dats m 0 c).owesAt () t.succ = (dats m 0 c).owesAt () t.castSucc from rfl]
  rw [show (dats m 0 c).Φ t.succ = iprop(owns (c : Thread nD τ) mS fullShare (stAt m c t.val t.isLt) ∗ ∃ r, prngReg c r) from rfl]
  rw [show (dats m 0 c).Φ t.castSucc = iprop(owns (c : Thread nD τ) mS fullShare (prAt m c t) ∗ ∃ r, prngReg c r) from by
    obtain ⟨n, hn⟩ := t
    cases n with
    | zero => exact absurd rfl hz
    | succ n => rfl]
  have e7 : hAt m c t = outB8 m c t h0 h1 (xcAt m c) (xsAt m c) (prAt m c t) := by
    unfold hAt; rw [dif_neg hz, dif_neg h1]
  rw [e7, stAt_B m c t h0 h1]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply ((atB m c t h0 h1 (xcAt m c) (xsAt m c) (prAt m c t)).2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  iintro ⟨H1, H2, H3, H4, H5, H6, ⟨%e7, H7⟩, ⟨%eS, HS⟩⟩
  isplitl [HS HR]
  · isplitr [HR]
    · unfold owns; iexists _; isplitr
      swap; · iexact HS
      ipureintro; exact View.read_writes_of_cover _ _ _ _ _ (covB10 m c t h0 h1 _ _ _)
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]
  · unfold owns; iexists _; isplitr
    swap; · iexact H7
    ipureintro; exact View.read_writes_of_cover _ _ _ _ _ (covB8 m c t h0 h1 _ _ _)
  iexact H8

set_option maxHeartbeats 1600000 in
/-- The body's triple at a last point: from the invariant and the buffers at what they hold to the invariant after the
    point and the buffers at what the point leaves. -/
theorem soundC (c : Dev nD) (t : Fin cfg0.N) (h1 : t.val = 13) :
    iprop((dats m 0 c).Φ t.castSucc ∗ (dats m 0 c).owesAt () t.castSucc
      ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t))) := by
  unfold bodyAt0
  have hz : t.val ≠ 0 := by omega
  simp only [before0, before1, before2, before3, before4, before5 m c t hz, before6 m c t hz, after0, after1, after2, after3, after4, after5, after6, after7, after8]
  rw [show (dats m 0 c).owesAt () t.succ = (dats m 0 c).owesAt () t.castSucc from rfl]
  rw [show (dats m 0 c).Φ t.succ = iprop(owns (c : Thread nD τ) mS fullShare (stAt m c t.val t.isLt) ∗ ∃ r, prngReg c r) from rfl]
  rw [show (dats m 0 c).Φ t.castSucc = iprop(owns (c : Thread nD τ) mS fullShare (prAt m c t) ∗ ∃ r, prngReg c r) from by
    obtain ⟨n, hn⟩ := t
    cases n with
    | zero => exact absurd rfl hz
    | succ n => rfl]
  have e7 : hAt m c t = outC8 m c t h1 (xcAt m c) (xsAt m c) (prAt m c t) := by
    unfold hAt; rw [dif_neg hz, dif_pos h1]
  have e8 : hsAt m c t = outC9 m c t h1 (xcAt m c) (xsAt m c) (prAt m c t) := by unfold hsAt; rw [dif_pos h1]
  rw [e7, e8, stAt_C m c t h1]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atC m c t h1 (xcAt m c) (xsAt m c) (prAt m c t)).2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H1, H2, H3, H4, H5, H6, ⟨%e7, H7⟩, ⟨%e8, H8⟩, ⟨%eS, HS⟩⟩
  isplitl [HS HR]
  · isplitr [HR]
    · unfold owns; iexists _; isplitr
      swap; · iexact HS
      ipureintro; exact View.read_writes_of_cover _ _ _ _ _ (covC10 m c t h1 _ _ _)
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (covC8 m c t h1 _ _ _)
  unfold owns; iexists _; isplitr
  swap; · iexact H8
  ipureintro; exact View.read_writes_of_cover _ _ _ _ _ (covC9 m c t h1 _ _ _)

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  by_cases h0 : t.val = 0
  · have i5 : idle0 5 (grid0.coords t) = false := by rw [idle5, h0]; rfl
    have i6 : idle0 6 (grid0.coords t) = false := by rw [idle6, h0]; rfl
    have i8 : idle0 8 (grid0.coords t) = true := by rw [idle8, h0]; rfl
    have f8 : (win0 8).flush t = false := by rw [fl8, h0]; rfl
    simp only [i5, i6, i8, f8]
    exact triple_restated (soundA m c t h0) rfl .rfl fun _ => .rfl
  · have i5 : idle0 5 (grid0.coords t) = true := by rw [idle5, beq_false_of_ne h0]; rfl
    have i6 : idle0 6 (grid0.coords t) = true := by rw [idle6, beq_false_of_ne h0]; rfl
    by_cases h1 : t.val = 13
    · have i8 : idle0 8 (grid0.coords t) = false := by rw [idle8, h1]; rfl
      have f5 : (win0 5).flush t = true := by rw [fl5, h1]; rfl
      have f6 : (win0 6).flush t = true := by rw [fl6, h1]; rfl
      simp only [i5, i6, i8, f5, f6]
      exact triple_restated (soundC m c t h1) rfl .rfl fun _ => .rfl
    · have i8 : idle0 8 (grid0.coords t) = true := by rw [idle8, beq_false_of_ne h1]; rfl
      have f5 : (win0 5).flush t = false := by rw [fl5, beq_false_of_ne h1]
      have f6 : (win0 6).flush t = false := by rw [fl6, beq_false_of_ne h1]
      have f8 : (win0 8).flush t = false := by rw [fl8, beq_false_of_ne h1]
      simp only [i5, i6, i8, f5, f6, f8]
      exact triple_restated (soundB m c t h0 h1) rfl .rfl fun _ => .rfl

/-- The class's invariant is the invariant before the first point. -/
theorem hin (c : Dev nD) : (Pipeline.ΦA spec0 c : sProp 𝕄) ⊢ (dats m 0 c).Φ 0 := .rfl

/-- After the last point the scratch's contents are forgotten. -/
theorem hout (c : Dev nD) : (dats m 0 c).Φ (Fin.last cfg0.N) ⊢ (Pipeline.ΦA spec0 c : sProp 𝕄) := by
  rw [show (dats m 0 c).Φ (Fin.last cfg0.N) = iprop(owns (c : Thread nD τ) mS fullShare (stAt m c 13 (by decide)) ∗ ∃ r, prngReg c r) from rfl,
    owns_whole_eq]
  unfold Pipeline.ΦA; rw [scopedRest0_eq]
  iintro ⟨⟨%f, -, HS⟩, HR⟩
  isplitl [HS]; · iexists _; iexact HS
  iexact HR

set_option backward.isDefEq.respectTransparency.types false in
/-- Every execution of @main terminates with the arrays at what the proof data computes, every other buffer as the
    region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution terminates, the argument arrays end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Up.Hand

end
-- ==== Proof.UpIdealRunA.lean ====
module

public import proofs.«01_k».proof.Proof.Gen.UpIdeal.Frame
public import proofs.«01_k».proof.Proof.Gen.UpIdeal.Skeleton
public import Idealize.ShloMosaic.Lib.Pipeline.TableIdle

@[expose] public section

set_option maxRecDepth 65536

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body at the first point of its grid: from the inputs' buffers at their blocks and the results' and the scratch at anything, it runs to its end handing back the inputs as they were and the codes, the scales, the activation block and the running maximum with the stored pieces written; the pieces are found by the run. -/
noncomputable def runA (c : Dev nD) (i : grid0.Coords) (arg1 : Memref sig .tc .vmem S1792x1152 .bf16) (harg1 : arg1.IsWhole) (arg2 : Memref sig .tc .vmem S1152x1024 .fp8e4m3) (harg2 : arg2.IsWhole) (arg3 : Memref sig .tc .vmem S1152x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1792x1152 .fp8e4m3) (harg6 : arg6.IsWhole) (arg7 : Memref sig .tc .vmem S1792x128 .f32) (harg7 : arg7.IsWhole) (arg8 : Memref sig .tc .vmem S1792x1024 .f32) (harg8 : arg8.IsWhole) (arg9 : Memref sig .tc .vmem S1792x128 .f32) (harg9 : arg9.IsWhole) (arg10 : Memref sig .tc .vmem S1792x128 .f32) (harg10 : arg10.IsWhole) (hc1 : k0_cond1 i = 1#1) (hc2 : ¬ k0_cond2 i = 1#1)
    (x1 : Vec F S1792x1152 .bf16) (x2 : Vec F S1152x1024 .fp8e4m3) (x3 : Vec F S1152x1024 .fp8e4m3) (x4 : Vec F S1x1024 .f32) (x5 : Vec F S1x1024 .f32) :
    Σ' (L6 : List (View.Piece (Elt F) S1792x1152 .fp8e4m3)) (L7 : List (View.Piece (Elt F) S1792x128 .f32)) (L8 : List (View.Piece (Elt F) S1792x1024 .f32)), { L10 : List (View.Piece (Elt F) S1792x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg10.view.loc (c : Thread nD τ) ↦[arg10.view.set]{fullShare} arg10.view.writes (Elt F) f L10)) -∗ K ⟨⟩))
          ⊢ wp frame (wpE (defs₀ (F := F)) Variants.none c none) E (cc0_proj_up i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_proj_up_eq_skeleton]; unfold cc0_proj_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H10

end Cert.UpIdeal.Hand

end
-- ==== Proof.UpIdealRunB.lean ====
module

public import proofs.«01_k».proof.Proof.UpIdealRunA

@[expose] public section

set_option maxRecDepth 65536

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body at a middle point of its grid: the codes and scales stored at the first point are read and left as they were, the activation block is stored whole, and the running maximum is updated over its old contents. -/
noncomputable def runB (c : Dev nD) (i : grid0.Coords) (arg1 : Memref sig .tc .vmem S1792x1152 .bf16) (harg1 : arg1.IsWhole) (arg2 : Memref sig .tc .vmem S1152x1024 .fp8e4m3) (harg2 : arg2.IsWhole) (arg3 : Memref sig .tc .vmem S1152x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1792x1152 .fp8e4m3) (harg6 : arg6.IsWhole) (arg7 : Memref sig .tc .vmem S1792x128 .f32) (harg7 : arg7.IsWhole) (arg8 : Memref sig .tc .vmem S1792x1024 .f32) (harg8 : arg8.IsWhole) (arg9 : Memref sig .tc .vmem S1792x128 .f32) (harg9 : arg9.IsWhole) (arg10 : Memref sig .tc .vmem S1792x128 .f32) (harg10 : arg10.IsWhole) (hc1 : ¬ k0_cond1 i = 1#1) (hc2 : ¬ k0_cond2 i = 1#1)
    (x2 : Vec F S1152x1024 .fp8e4m3) (x3 : Vec F S1152x1024 .fp8e4m3) (x4 : Vec F S1x1024 .f32) (x5 : Vec F S1x1024 .f32) (x6 : Vec F S1792x1152 .fp8e4m3) (x7 : Vec F S1792x128 .f32) (x10 : Vec F S1792x128 .f32) :
    Σ' (L8 : List (View.Piece (Elt F) S1792x1024 .f32)), { L10 : List (View.Piece (Elt F) S1792x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg10 fullShare x10
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg10.view.loc (c : Thread nD τ) ↦[arg10.view.set]{fullShare} arg10.view.writes (Elt F) f L10)) -∗ K ⟨⟩))
          ⊢ wp frame (wpE (defs₀ (F := F)) Variants.none c none) E (cc0_proj_up i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0_proj_up_eq_skeleton]; unfold cc0_proj_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H10

end Cert.UpIdeal.Hand

end
-- ==== Proof.UpIdealRunC.lean ====
module

public import proofs.«01_k».proof.Proof.UpIdealRunB

@[expose] public section

set_option maxRecDepth 65536

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body at the last point of its grid: as at a middle point, and afterwards the scale result is stored whole. -/
noncomputable def runC (c : Dev nD) (i : grid0.Coords) (arg1 : Memref sig .tc .vmem S1792x1152 .bf16) (harg1 : arg1.IsWhole) (arg2 : Memref sig .tc .vmem S1152x1024 .fp8e4m3) (harg2 : arg2.IsWhole) (arg3 : Memref sig .tc .vmem S1152x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1792x1152 .fp8e4m3) (harg6 : arg6.IsWhole) (arg7 : Memref sig .tc .vmem S1792x128 .f32) (harg7 : arg7.IsWhole) (arg8 : Memref sig .tc .vmem S1792x1024 .f32) (harg8 : arg8.IsWhole) (arg9 : Memref sig .tc .vmem S1792x128 .f32) (harg9 : arg9.IsWhole) (arg10 : Memref sig .tc .vmem S1792x128 .f32) (harg10 : arg10.IsWhole) (hc1 : ¬ k0_cond1 i = 1#1) (hc2 : k0_cond2 i = 1#1)
    (x2 : Vec F S1152x1024 .fp8e4m3) (x3 : Vec F S1152x1024 .fp8e4m3) (x4 : Vec F S1x1024 .f32) (x5 : Vec F S1x1024 .f32) (x6 : Vec F S1792x1152 .fp8e4m3) (x7 : Vec F S1792x128 .f32) (x10 : Vec F S1792x128 .f32) :
    Σ' (L8 : List (View.Piece (Elt F) S1792x1024 .f32)) (L9 : List (View.Piece (Elt F) S1792x128 .f32)), { L10 : List (View.Piece (Elt F) S1792x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare x10
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0_proj_up i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_proj_up_eq_skeleton]; unfold cc0_proj_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    iexists _; iexact H10

end Cert.UpIdeal.Hand

end
-- ==== Proof.UpIdealBody.lean ====
module

public import proofs.«01_k».proof.Proof.UpIdealRunC
public import Idealize.ShloMosaic.Lib.Claim

@[expose] public section

set_option maxRecDepth 65536

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions, the schedule and the staging memrefs -/

/-- The body's first branch is taken at the first point only. -/
theorem hcond1 : ∀ t : Fin cfg0.N, k0_cond1 (grid0.coords t) = 1#1 ↔ t.val = 0 := by decide +kernel
/-- The body's second branch is taken at the last point only. -/
theorem hcond2 : ∀ t : Fin cfg0.N, k0_cond2 (grid0.coords t) = 1#1 ↔ t.val = 13 := by decide +kernel
/-- After the first point, result window 5's buffer holds what an earlier point stored. -/
theorem fresh5 : ∀ t : Fin cfg0.N, t.val ≠ 0 → cfg0.fresh 5 t.val = false := by decide +kernel
/-- After the first point, result window 6's buffer holds what an earlier point stored. -/
theorem fresh6 : ∀ t : Fin cfg0.N, t.val ≠ 0 → cfg0.fresh 6 t.val = false := by decide +kernel
/-- Result window 5 is stored at the first point only. -/
theorem idle5 : ∀ t : Fin cfg0.N, idle0 5 (grid0.coords t) = !(t.val == 0) := by decide +kernel
/-- Result window 6 is stored at the first point only. -/
theorem idle6 : ∀ t : Fin cfg0.N, idle0 6 (grid0.coords t) = !(t.val == 0) := by decide +kernel
/-- Result window 8 is stored at the last point only. -/
theorem idle8 : ∀ t : Fin cfg0.N, idle0 8 (grid0.coords t) = !(t.val == 13) := by decide +kernel
/-- Result window 5 is written back after the last point only. -/
theorem fl5 : ∀ t : Fin cfg0.N, (win0 5).flush t = (t.val == 13) := by decide +kernel
/-- Result window 6 is written back after the last point only. -/
theorem fl6 : ∀ t : Fin cfg0.N, (win0 6).flush t = (t.val == 13) := by decide +kernel
/-- Result window 8 is written back after the last point only. -/
theorem fl8 : ∀ t : Fin cfg0.N, (win0 8).flush t = (t.val == 13) := by decide +kernel

/-- Window 0's staging memref at a point. -/
abbrev ms0 (t : Fin cfg0.N) : Memref sig .tc .vmem S1792x1152 .bf16 := win0_0.stage (cfg0.slots t 0)
/-- It is a whole buffer. -/
abbrev hs0 (t : Fin cfg0.N) : (ms0 t).IsWhole := hstage0_0 ((cfg0.slots t 0).cast nbuf0_0)
/-- Window 1's staging memref at a point. -/
abbrev ms1 (t : Fin cfg0.N) : Memref sig .tc .vmem S1152x1024 .fp8e4m3 := win0_1.stage (cfg0.slots t 1)
/-- It is a whole buffer. -/
abbrev hs1 (t : Fin cfg0.N) : (ms1 t).IsWhole := hstage0_1 ((cfg0.slots t 1).cast nbuf0_1)
/-- Window 2's staging memref at a point. -/
abbrev ms2 (t : Fin cfg0.N) : Memref sig .tc .vmem S1152x1024 .fp8e4m3 := win0_2.stage (cfg0.slots t 2)
/-- It is a whole buffer. -/
abbrev hs2 (t : Fin cfg0.N) : (ms2 t).IsWhole := hstage0_2 ((cfg0.slots t 2).cast nbuf0_2)
/-- Window 3's staging memref at a point. -/
abbrev ms3 (t : Fin cfg0.N) : Memref sig .tc .vmem S1x1024 .f32 := win0_3.stage (cfg0.slots t 3)
/-- It is a whole buffer. -/
abbrev hs3 (t : Fin cfg0.N) : (ms3 t).IsWhole := hstage0_3 ((cfg0.slots t 3).cast nbuf0_3)
/-- Window 4's staging memref at a point. -/
abbrev ms4 (t : Fin cfg0.N) : Memref sig .tc .vmem S1x1024 .f32 := win0_4.stage (cfg0.slots t 4)
/-- It is a whole buffer. -/
abbrev hs4 (t : Fin cfg0.N) : (ms4 t).IsWhole := hstage0_4 ((cfg0.slots t 4).cast nbuf0_4)
/-- Window 5's staging memref at a point. -/
abbrev ms5 (t : Fin cfg0.N) : Memref sig .tc .vmem S1792x1152 .fp8e4m3 := win0_5.stage (cfg0.slots t 5)
/-- It is a whole buffer. -/
abbrev hs5 (t : Fin cfg0.N) : (ms5 t).IsWhole := hstage0_5 ((cfg0.slots t 5).cast nbuf0_5)
/-- Window 6's staging memref at a point. -/
abbrev ms6 (t : Fin cfg0.N) : Memref sig .tc .vmem S1792x128 .f32 := win0_6.stage (cfg0.slots t 6)
/-- It is a whole buffer. -/
abbrev hs6 (t : Fin cfg0.N) : (ms6 t).IsWhole := hstage0_6 ((cfg0.slots t 6).cast nbuf0_6)
/-- Window 7's staging memref at a point. -/
abbrev ms7 (t : Fin cfg0.N) : Memref sig .tc .vmem S1792x1024 .f32 := win0_7.stage (cfg0.slots t 7)
/-- It is a whole buffer. -/
abbrev hs7 (t : Fin cfg0.N) : (ms7 t).IsWhole := hstage0_7 ((cfg0.slots t 7).cast nbuf0_7)
/-- Window 8's staging memref at a point. -/
abbrev ms8 (t : Fin cfg0.N) : Memref sig .tc .vmem S1792x128 .f32 := win0_8.stage (cfg0.slots t 8)
/-- It is a whole buffer. -/
abbrev hs8 (t : Fin cfg0.N) : (ms8 t).IsWhole := hstage0_8 ((cfg0.slots t 8).cast nbuf0_8)
/-- The scratch buffer. -/
abbrev mS : Memref sig .tc .vmem S1792x128 .f32 := Memref.whole cc0_scratch0
/-- A buffer through which the contents of kernel operand 6 are stated. -/
abbrev VO6 : View sig .tc .vmem S1792x1152 .fp8e4m3 := (Memref.whole cc0_stg5_0 : Memref sig .tc .vmem S1792x1152 .fp8e4m3).view
/-- A buffer through which the contents of kernel operand 7 are stated. -/
abbrev VO7 : View sig .tc .vmem S1792x128 .f32 := (Memref.whole cc0_stg6_0 : Memref sig .tc .vmem S1792x128 .f32).view
/-- A buffer through which the contents of kernel operand 8 are stated. -/
abbrev VO8 : View sig .tc .vmem S1792x1024 .f32 := (Memref.whole cc0_stg7_0 : Memref sig .tc .vmem S1792x1024 .f32).view
/-- A buffer through which the contents of kernel operand 9 are stated. -/
abbrev VO9 : View sig .tc .vmem S1792x128 .f32 := (Memref.whole cc0_stg8_0 : Memref sig .tc .vmem S1792x128 .f32).view
/-- A buffer through which the contents of kernel operand 10 are stated. -/
abbrev VO10 : View sig .tc .vmem S1792x128 .f32 := (Memref.whole cc0_scratch0 : Memref sig .tc .vmem S1792x128 .f32).view

/-! ## The three runs at a point, their pieces covering the buffers they store -/

/-- The first point's run, at the point's memrefs and blocks. -/
abbrev atA (c : Dev nD) (t : Fin cfg0.N) (h0 : t.val = 0) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) mS (Memref.isWhole_whole _) ((hcond1 t).mpr h0) (fun h => by have := (hcond2 t).mp h; omega) (iblk m c 0 t) (iblk m c 1 t) (iblk m c 2 t) (iblk m c 3 t) (iblk m c 4 t)
/-- A middle point's run, over the codes, the scales and the running maximum it finds. -/
abbrev atB (c : Dev nD) (t : Fin cfg0.N) (h0 : t.val ≠ 0) (h1 : t.val ≠ 13) (x6 : Vec F S1792x1152 .fp8e4m3) (x7 : Vec F S1792x128 .f32) (x10 : Vec F S1792x128 .f32) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) mS (Memref.isWhole_whole _) (fun h => h0 ((hcond1 t).mp h)) (fun h => h1 ((hcond2 t).mp h)) (iblk m c 1 t) (iblk m c 2 t) (iblk m c 3 t) (iblk m c 4 t) x6 x7 x10
/-- The last point's run, over the codes, the scales and the running maximum it finds. -/
abbrev atC (c : Dev nD) (t : Fin cfg0.N) (h1 : t.val = 13) (x6 : Vec F S1792x1152 .fp8e4m3) (x7 : Vec F S1792x128 .f32) (x10 : Vec F S1792x128 .f32) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) mS (Memref.isWhole_whole _) (fun h => by have := (hcond1 t).mp h; omega) ((hcond2 t).mpr h1) (iblk m c 1 t) (iblk m c 2 t) (iblk m c 3 t) (iblk m c 4 t) x6 x7 x10

/-- At the first point the stores into operand 6 cover its buffer. -/
theorem covA6 (c : Dev nD) (t : Fin cfg0.N) (h0 : t.val = 0) (y : S1792x1152.Idx) : ∃ pc ∈ (atA m c t h0).1, y ∈ pc.1.set :=
  View.cover_of_tiledL (atA m c t h0).1 S128x1152.size (by sl_kernel_rfl) y
/-- What the first point leaves in operand 6's buffer. -/
def outA6 (c : Dev nD) (t : Fin cfg0.N) (h0 : t.val = 0) : Vec F S1792x1152 .fp8e4m3 := VO6.read (Elt F) (VO6.writes (Elt F) VO6.junk (atA m c t h0).1)
/-- At the first point the stores into operand 7 cover its buffer. -/
theorem covA7 (c : Dev nD) (t : Fin cfg0.N) (h0 : t.val = 0) (y : S1792x128.Idx) : ∃ pc ∈ (atA m c t h0).2.1, y ∈ pc.1.set :=
  View.cover_of_tiledL (atA m c t h0).2.1 S128x128.size (by sl_kernel_rfl) y
/-- What the first point leaves in operand 7's buffer. -/
def outA7 (c : Dev nD) (t : Fin cfg0.N) (h0 : t.val = 0) : Vec F S1792x128 .f32 := VO7.read (Elt F) (VO7.writes (Elt F) VO7.junk (atA m c t h0).2.1)
/-- At the first point the stores into operand 8 cover its buffer. -/
theorem covA8 (c : Dev nD) (t : Fin cfg0.N) (h0 : t.val = 0) (y : S1792x1024.Idx) : ∃ pc ∈ (atA m c t h0).2.2.1, y ∈ pc.1.set :=
  View.cover_of_tiledL (atA m c t h0).2.2.1 S448x256.size (by sl_kernel_rfl) y
/-- What the first point leaves in operand 8's buffer. -/
def outA8 (c : Dev nD) (t : Fin cfg0.N) (h0 : t.val = 0) : Vec F S1792x1024 .f32 := VO8.read (Elt F) (VO8.writes (Elt F) VO8.junk (atA m c t h0).2.2.1)
/-- At the first point the stores into operand 10 cover its buffer. -/
theorem covA10 (c : Dev nD) (t : Fin cfg0.N) (h0 : t.val = 0) (y : S1792x128.Idx) : ∃ pc ∈ (atA m c t h0).2.2.2.1, y ∈ pc.1.set :=
  (View.cover_of_tiledL ((atA m c t h0).2.2.2.1.take 4) S448x128.size (by sl_kernel_rfl) y).imp fun _ h => ⟨List.mem_of_mem_take h.1, h.2⟩
/-- What the first point leaves in operand 10's buffer. -/
def outA10 (c : Dev nD) (t : Fin cfg0.N) (h0 : t.val = 0) : Vec F S1792x128 .f32 := VO10.read (Elt F) (VO10.writes (Elt F) VO10.junk (atA m c t h0).2.2.2.1)
/-- At a middle point the stores into operand 8 cover its buffer. -/
theorem covB8 (c : Dev nD) (t : Fin cfg0.N) (h0 : t.val ≠ 0) (h1 : t.val ≠ 13) (x6 : Vec F S1792x1152 .fp8e4m3) (x7 : Vec F S1792x128 .f32) (x10 : Vec F S1792x128 .f32) (y : S1792x1024.Idx) : ∃ pc ∈ (atB m c t h0 h1 x6 x7 x10).1, y ∈ pc.1.set :=
  View.cover_of_tiledL (atB m c t h0 h1 x6 x7 x10).1 S448x256.size (by sl_kernel_rfl) y
/-- What a middle point leaves in operand 8's buffer. -/
def outB8 (c : Dev nD) (t : Fin cfg0.N) (h0 : t.val ≠ 0) (h1 : t.val ≠ 13) (x6 : Vec F S1792x1152 .fp8e4m3) (x7 : Vec F S1792x128 .f32) (x10 : Vec F S1792x128 .f32) : Vec F S1792x1024 .f32 := VO8.read (Elt F) (VO8.writes (Elt F) VO8.junk (atB m c t h0 h1 x6 x7 x10).1)
/-- At a middle point the stores into operand 10 cover its buffer. -/
theorem covB10 (c : Dev nD) (t : Fin cfg0.N) (h0 : t.val ≠ 0) (h1 : t.val ≠ 13) (x6 : Vec F S1792x1152 .fp8e4m3) (x7 : Vec F S1792x128 .f32) (x10 : Vec F S1792x128 .f32) (y : S1792x128.Idx) : ∃ pc ∈ (atB m c t h0 h1 x6 x7 x10).2.1, y ∈ pc.1.set :=
  (View.cover_of_tiledL ((atB m c t h0 h1 x6 x7 x10).2.1.take 4) S448x128.size (by sl_kernel_rfl) y).imp fun _ h => ⟨List.mem_of_mem_take h.1, h.2⟩
/-- What a middle point leaves in operand 10's buffer. -/
def outB10 (c : Dev nD) (t : Fin cfg0.N) (h0 : t.val ≠ 0) (h1 : t.val ≠ 13) (x6 : Vec F S1792x1152 .fp8e4m3) (x7 : Vec F S1792x128 .f32) (x10 : Vec F S1792x128 .f32) : Vec F S1792x128 .f32 := VO10.read (Elt F) (VO10.writes (Elt F) VO10.junk (atB m c t h0 h1 x6 x7 x10).2.1)
/-- At the last point the stores into operand 8 cover its buffer. -/
theorem covC8 (c : Dev nD) (t : Fin cfg0.N) (h1 : t.val = 13) (x6 : Vec F S1792x1152 .fp8e4m3) (x7 : Vec F S1792x128 .f32) (x10 : Vec F S1792x128 .f32) (y : S1792x1024.Idx) : ∃ pc ∈ (atC m c t h1 x6 x7 x10).1, y ∈ pc.1.set :=
  View.cover_of_tiledL (atC m c t h1 x6 x7 x10).1 S448x256.size (by sl_kernel_rfl) y
/-- What the last point leaves in operand 8's buffer. -/
def outC8 (c : Dev nD) (t : Fin cfg0.N) (h1 : t.val = 13) (x6 : Vec F S1792x1152 .fp8e4m3) (x7 : Vec F S1792x128 .f32) (x10 : Vec F S1792x128 .f32) : Vec F S1792x1024 .f32 := VO8.read (Elt F) (VO8.writes (Elt F) VO8.junk (atC m c t h1 x6 x7 x10).1)
/-- At the last point the stores into operand 9 cover its buffer. -/
theorem covC9 (c : Dev nD) (t : Fin cfg0.N) (h1 : t.val = 13) (x6 : Vec F S1792x1152 .fp8e4m3) (x7 : Vec F S1792x128 .f32) (x10 : Vec F S1792x128 .f32) (y : S1792x128.Idx) : ∃ pc ∈ (atC m c t h1 x6 x7 x10).2.1, y ∈ pc.1.set :=
  View.cover_of_tiledL (atC m c t h1 x6 x7 x10).2.1 S128x128.size (by sl_kernel_rfl) y
/-- What the last point leaves in operand 9's buffer. -/
def outC9 (c : Dev nD) (t : Fin cfg0.N) (h1 : t.val = 13) (x6 : Vec F S1792x1152 .fp8e4m3) (x7 : Vec F S1792x128 .f32) (x10 : Vec F S1792x128 .f32) : Vec F S1792x128 .f32 := VO9.read (Elt F) (VO9.writes (Elt F) VO9.junk (atC m c t h1 x6 x7 x10).2.1)
/-- At the last point the stores into operand 10 cover its buffer. -/
theorem covC10 (c : Dev nD) (t : Fin cfg0.N) (h1 : t.val = 13) (x6 : Vec F S1792x1152 .fp8e4m3) (x7 : Vec F S1792x128 .f32) (x10 : Vec F S1792x128 .f32) (y : S1792x128.Idx) : ∃ pc ∈ (atC m c t h1 x6 x7 x10).2.2.1, y ∈ pc.1.set :=
  (View.cover_of_tiledL ((atC m c t h1 x6 x7 x10).2.2.1.take 4) S448x128.size (by sl_kernel_rfl) y).imp fun _ h => ⟨List.mem_of_mem_take h.1, h.2⟩
/-- What the last point leaves in operand 10's buffer. -/
def outC10 (c : Dev nD) (t : Fin cfg0.N) (h1 : t.val = 13) (x6 : Vec F S1792x1152 .fp8e4m3) (x7 : Vec F S1792x128 .f32) (x10 : Vec F S1792x128 .f32) : Vec F S1792x128 .f32 := VO10.read (Elt F) (VO10.writes (Elt F) VO10.junk (atC m c t h1 x6 x7 x10).2.2.1)

/-! ## What the buffers hold point by point -/

theorem h0lt : 0 < cfg0.N := by decide
/-- The codes: stored at the first point, kept to the end. -/
def xcAt (c : Dev nD) : Vec F S1792x1152 .fp8e4m3 := outA6 m c ⟨0, h0lt⟩ rfl
/-- The scales: stored at the first point, kept to the end. -/
def xsAt (c : Dev nD) : Vec F S1792x128 .f32 := outA7 m c ⟨0, h0lt⟩ rfl
/-- The running maximum after each point. -/
def stAt (c : Dev nD) : (n : ℕ) → n < cfg0.N → Vec F S1792x128 .f32
  | 0, hn => outA10 m c ⟨0, hn⟩ rfl
  | n + 1, hn =>
    if h1 : n + 1 = 13 then outC10 m c ⟨n + 1, hn⟩ h1 (xcAt m c) (xsAt m c) (stAt c n (Nat.lt_of_succ_lt hn))
    else outB10 m c ⟨n + 1, hn⟩ (Nat.succ_ne_zero n) h1 (xcAt m c) (xsAt m c) (stAt c n (Nat.lt_of_succ_lt hn))
/-- The running maximum a point after the first finds. -/
def prAt (c : Dev nD) (t : Fin cfg0.N) : Vec F S1792x128 .f32 := stAt m c (t.val - 1) (Nat.lt_of_le_of_lt (Nat.sub_le _ _) t.isLt)
/-- The activation block after each point. -/
def hAt (c : Dev nD) (t : Fin cfg0.N) : Vec F S1792x1024 .f32 :=
  if h0 : t.val = 0 then outA8 m c t h0
  else if h1 : t.val = 13 then outC8 m c t h1 (xcAt m c) (xsAt m c) (prAt m c t)
  else outB8 m c t h0 h1 (xcAt m c) (xsAt m c) (prAt m c t)
/-- The activation's scales: stored at the last point. -/
def hsAt (c : Dev nD) (t : Fin cfg0.N) : Vec F S1792x128 .f32 :=
  if h1 : t.val = 13 then outC9 m c t h1 (xcAt m c) (xsAt m c) (prAt m c t) else VO9.read (Elt F) VO9.junk

/-- The running maximum after a middle point. -/
theorem stAt_B (c : Dev nD) (t : Fin cfg0.N) (h0 : t.val ≠ 0) (h1 : t.val ≠ 13) :
    stAt m c t.val t.isLt = outB10 m c t h0 h1 (xcAt m c) (xsAt m c) (prAt m c t) := by
  obtain ⟨n, hn⟩ := t
  cases n with
  | zero => exact absurd rfl h0
  | succ n => exact (dif_neg h1).trans rfl
/-- The running maximum after the last point. -/
theorem stAt_C (c : Dev nD) (t : Fin cfg0.N) (h1 : t.val = 13) :
    stAt m c t.val t.isLt = outC10 m c t h1 (xcAt m c) (xsAt m c) (prAt m c t) := by
  obtain ⟨n, hn⟩ := t
  cases n with
  | zero => exact absurd h1 (by simp)
  | succ n => exact (dif_pos h1).trans rfl
/-- The running maximum after the first point. -/
theorem stAt_A (c : Dev nD) (t : Fin cfg0.N) (h0 : t.val = 0) : stAt m c t.val t.isLt = outA10 m c t h0 := by
  obtain ⟨n, hn⟩ := t
  cases n with
  | zero => exact rfl
  | succ n => exact absurd h0 (Nat.succ_ne_zero n)

/-- The invariant between points: the scratch at the running maximum (before the first point: at anything), and the
    generator register at some state. -/
def PhiS (c : Dev nD) : (n : ℕ) → n ≤ cfg0.N → sProp 𝕄
  | 0, _ => Pipeline.ΦA spec0 c
  | n + 1, h => iprop(owns (c : Thread nD τ) mS fullShare (stAt m c n h) ∗ ∃ r, prngReg c r)

/-- The proof data: arrays as the region finds them, after each point the inputs at their blocks and the results at
    the contents above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => xcAt m c
    | ⟨6, _⟩ => xsAt m c
    | ⟨7, _⟩ => hAt m c t
    | ⟨8, _⟩ => hsAt m c t
  Φ t := PhiS m c t.val (Nat.le_of_lt_succ t.isLt)
  q _ := fullShare
  owed _ := 0

/-- The arrays are the region-entry contents. -/
theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = xcAt m c := by dsimp only [dats]
theorem after6 (c : Dev nD) (t : Fin cfg0.N) : (dats m 0 c).after 6 t = xsAt m c := by dsimp only [dats]
theorem after7 (c : Dev nD) (t : Fin cfg0.N) : (dats m 0 c).after 7 t = hAt m c t := by dsimp only [dats]
theorem after8 (c : Dev nD) (t : Fin cfg0.N) : (dats m 0 c).after 8 t = hsAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
/-- After the first point, window 5's buffer holds what the first point stored. -/
theorem before5 (c : Dev nD) (t : Fin cfg0.N) (h0 : t.val ≠ 0) (d) : (dats m 0 c).before 5 t d = xcAt m c := by
  rw [Dat.before_out_traj (dats m 0 c) 5 rfl (fun _ _ => rfl) (fun t _ _ _ => by rw [after5, after5]) _ t rfl d, fresh5 t h0,
    if_neg Bool.false_ne_true, after5]
/-- After the first point, window 6's buffer holds what the first point stored. -/
theorem before6 (c : Dev nD) (t : Fin cfg0.N) (h0 : t.val ≠ 0) (d) : (dats m 0 c).before 6 t d = xsAt m c := by
  rw [Dat.before_out_traj (dats m 0 c) 6 rfl (fun _ _ => rfl) (fun t _ _ _ => by rw [after6, after6]) _ t rfl d, fresh6 t h0,
    if_neg Bool.false_ne_true, after6]

/-! ## The body at each kind of point -/

set_option maxHeartbeats 1600000 in
/-- The body's triple at a first point: from the invariant and the buffers at what they hold to the invariant after the
    point and the buffers at what the point leaves. -/
theorem soundA (c : Dev nD) (t : Fin cfg0.N) (h0 : t.val = 0) :
    iprop((dats m 0 c).Φ t.castSucc ∗ (dats m 0 c).owesAt () t.castSucc
      ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ (∃ d, owns (c : Thread nD τ) (ms8 t) fullShare ((dats m 0 c).before 8 t d)))) := by
  unfold bodyAt0
  simp only [before0, before1, before2, before3, before4, after0, after1, after2, after3, after4, after5, after6, after7, after8]
  rw [show (dats m 0 c).owesAt () t.succ = (dats m 0 c).owesAt () t.castSucc from rfl]
  rw [show (dats m 0 c).Φ t.succ = iprop(owns (c : Thread nD τ) mS fullShare (stAt m c t.val t.isLt) ∗ ∃ r, prngReg c r) from rfl]
  rw [show (dats m 0 c).Φ t.castSucc = Pipeline.ΦA spec0 c from by
    obtain ⟨n, hn⟩ := t; simp only at h0; subst h0; rfl]
  unfold Pipeline.ΦA; rw [scopedRest0_eq]
  have e5 : xcAt m c = outA6 m c t h0 := by obtain ⟨n, hn⟩ := t; simp only at h0; subst h0; rfl
  have e6 : xsAt m c = outA7 m c t h0 := by obtain ⟨n, hn⟩ := t; simp only at h0; subst h0; rfl
  have e7 : hAt m c t = outA8 m c t h0 := by unfold hAt; rw [dif_pos h0]
  rw [e5, e6, e7, stAt_A m c t h0]
  iintro ⟨⟨⟨%fs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply ((atA m c t h0).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS]
  · iexists fs; unfold mS; rw [owns_whole_eq]; iexists fs; isplitr; swap; · iexact HS
    ipureintro; rfl
  iintro ⟨H0, H1, H2, H3, H4, ⟨%e5, H5⟩, ⟨%e6, H6⟩, ⟨%e7, H7⟩, ⟨%eS, HS⟩⟩
  isplitl [HS HR]
  · isplitr [HR]
    · unfold owns; iexists _; isplitr
      swap; · iexact HS
      ipureintro; exact View.read_writes_of_cover _ _ _ _ _ (covA10 m c t h0)
    iexact HR
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (covA6 m c t h0)
  isplitl [H6]
  · unfold owns; iexists _; isplitr
    swap; · iexact H6
    ipureintro; exact View.read_writes_of_cover _ _ _ _ _ (covA7 m c t h0)
  isplitl [H7]
  · unfold owns; iexists _; isplitr
    swap; · iexact H7
    ipureintro; exact View.read_writes_of_cover _ _ _ _ _ (covA8 m c t h0)
  iexact H8

set_option maxHeartbeats 1600000 in
/-- The body's triple at a middle point: from the invariant and the buffers at what they hold to the invariant after the
    point and the buffers at what the point leaves. -/
theorem soundB (c : Dev nD) (t : Fin cfg0.N) (h0 : t.val ≠ 0) (h1 : t.val ≠ 13) :
    iprop((dats m 0 c).Φ t.castSucc ∗ (dats m 0 c).owesAt () t.castSucc
      ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ (∃ d, owns (c : Thread nD τ) (ms5 t) fullShare ((dats m 0 c).before 5 t d)) ∗ (∃ d, owns (c : Thread nD τ) (ms6 t) fullShare ((dats m 0 c).before 6 t d)) ∗ owns (c : Thread nD τ) (ms7 t) fullShare ((dats m 0 c).after 7 t) ∗ (∃ d, owns (c : Thread nD τ) (ms8 t) fullShare ((dats m 0 c).before 8 t d)))) := by
  unfold bodyAt0
  have hz : t.val ≠ 0 := by omega
  simp only [before0, before1, before2, before3, before4, before5 m c t hz, before6 m c t hz, after0, after1, after2, after3, after4, after5, after6, after7, after8]
  rw [show (dats m 0 c).owesAt () t.succ = (dats m 0 c).owesAt () t.castSucc from rfl]
  rw [show (dats m 0 c).Φ t.succ = iprop(owns (c : Thread nD τ) mS fullShare (stAt m c t.val t.isLt) ∗ ∃ r, prngReg c r) from rfl]
  rw [show (dats m 0 c).Φ t.castSucc = iprop(owns (c : Thread nD τ) mS fullShare (prAt m c t) ∗ ∃ r, prngReg c r) from by
    obtain ⟨n, hn⟩ := t
    cases n with
    | zero => exact absurd rfl hz
    | succ n => rfl]
  have e7 : hAt m c t = outB8 m c t h0 h1 (xcAt m c) (xsAt m c) (prAt m c t) := by
    unfold hAt; rw [dif_neg hz, dif_neg h1]
  rw [e7, stAt_B m c t h0 h1]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply ((atB m c t h0 h1 (xcAt m c) (xsAt m c) (prAt m c t)).2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  iintro ⟨H1, H2, H3, H4, H5, H6, ⟨%e7, H7⟩, ⟨%eS, HS⟩⟩
  isplitl [HS HR]
  · isplitr [HR]
    · unfold owns; iexists _; isplitr
      swap; · iexact HS
      ipureintro; exact View.read_writes_of_cover _ _ _ _ _ (covB10 m c t h0 h1 _ _ _)
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]
  · unfold owns; iexists _; isplitr
    swap; · iexact H7
    ipureintro; exact View.read_writes_of_cover _ _ _ _ _ (covB8 m c t h0 h1 _ _ _)
  iexact H8

set_option maxHeartbeats 1600000 in
/-- The body's triple at a last point: from the invariant and the buffers at what they hold to the invariant after the
    point and the buffers at what the point leaves. -/
theorem soundC (c : Dev nD) (t : Fin cfg0.N) (h1 : t.val = 13) :
    iprop((dats m 0 c).Φ t.castSucc ∗ (dats m 0 c).owesAt () t.castSucc
      ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t))) := by
  unfold bodyAt0
  have hz : t.val ≠ 0 := by omega
  simp only [before0, before1, before2, before3, before4, before5 m c t hz, before6 m c t hz, after0, after1, after2, after3, after4, after5, after6, after7, after8]
  rw [show (dats m 0 c).owesAt () t.succ = (dats m 0 c).owesAt () t.castSucc from rfl]
  rw [show (dats m 0 c).Φ t.succ = iprop(owns (c : Thread nD τ) mS fullShare (stAt m c t.val t.isLt) ∗ ∃ r, prngReg c r) from rfl]
  rw [show (dats m 0 c).Φ t.castSucc = iprop(owns (c : Thread nD τ) mS fullShare (prAt m c t) ∗ ∃ r, prngReg c r) from by
    obtain ⟨n, hn⟩ := t
    cases n with
    | zero => exact absurd rfl hz
    | succ n => rfl]
  have e7 : hAt m c t = outC8 m c t h1 (xcAt m c) (xsAt m c) (prAt m c t) := by
    unfold hAt; rw [dif_neg hz, dif_pos h1]
  have e8 : hsAt m c t = outC9 m c t h1 (xcAt m c) (xsAt m c) (prAt m c t) := by unfold hsAt; rw [dif_pos h1]
  rw [e7, e8, stAt_C m c t h1]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atC m c t h1 (xcAt m c) (xsAt m c) (prAt m c t)).2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H1, H2, H3, H4, H5, H6, ⟨%e7, H7⟩, ⟨%e8, H8⟩, ⟨%eS, HS⟩⟩
  isplitl [HS HR]
  · isplitr [HR]
    · unfold owns; iexists _; isplitr
      swap; · iexact HS
      ipureintro; exact View.read_writes_of_cover _ _ _ _ _ (covC10 m c t h1 _ _ _)
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (covC8 m c t h1 _ _ _)
  unfold owns; iexists _; isplitr
  swap; · iexact H8
  ipureintro; exact View.read_writes_of_cover _ _ _ _ _ (covC9 m c t h1 _ _ _)

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  by_cases h0 : t.val = 0
  · have i5 : idle0 5 (grid0.coords t) = false := by rw [idle5, h0]; rfl
    have i6 : idle0 6 (grid0.coords t) = false := by rw [idle6, h0]; rfl
    have i8 : idle0 8 (grid0.coords t) = true := by rw [idle8, h0]; rfl
    have f8 : (win0 8).flush t = false := by rw [fl8, h0]; rfl
    simp only [i5, i6, i8, f8]
    exact triple_restated (soundA m c t h0) rfl .rfl fun _ => .rfl
  · have i5 : idle0 5 (grid0.coords t) = true := by rw [idle5, beq_false_of_ne h0]; rfl
    have i6 : idle0 6 (grid0.coords t) = true := by rw [idle6, beq_false_of_ne h0]; rfl
    by_cases h1 : t.val = 13
    · have i8 : idle0 8 (grid0.coords t) = false := by rw [idle8, h1]; rfl
      have f5 : (win0 5).flush t = true := by rw [fl5, h1]; rfl
      have f6 : (win0 6).flush t = true := by rw [fl6, h1]; rfl
      simp only [i5, i6, i8, f5, f6]
      exact triple_restated (soundC m c t h1) rfl .rfl fun _ => .rfl
    · have i8 : idle0 8 (grid0.coords t) = true := by rw [idle8, beq_false_of_ne h1]; rfl
      have f5 : (win0 5).flush t = false := by rw [fl5, beq_false_of_ne h1]
      have f6 : (win0 6).flush t = false := by rw [fl6, beq_false_of_ne h1]
      have f8 : (win0 8).flush t = false := by rw [fl8, beq_false_of_ne h1]
      simp only [i5, i6, i8, f5, f6, f8]
      exact triple_restated (soundB m c t h0 h1) rfl .rfl fun _ => .rfl

/-- The class's invariant is the invariant before the first point. -/
theorem hin (c : Dev nD) : (Pipeline.ΦA spec0 c : sProp 𝕄) ⊢ (dats m 0 c).Φ 0 := .rfl

/-- After the last point the scratch's contents are forgotten. -/
theorem hout (c : Dev nD) : (dats m 0 c).Φ (Fin.last cfg0.N) ⊢ (Pipeline.ΦA spec0 c : sProp 𝕄) := by
  rw [show (dats m 0 c).Φ (Fin.last cfg0.N) = iprop(owns (c : Thread nD τ) mS fullShare (stAt m c 13 (by decide)) ∗ ∃ r, prngReg c r) from rfl,
    owns_whole_eq]
  unfold Pipeline.ΦA; rw [scopedRest0_eq]
  iintro ⟨⟨%f, -, HS⟩, HR⟩
  isplitl [HS]; · iexists _; iexact HS
  iexact HR

set_option backward.isDefEq.respectTransparency.types false in
/-- Every execution of @main terminates with the arrays at what the proof data computes, every other buffer as the
    region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution terminates, the argument arrays end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.UpIdeal.Hand

end
-- ==== Proof.UpBlock.lean ====
module
public import proofs.«01_k».proof.Proof.UpIdealBody
public import Idealize.ShloMosaic.Lib.Pipeline.ValueKit
public import Idealize.ShloMosaic.Lib.Pipeline.ReadBack
public import Idealize.ShloMosaic.Lib.Pointwise

/-! The up projection over the extended reals: what one grid point leaves in its four buffers. -/

@[expose] public section
set_option maxRecDepth 65536
noncomputable section
namespace Cert.UpIdeal.Hand
open Cert.UpIdeal Cert.UpIdeal.Gen Idealize.ShloMosaic Idealize.ShloMosaic.TcCoe Idealize.SL.Sem
open Idealize.ShloMosaic.Pipeline (Dat)

/-- Clipping to the range of the 8-bit float: between -448 and 448. -/
def clip8 (v : EReal) : EReal :=
  min (Ideal.ofBits FTy.f32 0x43E00000#32) (max (Ideal.ofBits FTy.f32 0xC3E00000#32) v)

/-- The maximum of finitely many values, from minus infinity. -/
def maxOf {n : ℕ} (f : Fin n → EReal) : EReal :=
  Finset.fold max (Ideal.ofBits FTy.f32 0xFF800000#32) f Finset.univ

/-- The scale of a row whose largest magnitude is `a`: `a / 448`, and 1 for a row of zeros. -/
def tokScale (a : EReal) : EReal := if 0 < a then Ideal.div a (Ideal.ofBits FTy.f32 0x43E00000#32) else 1

/-- The scale of row `r` of the input. -/
def xScale (x : Vec Ideal S1792x1152 .bf16) (r : Fin 1792) : EReal :=
  tokScale (maxOf fun k : Fin 1152 => FloatOps.absf (F := Ideal) (φ := .bf16) (x (ix2 r k)))

/-- The input divided by its row's scale and clipped. -/
def xcArr (x : Vec Ideal S1792x1152 .bf16) : Vec Ideal S1792x1152 .fp8e4m3 := fun y => clip8 (Ideal.div (x y) (xScale x (y 0)))

/-- The rows' scales, the same in all 128 lanes. -/
def xsArr (x : Vec Ideal S1792x1152 .bf16) : Vec Ideal S1792x128 .f32 := fun y => xScale x (y 0)

/-- The gated unit: `g · sigmoid(g) · u`. -/
def act (g u : EReal) : EReal := g * Ideal.logistic g * u

/-- A block of 1024 columns of the activation from the codes, the scales' lanes and the blocks of the two weights. -/
def hBlk (X : Vec Ideal S1792x1152 .fp8e4m3) (S : Vec Ideal S1792x128 .f32) (wg : Vec Ideal S1152x1024 .fp8e4m3)
    (sg : Vec Ideal S1x1024 .f32) (wu : Vec Ideal S1152x1024 .fp8e4m3) (su : Vec Ideal S1x1024 .f32) :
    Vec Ideal S1792x1024 .f32 :=
  fun y => act
    ((∑ k : Fin 1152, X (ix2 (y 0) k) * wg (ix2 k (y 1))) * S (ix2 (y 0) ⟨(y 1).val % 128, Nat.mod_lt _ (by decide)⟩) * sg (ix2 0 (y 1)))
    ((∑ k : Fin 1152, X (ix2 (y 0) k) * wu (ix2 k (y 1))) * S (ix2 (y 0) ⟨(y 1).val % 128, Nat.mod_lt _ (by decide)⟩) * su (ix2 0 (y 1)))

/-- The magnitude of a block of the activation at a row and a column. -/
def magAt (H : Vec Ideal S1792x1024 .f32) (r : Fin 1792) (c : Fin 1024) : EReal := FloatOps.absf (F := Ideal) (φ := .f32) (H (ix2 r c))

/-- The running maximum, lane by lane, taken over the eight columns of a block that fall on the lane. -/
def amaxBlk (P : Vec Ideal S1792x128 .f32) (H : Vec Ideal S1792x1024 .f32) : Vec Ideal S1792x128 .f32 := fun y =>
  have hl : (y 1).val < 128 := (y 1).isLt
  max (max (max (max (P y)
    (max (magAt H (y 0) ⟨0 + (y 1).val, by omega⟩) (magAt H (y 0) ⟨128 + (y 1).val, by omega⟩)))
    (max (magAt H (y 0) ⟨256 + (y 1).val, by omega⟩) (magAt H (y 0) ⟨384 + (y 1).val, by omega⟩)))
    (max (magAt H (y 0) ⟨512 + (y 1).val, by omega⟩) (magAt H (y 0) ⟨640 + (y 1).val, by omega⟩)))
    (max (magAt H (y 0) ⟨768 + (y 1).val, by omega⟩) (magAt H (y 0) ⟨896 + (y 1).val, by omega⟩))

/-- The rows' scales out of a running maximum: the largest lane's, the same in all 128 lanes. -/
def hsOf (A : Vec Ideal S1792x128 .f32) : Vec Ideal S1792x128 .f32 := fun y => tokScale (maxOf fun k : Fin 128 => A (ix2 (y 0) k))

/-! ## The stored tiles -/

/-- One tile of codes from its tile of the input. -/
theorem xc_pay (x : Vec Ideal S128x1152 .bf16) (y : S128x1152.Idx) : k0_pay8 x y
    = clip8 (Ideal.div (x y) (tokScale (maxOf fun k : Fin 1152 => FloatOps.absf (F := Ideal) (φ := .bf16) (x (ix2 (y 0) k))))) := by
  unfold k0_pay8 k0_pay7 k0_pay6 clip8 tokScale maxOf
  pointwise
  rfl

/-- One tile of scales from its tile of the input. -/
theorem xs_pay (x : Vec Ideal S128x1152 .bf16) (y : S128x128.Idx) : k0_pay9 x y
    = tokScale (maxOf fun k : Fin 1152 => FloatOps.absf (F := Ideal) (φ := .bf16) (x (ix2 (y 0) k))) := by
  unfold k0_pay9 k0_pay7 k0_pay6 tokScale maxOf
  pointwise
  rfl

/-- One tile of the activation's scales from its tile of the running maximum. -/
theorem hs_pay (A : Vec Ideal S128x128 .f32) (y : S128x128.Idx) : k0_pay5 A y = tokScale (maxOf fun k : Fin 128 => A (ix2 (y 0) k)) := by
  unfold k0_pay5 tokScale maxOf
  pointwise

/-- One tile of the activation. -/
theorem h_pay (X : Vec Ideal S448x1152 .fp8e4m3) (S : Vec Ideal S448x128 .f32) (wg : Vec Ideal S1152x256 .fp8e4m3)
    (sg : Vec Ideal S1x256 .f32) (wu : Vec Ideal S1152x256 .fp8e4m3) (su : Vec Ideal S1x256 .f32) (y : S448x256.Idx) :
    k0_pay87 X S wg sg wu su y = act
      ((∑ k : Fin 1152, X (ix2 (y 0) k) * wg (ix2 k (y 1))) * S (ix2 (y 0) ⟨(y 1).val % 128, Nat.mod_lt _ (by decide)⟩) * sg (ix2 0 (y 1)))
      ((∑ k : Fin 1152, X (ix2 (y 0) k) * wu (ix2 k (y 1))) * S (ix2 (y 0) ⟨(y 1).val % 128, Nat.mod_lt _ (by decide)⟩) * su (ix2 0 (y 1))) := by
  have h1 : (y 1).val < 256 := (y 1).isLt
  have e : (ix2 (y 0) ⟨(y 1).val % 128, Nat.mod_lt _ (by decide)⟩ : S448x128.Idx)
      = if h : (y 1).val < 128 then ix2 (y 0) ⟨(y 1).val, h⟩ else ix2 (y 0) ⟨(y 1).val - 128, by omega⟩ := by
    split_ifs <;> (congr 1; apply Fin.ext; dsimp only; omega)
  rw [e]
  unfold k0_pay87 act
  pointwise
  split_ifs <;> rfl

/-- A stored tile of the codes is that tile of `xcArr`. -/
theorem xc_tile (x : Vec Ideal S1792x1152 .bf16) (o : ℕ)
    (i1 : ∀ a, (![o, 0] : Fin 2 → ℕ) a + (![128, 1152] : Fin 2 → ℕ) a ≤ S1792x1152.size a) (y : S128x1152.Idx) :
    k0_pay8 (View.ld x (Rect.unit (s := S1792x1152) ![o, 0] ![128, 1152] i1)) y
      = xcArr x ((Rect.unit (s := S1792x1152) ![o, 0] ![128, 1152] i1).emb y) := by
  have e : ∀ k : Fin 1152, View.ld x (Rect.unit (s := S1792x1152) ![o, 0] ![128, 1152] i1) (ix2 (y 0) k)
      = x (ix2 ((Rect.unit (s := S1792x1152) ![o, 0] ![128, 1152] i1).emb y 0) k) := fun k => by
    rw [View.ld_apply]; congr 1; funext a; apply Fin.ext; fin_cases a <;> simp [Rect.emb_apply]
  rw [xc_pay]
  unfold xcArr xScale
  simp only [e]
  rfl

/-- A stored tile of the scales is that tile of `xsArr`. -/
theorem xs_tile (x : Vec Ideal S1792x1152 .bf16) (o : ℕ)
    (i1 : ∀ a, (![o, 0] : Fin 2 → ℕ) a + (![128, 1152] : Fin 2 → ℕ) a ≤ S1792x1152.size a)
    (i2 : ∀ a, (![o, 0] : Fin 2 → ℕ) a + (![128, 128] : Fin 2 → ℕ) a ≤ S1792x128.size a) (y : S128x128.Idx) :
    k0_pay9 (View.ld x (Rect.unit (s := S1792x1152) ![o, 0] ![128, 1152] i1)) y
      = xsArr x ((Rect.unit (s := S1792x128) ![o, 0] ![128, 128] i2).emb y) := by
  have e : ∀ k : Fin 1152, View.ld x (Rect.unit (s := S1792x1152) ![o, 0] ![128, 1152] i1) (ix2 (y 0) k)
      = x (ix2 ((Rect.unit (s := S1792x128) ![o, 0] ![128, 128] i2).emb y 0) k) := fun k => by
    rw [View.ld_apply]; congr 1; funext a; apply Fin.ext; fin_cases a <;> simp [Rect.emb_apply]
  rw [xs_pay]
  unfold xsArr xScale
  simp only [e]

/-- A stored tile of the activation's scales is that tile of `hsOf`. -/
theorem hs_tile (A : Vec Ideal S1792x128 .f32) (o : ℕ)
    (i1 : ∀ a, (![o, 0] : Fin 2 → ℕ) a + (![128, 128] : Fin 2 → ℕ) a ≤ S1792x128.size a) (y : S128x128.Idx) :
    k0_pay5 (View.ld A (Rect.unit (s := S1792x128) ![o, 0] ![128, 128] i1)) y
      = hsOf A ((Rect.unit (s := S1792x128) ![o, 0] ![128, 128] i1).emb y) := by
  have e : ∀ k : Fin 128, View.ld A (Rect.unit (s := S1792x128) ![o, 0] ![128, 128] i1) (ix2 (y 0) k)
      = A (ix2 ((Rect.unit (s := S1792x128) ![o, 0] ![128, 128] i1).emb y 0) k) := fun k => by
    rw [View.ld_apply]; congr 1; funext a; apply Fin.ext; fin_cases a <;> simp [Rect.emb_apply]
  rw [hs_pay]
  unfold hsOf
  simp only [e]

/-- A stored tile of the activation is that tile of `hBlk`. -/
theorem h_tile (X : Vec Ideal S1792x1152 .fp8e4m3) (S : Vec Ideal S1792x128 .f32) (wg : Vec Ideal S1152x1024 .fp8e4m3)
    (sg : Vec Ideal S1x1024 .f32) (wu : Vec Ideal S1152x1024 .fp8e4m3) (su : Vec Ideal S1x1024 .f32) (o n : ℕ) (hn : n % 128 = 0)
    (i1 : ∀ a, (![o, 0] : Fin 2 → ℕ) a + (![448, 1152] : Fin 2 → ℕ) a ≤ S1792x1152.size a)
    (i2 : ∀ a, (![o, 0] : Fin 2 → ℕ) a + (![448, 128] : Fin 2 → ℕ) a ≤ S1792x128.size a)
    (i3 : ∀ a, (![0, n] : Fin 2 → ℕ) a + (![1152, 256] : Fin 2 → ℕ) a ≤ S1152x1024.size a)
    (i4 : ∀ a, (![0, n] : Fin 2 → ℕ) a + (![1, 256] : Fin 2 → ℕ) a ≤ S1x1024.size a)
    (i5 : ∀ a, (![o, n] : Fin 2 → ℕ) a + (![448, 256] : Fin 2 → ℕ) a ≤ S1792x1024.size a) (y : S448x256.Idx) :
    k0_pay87 (View.ld X (Rect.unit (s := S1792x1152) ![o, 0] ![448, 1152] i1)) (View.ld S (Rect.unit (s := S1792x128) ![o, 0] ![448, 128] i2))
        (View.ld wg (Rect.unit (s := S1152x1024) ![0, n] ![1152, 256] i3)) (View.ld sg (Rect.unit (s := S1x1024) ![0, n] ![1, 256] i4))
        (View.ld wu (Rect.unit (s := S1152x1024) ![0, n] ![1152, 256] i3)) (View.ld su (Rect.unit (s := S1x1024) ![0, n] ![1, 256] i4)) y
      = hBlk X S wg sg wu su ((Rect.unit (s := S1792x1024) ![o, n] ![448, 256] i5).emb y) := by
  have h1 : (y 1).val < 256 := (y 1).isLt
  have eX : ∀ k : Fin 1152, View.ld X (Rect.unit (s := S1792x1152) ![o, 0] ![448, 1152] i1) (ix2 (y 0) k)
      = X (ix2 ((Rect.unit (s := S1792x1024) ![o, n] ![448, 256] i5).emb y 0) k) := fun k => by
    rw [View.ld_apply]; congr 1; funext a; apply Fin.ext; fin_cases a <;> simp [Rect.emb_apply]
  have ew : ∀ (w : Vec Ideal S1152x1024 .fp8e4m3) (k : Fin 1152), View.ld w (Rect.unit (s := S1152x1024) ![0, n] ![1152, 256] i3) (ix2 k (y 1))
      = w (ix2 k ((Rect.unit (s := S1792x1024) ![o, n] ![448, 256] i5).emb y 1)) := fun w k => by
    rw [View.ld_apply]; congr 1; funext a; apply Fin.ext; fin_cases a <;> simp [Rect.emb_apply]
  have es : ∀ (s : Vec Ideal S1x1024 .f32), View.ld s (Rect.unit (s := S1x1024) ![0, n] ![1, 256] i4) (ix2 0 (y 1))
      = s (ix2 0 ((Rect.unit (s := S1792x1024) ![o, n] ![448, 256] i5).emb y 1)) := fun s => by
    rw [View.ld_apply]; congr 1; funext a; apply Fin.ext; fin_cases a <;> simp [Rect.emb_apply]
  have eS : View.ld S (Rect.unit (s := S1792x128) ![o, 0] ![448, 128] i2) (ix2 (y 0) ⟨(y 1).val % 128, Nat.mod_lt _ (by decide)⟩)
      = S (ix2 ((Rect.unit (s := S1792x1024) ![o, n] ![448, 256] i5).emb y 0)
          ⟨((Rect.unit (s := S1792x1024) ![o, n] ![448, 256] i5).emb y 1).val % 128, Nat.mod_lt _ (by decide)⟩) := by
    have e1 : ((Rect.unit (s := S1792x1024) ![o, n] ![448, 256] i5).emb y 1).val = n + (y 1).val := by simp [Rect.emb_apply]
    rw [View.ld_apply]; congr 1; funext a; apply Fin.ext
    fin_cases a
    · simp [Rect.emb_apply]
    · simp [Rect.emb_apply]; omega
  rw [h_pay]
  unfold hBlk
  simp only [eX, ew wg, ew wu, es sg, es su, eS]

/-- One update of the running maximum: against the magnitudes of the stored tile's left and right halves. -/
theorem amax_pay (X : Vec Ideal S448x1152 .fp8e4m3) (S : Vec Ideal S448x128 .f32) (wg : Vec Ideal S1152x256 .fp8e4m3)
    (sg : Vec Ideal S1x256 .f32) (wu : Vec Ideal S1152x256 .fp8e4m3) (su : Vec Ideal S1x256 .f32) (A : Vec Ideal S448x128 .f32) (y : S448x128.Idx) :
    k0_pay88 X S wg sg wu su A y = max (A y)
      (max (FloatOps.absf (F := Ideal) (φ := .f32) (k0_pay87 X S wg sg wu su (ix2 (y 0) ⟨(y 1).val, Nat.lt_of_lt_of_le (y 1).isLt (by decide : (128 : ℕ) ≤ 256)⟩)))
        (FloatOps.absf (F := Ideal) (φ := .f32) (k0_pay87 X S wg sg wu su (ix2 (y 0) ⟨128 + (y 1).val, Nat.add_lt_add_left (y 1).isLt 128⟩)))) := by
  unfold k0_pay88
  generalize k0_pay87 X S wg sg wu su = H
  pointwise

/-- A stored tile of the running maximum, after a point's four updates of it, is that tile of `amaxBlk`. -/
theorem amax_tile (P : Vec Ideal S1792x128 .f32) (X : Vec Ideal S1792x1152 .fp8e4m3) (S : Vec Ideal S1792x128 .f32) (wg : Vec Ideal S1152x1024 .fp8e4m3)
    (sg : Vec Ideal S1x1024 .f32) (wu : Vec Ideal S1152x1024 .fp8e4m3) (su : Vec Ideal S1x1024 .f32) (o : ℕ)
    (i1 : ∀ a, (![o, 0] : Fin 2 → ℕ) a + (![448, 1152] : Fin 2 → ℕ) a ≤ S1792x1152.size a)
    (i2 : ∀ a, (![o, 0] : Fin 2 → ℕ) a + (![448, 128] : Fin 2 → ℕ) a ≤ S1792x128.size a)
    (a3 : ∀ a, (![0, 0] : Fin 2 → ℕ) a + (![1152, 256] : Fin 2 → ℕ) a ≤ S1152x1024.size a)
    (a4 : ∀ a, (![0, 0] : Fin 2 → ℕ) a + (![1, 256] : Fin 2 → ℕ) a ≤ S1x1024.size a)
    (b3 : ∀ a, (![0, 256] : Fin 2 → ℕ) a + (![1152, 256] : Fin 2 → ℕ) a ≤ S1152x1024.size a)
    (b4 : ∀ a, (![0, 256] : Fin 2 → ℕ) a + (![1, 256] : Fin 2 → ℕ) a ≤ S1x1024.size a)
    (c3 : ∀ a, (![0, 512] : Fin 2 → ℕ) a + (![1152, 256] : Fin 2 → ℕ) a ≤ S1152x1024.size a)
    (c4 : ∀ a, (![0, 512] : Fin 2 → ℕ) a + (![1, 256] : Fin 2 → ℕ) a ≤ S1x1024.size a)
    (d3 : ∀ a, (![0, 768] : Fin 2 → ℕ) a + (![1152, 256] : Fin 2 → ℕ) a ≤ S1152x1024.size a)
    (d4 : ∀ a, (![0, 768] : Fin 2 → ℕ) a + (![1, 256] : Fin 2 → ℕ) a ≤ S1x1024.size a) (y : S448x128.Idx) :
    k0_pay88 (View.ld X (Rect.unit (s := S1792x1152) ![o, 0] ![448, 1152] i1)) (View.ld S (Rect.unit (s := S1792x128) ![o, 0] ![448, 128] i2))
        (View.ld wg (Rect.unit (s := S1152x1024) ![0, 768] ![1152, 256] d3)) (View.ld sg (Rect.unit (s := S1x1024) ![0, 768] ![1, 256] d4))
        (View.ld wu (Rect.unit (s := S1152x1024) ![0, 768] ![1152, 256] d3)) (View.ld su (Rect.unit (s := S1x1024) ![0, 768] ![1, 256] d4))
      (k0_pay88 (View.ld X (Rect.unit (s := S1792x1152) ![o, 0] ![448, 1152] i1)) (View.ld S (Rect.unit (s := S1792x128) ![o, 0] ![448, 128] i2))
        (View.ld wg (Rect.unit (s := S1152x1024) ![0, 512] ![1152, 256] c3)) (View.ld sg (Rect.unit (s := S1x1024) ![0, 512] ![1, 256] c4))
        (View.ld wu (Rect.unit (s := S1152x1024) ![0, 512] ![1152, 256] c3)) (View.ld su (Rect.unit (s := S1x1024) ![0, 512] ![1, 256] c4))
      (k0_pay88 (View.ld X (Rect.unit (s := S1792x1152) ![o, 0] ![448, 1152] i1)) (View.ld S (Rect.unit (s := S1792x128) ![o, 0] ![448, 128] i2))
        (View.ld wg (Rect.unit (s := S1152x1024) ![0, 256] ![1152, 256] b3)) (View.ld sg (Rect.unit (s := S1x1024) ![0, 256] ![1, 256] b4))
        (View.ld wu (Rect.unit (s := S1152x1024) ![0, 256] ![1152, 256] b3)) (View.ld su (Rect.unit (s := S1x1024) ![0, 256] ![1, 256] b4))
      (k0_pay88 (View.ld X (Rect.unit (s := S1792x1152) ![o, 0] ![448, 1152] i1)) (View.ld S (Rect.unit (s := S1792x128) ![o, 0] ![448, 128] i2))
        (View.ld wg (Rect.unit (s := S1152x1024) ![0, 0] ![1152, 256] a3)) (View.ld sg (Rect.unit (s := S1x1024) ![0, 0] ![1, 256] a4))
        (View.ld wu (Rect.unit (s := S1152x1024) ![0, 0] ![1152, 256] a3)) (View.ld su (Rect.unit (s := S1x1024) ![0, 0] ![1, 256] a4))
      (View.ld P (Rect.unit (s := S1792x128) ![o, 0] ![448, 128] i2))))) y
      = amaxBlk P (hBlk X S wg sg wu su) ((Rect.unit (s := S1792x128) ![o, 0] ![448, 128] i2).emb y) := by
  have h1 : (y 1).val < 128 := (y 1).isLt
  have ho : o ≤ 1344 := by have := i2 0; simp at this; omega
  have i5 : ∀ n, n ≤ 768 → ∀ a, (![o, n] : Fin 2 → ℕ) a + (![448, 256] : Fin 2 → ℕ) a ≤ S1792x1024.size a := fun n hn a => by
    fin_cases a <;> simp <;> omega
  have key : ∀ (n : ℕ) (hn : n ≤ 768) (l : Fin 256) (c : Fin 1024) (hc : c.val = n + l.val),
      (Rect.unit (s := S1792x1024) ![o, n] ![448, 256] (i5 n hn)).emb (ix2 (y 0) l)
        = ix2 ((Rect.unit (s := S1792x128) ![o, 0] ![448, 128] i2).emb y 0) c := fun n hn l c hc => by
    funext a; apply Fin.ext; fin_cases a <;> simp [Rect.emb_apply, hc]
  have hl : ((Rect.unit (s := S1792x128) ![o, 0] ![448, 128] i2).emb y 1).val = (y 1).val := by simp [Rect.emb_apply]
  simp only [amax_pay]
  rw [h_tile X S wg sg wu su o 768 rfl i1 i2 d3 d4 (i5 768 (by omega)), h_tile X S wg sg wu su o 768 rfl i1 i2 d3 d4 (i5 768 (by omega)),
    h_tile X S wg sg wu su o 512 rfl i1 i2 c3 c4 (i5 512 (by omega)), h_tile X S wg sg wu su o 512 rfl i1 i2 c3 c4 (i5 512 (by omega)),
    h_tile X S wg sg wu su o 256 rfl i1 i2 b3 b4 (i5 256 (by omega)), h_tile X S wg sg wu su o 256 rfl i1 i2 b3 b4 (i5 256 (by omega)),
    h_tile X S wg sg wu su o 0 rfl i1 i2 a3 a4 (i5 0 (by omega)), h_tile X S wg sg wu su o 0 rfl i1 i2 a3 a4 (i5 0 (by omega))]
  unfold amaxBlk magAt
  rw [View.ld_apply]
  congr 1
  · congr 1
    · congr 1
      · congr 1
        congr 1
        · congr 2; exact key 0 (by omega) _ _ (by rw [← hl])
        · congr 2; exact key 0 (by omega) _ _ (by simp [hl])
      · congr 1
        · congr 2; exact key 256 (by omega) _ _ (by simp [hl])
        · congr 2; exact key 256 (by omega) _ _ (by simp [hl]; omega)
    · congr 1
      · congr 2; exact key 512 (by omega) _ _ (by simp [hl])
      · congr 2; exact key 512 (by omega) _ _ (by simp [hl]; omega)
  · congr 1
    · congr 2; exact key 768 (by omega) _ _ (by simp [hl])
    · congr 2; exact key 768 (by omega) _ _ (by simp [hl]; omega)

end Cert.UpIdeal.Hand
end
-- ==== Proof.UpForms.lean ====
module
public import proofs.«01_k».proof.Proof.UpBlock

/-! The up projection over the extended reals: the stored tiles' payloads, brought to one spelling each. -/

@[expose] public section
set_option maxRecDepth 65536
noncomputable section
namespace Cert.UpIdeal.Hand
open Cert.UpIdeal Cert.UpIdeal.Gen Idealize.ShloMosaic Idealize.ShloMosaic.TcCoe Idealize.SL.Sem
open Idealize.ShloMosaic.Pipeline (Dat)

variable (X : Vec Ideal S448x1152 .fp8e4m3) (S : Vec Ideal S448x128 .f32) (wg : Vec Ideal S1152x256 .fp8e4m3) (sg : Vec Ideal S1x256 .f32)
  (wu : Vec Ideal S1152x256 .fp8e4m3) (su : Vec Ideal S1x256 .f32) (A : Vec Ideal S448x128 .f32) (x : Vec Ideal S128x1152 .bf16) (a : Vec Ideal S128x128 .f32)

/-- A tile of the activation, spelling 89. -/
theorem h_form89 : k0_pay89 X S wg sg wu su = k0_pay87 X S wg sg wu su := rfl
/-- A tile of the running maximum, spelling 90. -/
theorem a_form90 : k0_pay90 X S wg sg wu su A = k0_pay88 X S wg sg wu su A := rfl
/-- A tile of the activation, spelling 92. -/
theorem h_form92 : k0_pay92 (k0_pay91 X) S wg sg wu su = k0_pay87 X S wg sg wu su := rfl
/-- A tile of the running maximum, spelling 93. -/
theorem a_form93 : k0_pay93 (k0_pay91 X) S wg sg wu su A = k0_pay88 X S wg sg wu su A := rfl
/-- A tile of the activation, spelling 96. -/
theorem h_form96 : k0_pay96 (k0_pay94 X) (k0_pay95 S) wg sg wu su = k0_pay87 X S wg sg wu su := rfl
/-- A tile of the running maximum, spelling 97. -/
theorem a_form97 : k0_pay97 (k0_pay94 X) (k0_pay95 S) wg sg wu su A = k0_pay88 X S wg sg wu su A := rfl
/-- A tile of the activation, spelling 101. -/
theorem h_form101 : k0_pay101 (k0_pay98 X) (k0_pay99 S) (k0_pay100 X S wg) sg wu su = k0_pay87 X S wg sg wu su := rfl
/-- A tile of the running maximum, spelling 102. -/
theorem a_form102 : k0_pay102 (k0_pay98 X) (k0_pay99 S) (k0_pay100 X S wg) sg wu su A = k0_pay88 X S wg sg wu su A := rfl
/-- A tile of the activation, spelling 106. -/
theorem h_form106 : k0_pay106 (k0_pay103 X) (k0_pay104 S) (k0_pay105 X S wg sg) wu su = k0_pay87 X S wg sg wu su := rfl
/-- A tile of the running maximum, spelling 107. -/
theorem a_form107 : k0_pay107 (k0_pay103 X) (k0_pay104 S) (k0_pay105 X S wg sg) wu su A = k0_pay88 X S wg sg wu su A := rfl
/-- A tile of the activation, spelling 112. -/
theorem h_form112 : k0_pay112 (k0_pay110 X S wg sg) (k0_pay111 X S wu) su = k0_pay87 X S wg sg wu su := rfl
/-- A tile of the running maximum, spelling 113. -/
theorem a_form113 : k0_pay113 (k0_pay110 X S wg sg) (k0_pay111 X S wu) su A = k0_pay88 X S wg sg wu su A := rfl
/-- A tile of the activation, spelling 118. -/
theorem h_form118 : k0_pay118 (k0_pay116 X S wu su) (k0_pay117 X S wg sg) = k0_pay87 X S wg sg wu su := rfl
/-- A tile of the running maximum, spelling 119. -/
theorem a_form119 : k0_pay119 (k0_pay116 X S wu su) (k0_pay117 X S wg sg) A = k0_pay88 X S wg sg wu su A := rfl
/-- A tile of the activation, spelling 126. -/
theorem h_form126 : k0_pay126 X S wg sg wu su = k0_pay87 X S wg sg wu su := rfl
/-- A tile of the running maximum, spelling 127. -/
theorem a_form127 : k0_pay127 X S wg sg wu su A = k0_pay88 X S wg sg wu su A := rfl
/-- A tile of the activation, spelling 128. -/
theorem h_form128 : k0_pay128 X S wg sg wu su = k0_pay87 X S wg sg wu su := rfl
/-- A tile of the running maximum, spelling 129. -/
theorem a_form129 : k0_pay129 X S wg sg wu su A = k0_pay88 X S wg sg wu su A := rfl
/-- A tile of the activation, spelling 131. -/
theorem h_form131 : k0_pay131 (k0_pay130 X) S wg sg wu su = k0_pay87 X S wg sg wu su := rfl
/-- A tile of the running maximum, spelling 132. -/
theorem a_form132 : k0_pay132 (k0_pay130 X) S wg sg wu su A = k0_pay88 X S wg sg wu su A := rfl
/-- A tile of the activation, spelling 135. -/
theorem h_form135 : k0_pay135 (k0_pay133 X) (k0_pay134 S) wg sg wu su = k0_pay87 X S wg sg wu su := rfl
/-- A tile of the running maximum, spelling 136. -/
theorem a_form136 : k0_pay136 (k0_pay133 X) (k0_pay134 S) wg sg wu su A = k0_pay88 X S wg sg wu su A := rfl
/-- A tile of the activation, spelling 140. -/
theorem h_form140 : k0_pay140 (k0_pay137 X) (k0_pay138 S) (k0_pay139 X S wg) sg wu su = k0_pay87 X S wg sg wu su := rfl
/-- A tile of the running maximum, spelling 141. -/
theorem a_form141 : k0_pay141 (k0_pay137 X) (k0_pay138 S) (k0_pay139 X S wg) sg wu su A = k0_pay88 X S wg sg wu su A := rfl
/-- A tile of the activation, spelling 1. -/
theorem h_form1 : k0_pay1 (k0_pay142 X) (k0_pay143 S) (k0_pay144 X S wg sg) wu su = k0_pay87 X S wg sg wu su := rfl
/-- A tile of the running maximum, spelling 2. -/
theorem a_form2 : k0_pay2 (k0_pay142 X) (k0_pay143 S) (k0_pay144 X S wg sg) wu su A = k0_pay88 X S wg sg wu su A := rfl
/-- A tile of the activation, spelling 120. -/
theorem h_form120 : k0_pay120 X S wg sg wu su = k0_pay87 X S wg sg wu su := rfl
/-- A tile of the running maximum, spelling 122. -/
theorem a_form122 : k0_pay122 (k0_pay121 X S wg sg wu su) A = k0_pay88 X S wg sg wu su A := rfl
/-- A tile of the activation, spelling 123. -/
theorem h_form123 : k0_pay123 X S wg sg wu su = k0_pay87 X S wg sg wu su := rfl
/-- A tile of the running maximum, spelling 125. -/
theorem a_form125 : k0_pay125 A (k0_pay124 X S wg sg wu su) = k0_pay88 X S wg sg wu su A := rfl
/-- A tile of scales, spelling 15. -/
theorem xs_form15 : k0_pay15 (k0_pay11 x) = k0_pay9 x := rfl
/-- A tile of scales, spelling 19. -/
theorem xs_form19 : k0_pay19 x = k0_pay9 x := rfl
/-- A tile of scales, spelling 24. -/
theorem xs_form24 : k0_pay24 (k0_pay21 x) = k0_pay9 x := rfl
/-- A tile of scales, spelling 29. -/
theorem xs_form29 : k0_pay29 (k0_pay28 x) = k0_pay9 x := rfl
/-- A tile of scales, spelling 33. -/
theorem xs_form33 : k0_pay33 x = k0_pay9 x := rfl
/-- A tile of scales, spelling 37. -/
theorem xs_form37 : k0_pay37 (k0_pay35 x) = k0_pay9 x := rfl
/-- A tile of scales, spelling 41. -/
theorem xs_form41 : k0_pay41 x = k0_pay9 x := rfl
/-- A tile of scales, spelling 46. -/
theorem xs_form46 : k0_pay46 (k0_pay42 x) = k0_pay9 x := rfl
/-- A tile of scales, spelling 50. -/
theorem xs_form50 : k0_pay50 (k0_pay48 x) = k0_pay9 x := rfl
/-- A tile of scales, spelling 54. -/
theorem xs_form54 : k0_pay54 x = k0_pay9 x := rfl
/-- A tile of scales, spelling 60. -/
theorem xs_form60 : k0_pay60 (k0_pay56 x) (k0_pay57 x) (FloatOps.ofBits FTy.f32 1138753536#32) = k0_pay9 x := rfl
/-- A tile of scales, spelling 64. -/
theorem xs_form64 : k0_pay64 x = k0_pay9 x := rfl
/-- A tile of scales, spelling 85. -/
theorem xs_form85 : k0_pay85 x = k0_pay9 x := rfl
/-- A tile of the activation's scales, spelling 65. -/
theorem hs_form65 : k0_pay65 a = k0_pay5 a := rfl
/-- A tile of the activation's scales, spelling 66. -/
theorem hs_form66 : k0_pay66 a = k0_pay5 a := rfl
/-- A tile of the activation's scales, spelling 67. -/
theorem hs_form67 : k0_pay67 a = k0_pay5 a := rfl
/-- A tile of the activation's scales, spelling 68. -/
theorem hs_form68 : k0_pay68 a = k0_pay5 a := rfl
/-- A tile of the activation's scales, spelling 69. -/
theorem hs_form69 : k0_pay69 a = k0_pay5 a := rfl
/-- A tile of the activation's scales, spelling 71. -/
theorem hs_form71 : k0_pay71 (k0_pay70 a) = k0_pay5 a := rfl
/-- A tile of the activation's scales, spelling 72. -/
theorem hs_form72 : k0_pay72 a = k0_pay5 a := rfl
/-- A tile of the activation's scales, spelling 73. -/
theorem hs_form73 : k0_pay73 a = k0_pay5 a := rfl
/-- A tile of the activation's scales, spelling 77. -/
theorem hs_form77 : k0_pay77 (k0_pay75 a) (k0_pay76 a) = k0_pay5 a := rfl
/-- A tile of the activation's scales, spelling 78. -/
theorem hs_form78 : k0_pay78 a = k0_pay5 a := rfl
/-- A tile of the activation's scales, spelling 79. -/
theorem hs_form79 : k0_pay79 a = k0_pay5 a := rfl
/-- A tile of the activation's scales, spelling 3. -/
theorem hs_form3 : k0_pay3 (k0_pay80 a) (k0_pay81 a) = k0_pay5 a := rfl
/-- A tile of the activation's scales, spelling 4. -/
theorem hs_form4 : k0_pay4 a = k0_pay5 a := rfl

end Cert.UpIdeal.Hand
end
-- ==== Proof.UpPoint.lean ====
module
public import proofs.«01_k».proof.Proof.UpForms

/-! The up projection over the extended reals: the contents each point leaves, in closed form. -/

@[expose] public section
set_option maxRecDepth 65536
noncomputable section
namespace Cert.UpIdeal.Hand
open Cert.UpIdeal Cert.UpIdeal.Gen Idealize.ShloMosaic Idealize.ShloMosaic.TcCoe Idealize.SL.Sem
open Idealize.ShloMosaic.Pipeline (Dat)

/-- A load of the codes' buffer is a load of what its stores left. -/
theorem rd6 (t : Fin cfg0.N) (L : List (View.Piece (Elt Ideal) S1792x1152 .fp8e4m3)) (r : Rect S1792x1152) :
    (ms5 t).view.readCov L r.toLoadRect = View.ld (View.canon L) r := by
  rw [View.readCov_eq_canon']
/-- A load of the scales' buffer is a load of what its stores left. -/
theorem rd7 (t : Fin cfg0.N) (L : List (View.Piece (Elt Ideal) S1792x128 .f32)) (r : Rect S1792x128) :
    (ms6 t).view.readCov L r.toLoadRect = View.ld (View.canon L) r := by
  rw [View.readCov_eq_canon']
/-- A load of 128 rows of the scratch is a load of what its stores left. -/
theorem rdS (L : List (View.Piece (Elt Ideal) S1792x128 .f32)) (off : Fin 2 → ℕ)
    (inb : ∀ a, off a + (![128, 128] : Fin 2 → ℕ) a ≤ S1792x128.size a) :
    (View.whole cc0_scratch0).readCov L (Rect.unit (s := S1792x128) off ![128, 128] inb).toLoadRect = View.ld (View.canon L) (Rect.unit (s := S1792x128) off ![128, 128] inb) := by
  rw [View.readCov_eq_canon']
  rfl
/-- The scratch read back from what it was set to. -/
theorem ru (P : Vec Ideal S1792x128 .f32) (h : (Memref.whole cc0_scratch0 : Memref sig .tc .vmem S1792x128 .f32).IsWhole) :
    View.read (Elt Ideal) (View.whole cc0_scratch0) (h.unread P) = P := h.read_unread P

/-- Four last stores that tile the scratch decide its contents, whatever was stored before them. -/
theorem canon4 (G : S1792x128.Idx → Elt Ideal .f32) (p q r s : View.Piece (Elt Ideal) S1792x128 .f32) (L : List (View.Piece (Elt Ideal) S1792x128 .f32))
    (h : View.PiecesOf (Val := Elt Ideal) (e := .f32) G [p, q, r, s]) (y : S1792x128.Idx) (hc : ∃ w ∈ [p, q, r, s], y ∈ w.1.set) :
    View.canon (p :: q :: r :: s :: L) y = G y :=
  View.canon_append_of_piecesOf (Val := Elt Ideal) (e := .f32) G L [p, q, r, s] h y hc

variable (m : (ℓ : Loc nD τ sig) → Buf (Elt Ideal) ℓ)

set_option maxHeartbeats 1000000 in
/-- The first point stores the codes. -/
theorem outA6_eq (c : Dev nD) (t : Fin cfg0.N) (h0 : t.val = 0) : outA6 m c t h0 = xcArr (iblk m c 0 t) := by
  unfold outA6
  funext y
  have hcov := covA6 m c t h0 y
  revert hcov
  unfold atA
  frame_out
  intro hcov
  refine View.canon_apply_of_pieces _ _ (View.PiecesOf.mem ?_) y hcov
  repeat' refine And.intro (xc_tile _ _ _) ?_
  exact trivial

set_option maxHeartbeats 1000000 in
/-- The first point stores the scales. -/
theorem outA7_eq (c : Dev nD) (t : Fin cfg0.N) (h0 : t.val = 0) : outA7 m c t h0 = xsArr (iblk m c 0 t) := by
  unfold outA7
  funext y
  have hcov := covA7 m c t h0 y
  revert hcov
  unfold atA
  frame_out
  simp only [xs_form15, xs_form19, xs_form24, xs_form29, xs_form33, xs_form37, xs_form41, xs_form46, xs_form50, xs_form54, xs_form60, xs_form64, xs_form85]
  intro hcov
  refine View.canon_apply_of_pieces _ _ (View.PiecesOf.mem ?_) y hcov
  refine And.intro ?_ ?_
  · intro x
    dsimp only
    exact xs_tile (iblk m c 0 t) 1664 inb_S1792x1152_S128x1152_1664_0 inb_S1792x128_S128x128_1664_0 x
  refine And.intro ?_ ?_
  · intro x
    dsimp only
    exact xs_tile (iblk m c 0 t) 1536 inb_S1792x1152_S128x1152_1536_0 inb_S1792x128_S128x128_1536_0 x
  refine And.intro ?_ ?_
  · intro x
    dsimp only
    exact xs_tile (iblk m c 0 t) 1408 inb_S1792x1152_S128x1152_1408_0 inb_S1792x128_S128x128_1408_0 x
  refine And.intro ?_ ?_
  · intro x
    dsimp only
    exact xs_tile (iblk m c 0 t) 1280 inb_S1792x1152_S128x1152_1280_0 inb_S1792x128_S128x128_1280_0 x
  refine And.intro ?_ ?_
  · intro x
    dsimp only
    exact xs_tile (iblk m c 0 t) 1152 inb_S1792x1152_S128x1152_1152_0 inb_S1792x128_S128x128_1152_0 x
  refine And.intro ?_ ?_
  · intro x
    dsimp only
    exact xs_tile (iblk m c 0 t) 1024 inb_S1792x1152_S128x1152_1024_0 inb_S1792x128_S128x128_1024_0 x
  refine And.intro ?_ ?_
  · intro x
    dsimp only
    exact xs_tile (iblk m c 0 t) 896 inb_S1792x1152_S128x1152_896_0 inb_S1792x128_S128x128_896_0 x
  refine And.intro ?_ ?_
  · intro x
    dsimp only
    exact xs_tile (iblk m c 0 t) 768 inb_S1792x1152_S128x1152_768_0 inb_S1792x128_S128x128_768_0 x
  refine And.intro ?_ ?_
  · intro x
    dsimp only
    exact xs_tile (iblk m c 0 t) 640 inb_S1792x1152_S128x1152_640_0 inb_S1792x128_S128x128_640_0 x
  refine And.intro ?_ ?_
  · intro x
    dsimp only
    exact xs_tile (iblk m c 0 t) 512 inb_S1792x1152_S128x1152_512_0 inb_S1792x128_S128x128_512_0 x
  refine And.intro ?_ ?_
  · intro x
    dsimp only
    exact xs_tile (iblk m c 0 t) 384 inb_S1792x1152_S128x1152_384_0 inb_S1792x128_S128x128_384_0 x
  refine And.intro ?_ ?_
  · intro x
    dsimp only
    exact xs_tile (iblk m c 0 t) 256 inb_S1792x1152_S128x1152_256_0 inb_S1792x128_S128x128_256_0 x
  refine And.intro ?_ ?_
  · intro x
    dsimp only
    exact xs_tile (iblk m c 0 t) 128 inb_S1792x1152_S128x1152_128_0 inb_S1792x128_S128x128_128_0 x
  refine And.intro ?_ ?_
  · intro x
    dsimp only
    exact xs_tile (iblk m c 0 t) 0 inb_S1792x1152_S128x1152_0_0 inb_S1792x128_S128x128_0_0 x
  exact trivial

set_option maxHeartbeats 1000000 in
/-- A middle point's activation block. -/
theorem outB8_eq (c : Dev nD) (t : Fin cfg0.N) (h0 : t.val ≠ 0) (h1 : t.val ≠ 13) (X S P) :
    outB8 m c t h0 h1 X S P = hBlk X S (iblk m c 1 t) (iblk m c 3 t) (iblk m c 2 t) (iblk m c 4 t) := by
  unfold outB8
  funext y
  have hcov := covB8 m c t h0 h1 X S P y
  revert hcov
  unfold atB
  frame_out
  simp only [h_form89, h_form92, h_form96, h_form101, h_form106, h_form112, h_form118, h_form126, h_form128, h_form131, h_form135, h_form140, h_form1, h_form120, h_form123]
  intro hcov
  refine View.canon_apply_of_pieces _ _ (View.PiecesOf.mem ?_) y hcov
  repeat' refine And.intro (h_tile _ _ _ _ _ _ _ _ (by decide) _ _ _ _ (by decide)) ?_
  exact trivial

set_option maxHeartbeats 1000000 in
/-- The last point's activation block. -/
theorem outC8_eq (c : Dev nD) (t : Fin cfg0.N) (h1 : t.val = 13) (X S P) :
    outC8 m c t h1 X S P = hBlk X S (iblk m c 1 t) (iblk m c 3 t) (iblk m c 2 t) (iblk m c 4 t) := by
  unfold outC8
  funext y
  have hcov := covC8 m c t h1 X S P y
  revert hcov
  unfold atC
  frame_out
  simp only [h_form89, h_form92, h_form96, h_form101, h_form106, h_form112, h_form118, h_form126, h_form128, h_form131, h_form135, h_form140, h_form1, h_form120, h_form123]
  intro hcov
  refine View.canon_apply_of_pieces _ _ (View.PiecesOf.mem ?_) y hcov
  repeat' refine And.intro (h_tile _ _ _ _ _ _ _ _ (by decide) _ _ _ _ (by decide)) ?_
  exact trivial

set_option maxHeartbeats 1000000 in
/-- A middle point's running maximum. -/
theorem outB10_eq (c : Dev nD) (t : Fin cfg0.N) (h0 : t.val ≠ 0) (h1 : t.val ≠ 13) (X S P) :
    outB10 m c t h0 h1 X S P = amaxBlk P (hBlk X S (iblk m c 1 t) (iblk m c 3 t) (iblk m c 2 t) (iblk m c 4 t)) := by
  unfold outB10
  funext y
  have hcov := View.cover_of_tiledL ((atB m c t h0 h1 X S P).2.1.take 4) S448x128.size (by sl_kernel_rfl) y
  revert hcov
  unfold atB
  frame_open
  simp (disch := decide) only [↓ View.readCov_skip, ↓ View.readCov_cons_toLoadRect, ↓ View.readCov_fill]
  frame_out
  simp only [List.take, ru]
  simp only [a_form90, a_form93, a_form97, a_form102, a_form107, a_form113, a_form119, a_form127, a_form129, a_form132, a_form136, a_form141, a_form2, a_form122, a_form125]
  intro hcov
  refine canon4 _ _ _ _ _ _ ?_ y hcov
  refine And.intro ?_ ?_
  · intro x
    dsimp only
    exact amax_tile P X S (iblk m c 1 t) (iblk m c 3 t) (iblk m c 2 t) (iblk m c 4 t) 1344 inb_S1792x1152_S448x1152_1344_0 inb_S1792x128_S448x128_1344_0 inb_S1152x1024_S1152x256_0_0 inb_S1x1024_S1x256_0_0 inb_S1152x1024_S1152x256_0_256 inb_S1x1024_S1x256_0_256 inb_S1152x1024_S1152x256_0_512 inb_S1x1024_S1x256_0_512 inb_S1152x1024_S1152x256_0_768 inb_S1x1024_S1x256_0_768 x
  refine And.intro ?_ ?_
  · intro x
    dsimp only
    exact amax_tile P X S (iblk m c 1 t) (iblk m c 3 t) (iblk m c 2 t) (iblk m c 4 t) 896 inb_S1792x1152_S448x1152_896_0 inb_S1792x128_S448x128_896_0 inb_S1152x1024_S1152x256_0_0 inb_S1x1024_S1x256_0_0 inb_S1152x1024_S1152x256_0_256 inb_S1x1024_S1x256_0_256 inb_S1152x1024_S1152x256_0_512 inb_S1x1024_S1x256_0_512 inb_S1152x1024_S1152x256_0_768 inb_S1x1024_S1x256_0_768 x
  refine And.intro ?_ ?_
  · intro x
    dsimp only
    exact amax_tile P X S (iblk m c 1 t) (iblk m c 3 t) (iblk m c 2 t) (iblk m c 4 t) 448 inb_S1792x1152_S448x1152_448_0 inb_S1792x128_S448x128_448_0 inb_S1152x1024_S1152x256_0_0 inb_S1x1024_S1x256_0_0 inb_S1152x1024_S1152x256_0_256 inb_S1x1024_S1x256_0_256 inb_S1152x1024_S1152x256_0_512 inb_S1x1024_S1x256_0_512 inb_S1152x1024_S1152x256_0_768 inb_S1x1024_S1x256_0_768 x
  refine And.intro ?_ ?_
  · intro x
    dsimp only
    exact amax_tile P X S (iblk m c 1 t) (iblk m c 3 t) (iblk m c 2 t) (iblk m c 4 t) 0 inb_S1792x1152_S448x1152_0_0 inb_S1792x128_S448x128_0_0 inb_S1152x1024_S1152x256_0_0 inb_S1x1024_S1x256_0_0 inb_S1152x1024_S1152x256_0_256 inb_S1x1024_S1x256_0_256 inb_S1152x1024_S1152x256_0_512 inb_S1x1024_S1x256_0_512 inb_S1152x1024_S1152x256_0_768 inb_S1x1024_S1x256_0_768 x
  exact trivial

set_option maxHeartbeats 1000000 in
/-- The last point's running maximum. -/
theorem outC10_eq (c : Dev nD) (t : Fin cfg0.N) (h1 : t.val = 13) (X S P) :
    outC10 m c t h1 X S P = amaxBlk P (hBlk X S (iblk m c 1 t) (iblk m c 3 t) (iblk m c 2 t) (iblk m c 4 t)) := by
  unfold outC10
  funext y
  have hcov := View.cover_of_tiledL ((atC m c t h1 X S P).2.2.1.take 4) S448x128.size (by sl_kernel_rfl) y
  revert hcov
  unfold atC
  frame_open
  simp (disch := decide) only [↓ View.readCov_skip, ↓ View.readCov_cons_toLoadRect, ↓ View.readCov_fill]
  frame_out
  simp only [List.take, ru]
  simp only [a_form90, a_form93, a_form97, a_form102, a_form107, a_form113, a_form119, a_form127, a_form129, a_form132, a_form136, a_form141, a_form2, a_form122, a_form125]
  intro hcov
  refine canon4 _ _ _ _ _ _ ?_ y hcov
  refine And.intro ?_ ?_
  · intro x
    dsimp only
    exact amax_tile P X S (iblk m c 1 t) (iblk m c 3 t) (iblk m c 2 t) (iblk m c 4 t) 1344 inb_S1792x1152_S448x1152_1344_0 inb_S1792x128_S448x128_1344_0 inb_S1152x1024_S1152x256_0_0 inb_S1x1024_S1x256_0_0 inb_S1152x1024_S1152x256_0_256 inb_S1x1024_S1x256_0_256 inb_S1152x1024_S1152x256_0_512 inb_S1x1024_S1x256_0_512 inb_S1152x1024_S1152x256_0_768 inb_S1x1024_S1x256_0_768 x
  refine And.intro ?_ ?_
  · intro x
    dsimp only
    exact amax_tile P X S (iblk m c 1 t) (iblk m c 3 t) (iblk m c 2 t) (iblk m c 4 t) 896 inb_S1792x1152_S448x1152_896_0 inb_S1792x128_S448x128_896_0 inb_S1152x1024_S1152x256_0_0 inb_S1x1024_S1x256_0_0 inb_S1152x1024_S1152x256_0_256 inb_S1x1024_S1x256_0_256 inb_S1152x1024_S1152x256_0_512 inb_S1x1024_S1x256_0_512 inb_S1152x1024_S1152x256_0_768 inb_S1x1024_S1x256_0_768 x
  refine And.intro ?_ ?_
  · intro x
    dsimp only
    exact amax_tile P X S (iblk m c 1 t) (iblk m c 3 t) (iblk m c 2 t) (iblk m c 4 t) 448 inb_S1792x1152_S448x1152_448_0 inb_S1792x128_S448x128_448_0 inb_S1152x1024_S1152x256_0_0 inb_S1x1024_S1x256_0_0 inb_S1152x1024_S1152x256_0_256 inb_S1x1024_S1x256_0_256 inb_S1152x1024_S1152x256_0_512 inb_S1x1024_S1x256_0_512 inb_S1152x1024_S1152x256_0_768 inb_S1x1024_S1x256_0_768 x
  refine And.intro ?_ ?_
  · intro x
    dsimp only
    exact amax_tile P X S (iblk m c 1 t) (iblk m c 3 t) (iblk m c 2 t) (iblk m c 4 t) 0 inb_S1792x1152_S448x1152_0_0 inb_S1792x128_S448x128_0_0 inb_S1152x1024_S1152x256_0_0 inb_S1x1024_S1x256_0_0 inb_S1152x1024_S1152x256_0_256 inb_S1x1024_S1x256_0_256 inb_S1152x1024_S1152x256_0_512 inb_S1x1024_S1x256_0_512 inb_S1152x1024_S1152x256_0_768 inb_S1x1024_S1x256_0_768 x
  exact trivial

set_option maxHeartbeats 1000000 in
/-- The last point stores the activation's scales. -/
theorem outC9_eq (c : Dev nD) (t : Fin cfg0.N) (h1 : t.val = 13) (X S P) :
    outC9 m c t h1 X S P = hsOf (amaxBlk P (hBlk X S (iblk m c 1 t) (iblk m c 3 t) (iblk m c 2 t) (iblk m c 4 t))) := by
  rw [← outC10_eq m c t h1 X S P]
  have hA : outC10 m c t h1 X S P = View.canon (atC m c t h1 X S P).2.2.1 := by
    unfold outC10; exact View.read_writes_junk_eq_canon _ _
  have h9 : outC9 m c t h1 X S P = View.canon (atC m c t h1 X S P).2.1 := by
    unfold outC9; exact View.read_writes_junk_eq_canon _ _
  rw [hA, h9]
  generalize hB : View.canon (atC m c t h1 X S P).2.2.1 = B
  funext y
  have hcov := covC9 m c t h1 X S P y
  revert hB hcov
  unfold atC
  frame_open
  simp only [rdS]
  intro hB
  simp only [hB]
  simp only [hs_form65, hs_form66, hs_form67, hs_form68, hs_form69, hs_form71, hs_form72, hs_form73, hs_form77, hs_form78, hs_form79, hs_form3, hs_form4]
  intro hcov
  refine View.canon_apply_of_pieces _ _ (View.PiecesOf.mem ?_) y hcov
  refine And.intro ?_ ?_
  · intro x
    dsimp only
    exact hs_tile B 1664 inb_S1792x128_S128x128_1664_0 x
  refine And.intro ?_ ?_
  · intro x
    dsimp only
    exact hs_tile B 1536 inb_S1792x128_S128x128_1536_0 x
  refine And.intro ?_ ?_
  · intro x
    dsimp only
    exact hs_tile B 1408 inb_S1792x128_S128x128_1408_0 x
  refine And.intro ?_ ?_
  · intro x
    dsimp only
    exact hs_tile B 1280 inb_S1792x128_S128x128_1280_0 x
  refine And.intro ?_ ?_
  · intro x
    dsimp only
    exact hs_tile B 1152 inb_S1792x128_S128x128_1152_0 x
  refine And.intro ?_ ?_
  · intro x
    dsimp only
    exact hs_tile B 1024 inb_S1792x128_S128x128_1024_0 x
  refine And.intro ?_ ?_
  · intro x
    dsimp only
    exact hs_tile B 896 inb_S1792x128_S128x128_896_0 x
  refine And.intro ?_ ?_
  · intro x
    dsimp only
    exact hs_tile B 768 inb_S1792x128_S128x128_768_0 x
  refine And.intro ?_ ?_
  · intro x
    dsimp only
    exact hs_tile B 640 inb_S1792x128_S128x128_640_0 x
  refine And.intro ?_ ?_
  · intro x
    dsimp only
    exact hs_tile B 512 inb_S1792x128_S128x128_512_0 x
  refine And.intro ?_ ?_
  · intro x
    dsimp only
    exact hs_tile B 384 inb_S1792x128_S128x128_384_0 x
  refine And.intro ?_ ?_
  · intro x
    dsimp only
    exact hs_tile B 256 inb_S1792x128_S128x128_256_0 x
  refine And.intro ?_ ?_
  · intro x
    dsimp only
    exact hs_tile B 128 inb_S1792x128_S128x128_128_0 x
  refine And.intro ?_ ?_
  · intro x
    dsimp only
    exact hs_tile B 0 inb_S1792x128_S128x128_0_0 x
  exact trivial

end Cert.UpIdeal.Hand
end
-- ==== Proof.UpPointA.lean ====
module
public import proofs.«01_k».proof.Proof.UpPoint

/-! The up projection over the extended reals: the contents each point leaves, in closed form. -/

@[expose] public section
set_option maxRecDepth 65536
noncomputable section
namespace Cert.UpIdeal.Hand
open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
/-- The first point's activation block, over the codes and scales it stored itself. -/
theorem outA8_eq (c : Dev nD) (t : Fin cfg0.N) (h0 : t.val = 0) :
    outA8 m c t h0 = hBlk (xcArr (iblk m c 0 t)) (xsArr (iblk m c 0 t)) (iblk m c 1 t) (iblk m c 3 t) (iblk m c 2 t) (iblk m c 4 t) := by
  have h6 : View.canon (atA m c t h0).1 = xcArr (iblk m c 0 t) := by
    rw [← outA6_eq m c t h0]; unfold outA6; exact (View.read_writes_junk_eq_canon _ _).symm
  have h7 : View.canon (atA m c t h0).2.1 = xsArr (iblk m c 0 t) := by
    rw [← outA7_eq m c t h0]; unfold outA7; exact (View.read_writes_junk_eq_canon _ _).symm
  revert h6 h7
  unfold outA8
  generalize hX : xcArr (iblk m c 0 t) = X
  generalize hS : xsArr (iblk m c 0 t) = S
  intro h6 h7
  funext y
  have hcov := covA8 m c t h0 y
  revert h6 h7 hcov
  unfold atA
  frame_open
  simp only [rd6, rd7]
  intro h6 h7
  simp only [h6, h7]
  frame_out
  simp only [h_form89, h_form92, h_form96, h_form101, h_form106, h_form112, h_form118, h_form126, h_form128, h_form131, h_form135, h_form140, h_form1, h_form120, h_form123]
  intro hcov
  refine View.canon_apply_of_pieces _ _ (View.PiecesOf.mem ?_) y hcov
  repeat' refine And.intro (h_tile _ _ _ _ _ _ _ _ (by decide) _ _ _ _ (by decide)) ?_
  exact trivial

set_option maxHeartbeats 4000000 in
/-- The first point's running maximum: from zero. -/
theorem outA10_eq (c : Dev nD) (t : Fin cfg0.N) (h0 : t.val = 0) :
    outA10 m c t h0 = amaxBlk (fun _ => 0) (hBlk (xcArr (iblk m c 0 t)) (xsArr (iblk m c 0 t)) (iblk m c 1 t) (iblk m c 3 t) (iblk m c 2 t) (iblk m c 4 t)) := by
  have hz : (fun _ => 0 : Vec Ideal S1792x128 .f32) = k0_pay86 (F := Ideal) := by
    funext x
    unfold k0_pay86
    pointwise
  have h6 : View.canon (atA m c t h0).1 = xcArr (iblk m c 0 t) := by
    rw [← outA6_eq m c t h0]; unfold outA6; exact (View.read_writes_junk_eq_canon _ _).symm
  have h7 : View.canon (atA m c t h0).2.1 = xsArr (iblk m c 0 t) := by
    rw [← outA7_eq m c t h0]; unfold outA7; exact (View.read_writes_junk_eq_canon _ _).symm
  rw [hz]
  revert h6 h7
  unfold outA10
  generalize hX : xcArr (iblk m c 0 t) = X
  generalize hS : xsArr (iblk m c 0 t) = S
  intro h6 h7
  funext y
  have hcov := View.cover_of_tiledL ((atA m c t h0).2.2.2.1.take 4) S448x128.size (by sl_kernel_rfl) y
  revert h6 h7 hcov
  unfold atA
  frame_open
  simp only [rd6, rd7]
  intro h6 h7
  simp only [h6, h7]
  simp (disch := decide) only [↓ View.readCov_skip, ↓ View.readCov_cons_toLoadRect, ↓ View.readCov_fill]
  frame_out
  simp only [List.take]
  simp only [a_form90, a_form93, a_form97, a_form102, a_form107, a_form113, a_form119, a_form127, a_form129, a_form132, a_form136, a_form141, a_form2, a_form122, a_form125]
  intro hcov
  refine canon4 _ _ _ _ _ _ ?_ y hcov
  refine And.intro ?_ ?_
  · intro x
    dsimp only
    exact amax_tile (k0_pay86 (F := Ideal)) X S (iblk m c 1 t) (iblk m c 3 t) (iblk m c 2 t) (iblk m c 4 t) 1344 inb_S1792x1152_S448x1152_1344_0 inb_S1792x128_S448x128_1344_0 inb_S1152x1024_S1152x256_0_0 inb_S1x1024_S1x256_0_0 inb_S1152x1024_S1152x256_0_256 inb_S1x1024_S1x256_0_256 inb_S1152x1024_S1152x256_0_512 inb_S1x1024_S1x256_0_512 inb_S1152x1024_S1152x256_0_768 inb_S1x1024_S1x256_0_768 x
  refine And.intro ?_ ?_
  · intro x
    dsimp only
    exact amax_tile (k0_pay86 (F := Ideal)) X S (iblk m c 1 t) (iblk m c 3 t) (iblk m c 2 t) (iblk m c 4 t) 896 inb_S1792x1152_S448x1152_896_0 inb_S1792x128_S448x128_896_0 inb_S1152x1024_S1152x256_0_0 inb_S1x1024_S1x256_0_0 inb_S1152x1024_S1152x256_0_256 inb_S1x1024_S1x256_0_256 inb_S1152x1024_S1152x256_0_512 inb_S1x1024_S1x256_0_512 inb_S1152x1024_S1152x256_0_768 inb_S1x1024_S1x256_0_768 x
  refine And.intro ?_ ?_
  · intro x
    dsimp only
    exact amax_tile (k0_pay86 (F := Ideal)) X S (iblk m c 1 t) (iblk m c 3 t) (iblk m c 2 t) (iblk m c 4 t) 448 inb_S1792x1152_S448x1152_448_0 inb_S1792x128_S448x128_448_0 inb_S1152x1024_S1152x256_0_0 inb_S1x1024_S1x256_0_0 inb_S1152x1024_S1152x256_0_256 inb_S1x1024_S1x256_0_256 inb_S1152x1024_S1152x256_0_512 inb_S1x1024_S1x256_0_512 inb_S1152x1024_S1152x256_0_768 inb_S1x1024_S1x256_0_768 x
  refine And.intro ?_ ?_
  · intro x
    dsimp only
    exact amax_tile (k0_pay86 (F := Ideal)) X S (iblk m c 1 t) (iblk m c 3 t) (iblk m c 2 t) (iblk m c 4 t) 0 inb_S1792x1152_S448x1152_0_0 inb_S1792x128_S448x128_0_0 inb_S1152x1024_S1152x256_0_0 inb_S1x1024_S1x256_0_0 inb_S1152x1024_S1152x256_0_256 inb_S1x1024_S1x256_0_256 inb_S1152x1024_S1152x256_0_512 inb_S1x1024_S1x256_0_512 inb_S1152x1024_S1152x256_0_768 inb_S1x1024_S1x256_0_768 x
  exact trivial

end Cert.UpIdeal.Hand
end
-- ==== Proof.UpArray.lean ====
module
public import proofs.«01_k».proof.Proof.UpPointA
public import Idealize.ShloMosaic.Lib.Claim

/-! The up projection over the extended reals: the four result arrays after the run. -/

@[expose] public section
set_option maxRecDepth 65536
noncomputable section
namespace Cert.UpIdeal.Hand
open Cert.UpIdeal Cert.UpIdeal.Gen Idealize.ShloMosaic Idealize.ShloMosaic.TcCoe Idealize.SL.Sem
open Idealize.ShloMosaic.Pipeline (Dat)

/-- The activation from the input, the two weights and their columns' scales. -/
def hArr (x : Vec Ideal S1792x1152 .bf16) (wg : Vec Ideal S1152x14336 .fp8e4m3) (sg : Vec Ideal S1x14336 .f32)
    (wu : Vec Ideal S1152x14336 .fp8e4m3) (su : Vec Ideal S1x14336 .f32) : Vec Ideal S1792x14336 .f32 := fun y => act
  ((∑ k : Fin 1152, xcArr x (ix2 (y 0) k) * wg (ix2 k (y 1))) * xScale x (y 0) * sg (ix2 0 (y 1)))
  ((∑ k : Fin 1152, xcArr x (ix2 (y 0) k) * wu (ix2 k (y 1))) * xScale x (y 0) * su (ix2 0 (y 1)))

/-- The activation's rows' scales, the same in all 128 lanes. -/
def hsArr (h : Vec Ideal S1792x14336 .f32) : Vec Ideal S1792x128 .f32 := fun y =>
  tokScale (maxOf fun j : Fin 14336 => FloatOps.absf (F := Ideal) (φ := .f32) (h (ix2 (y 0) j)))

/-- A block's running maximum is under a bound when what it found and the eight columns of its lane are. -/
theorem amaxBlk_le (P : Vec Ideal S1792x128 .f32) (H : Vec Ideal S1792x1024 .f32) (y : S1792x128.Idx) (b : EReal) :
    amaxBlk P H y ≤ b ↔ P y ≤ b ∧ ∀ j : Fin 8, magAt H (y 0) ⟨128 * j.val + (y 1).val, by
      have h1 : (y 1).val < 128 := (y 1).isLt
      have h2 := j.isLt
      omega⟩ ≤ b := by
  unfold amaxBlk
  simp only [max_le_iff]
  constructor
  · rintro ⟨⟨⟨⟨hP, h0, h1⟩, h2, h3⟩, h4, h5⟩, h6, h7⟩
    refine ⟨hP, fun j => ?_⟩
    fin_cases j
    · exact h0
    · exact h1
    · exact h2
    · exact h3
    · exact h4
    · exact h5
    · exact h6
    · exact h7
  · rintro ⟨hP, h⟩
    exact ⟨⟨⟨⟨hP, h 0, h 1⟩, h 2, h 3⟩, h 4, h 5⟩, h 6, h 7⟩

variable (m : (ℓ : Loc nD τ sig) → Buf (Elt Ideal) ℓ) (ρ : Dev nD → PrngReg)

/-- The input as the host reshapes it. -/
def xIn (c : Dev nD) : Vec Ideal S1792x1152 .bf16 :=
  shapeCast S1792x1152 (m ((c : Thread nD τ).loc main_arg0) : Vec Ideal S2x896x1152 .bf16) shapeCasts_S2x896x1152_S1792x1152
/-- The gate weight's scales as the host reshapes them. -/
def sgIn (c : Dev nD) : Vec Ideal S1x14336 .f32 :=
  shapeCast S1x14336 (m ((c : Thread nD τ).loc main_arg2) : Vec Ideal S14336 .f32) shapeCasts_S14336_S1x14336
/-- The up weight's scales as the host reshapes them. -/
def suIn (c : Dev nD) : Vec Ideal S1x14336 .f32 :=
  shapeCast S1x14336 (m ((c : Thread nD τ).loc main_arg4) : Vec Ideal S14336 .f32) shapeCasts_S14336_S1x14336

theorem V_x (c : Dev nD) : V m c main_v0 = xIn m c := by
  entry_read
  rfl
theorem V_sg (c : Dev nD) : V m c main_v1 = sgIn m c := by
  entry_read
  rfl
theorem V_su (c : Dev nD) : V m c main_v2 = suIn m c := by
  entry_read
  rfl

/-- The blocks' indices at a grid point. -/
theorem idx0 : ∀ t : Fin cfg0.N, win0_0.index t 0 = 0 ∧ win0_0.index t 1 = 0 := by decide +kernel
theorem idx1 : ∀ t : Fin cfg0.N, win0_1.index t 0 = 0 ∧ win0_1.index t 1 = t.val := by decide +kernel
theorem idx2 : ∀ t : Fin cfg0.N, win0_2.index t 0 = 0 ∧ win0_2.index t 1 = t.val := by decide +kernel
theorem idx3 : ∀ t : Fin cfg0.N, win0_3.index t 0 = 0 ∧ win0_3.index t 1 = t.val := by decide +kernel
theorem idx4 : ∀ t : Fin cfg0.N, win0_4.index t 0 = 0 ∧ win0_4.index t 1 = t.val := by decide +kernel
theorem idx7 : ∀ t : Fin cfg0.N, win0_7.index t 0 = 0 ∧ win0_7.index t 1 = t.val := by decide +kernel

/-- The input's block is the whole input. -/
theorem x_blk (c : Dev nD) (t : Fin cfg0.N) : (iblk m c 0 t : Vec Ideal S1792x1152 .bf16) = xIn m c := by
  funext y
  unfold iblk
  blk_simp
  rw [V_x]
  congr 1
  blk_ext [idx0 t]

theorem wg_blk (c : Dev nD) (t : Fin cfg0.N) (y : S1152x1024.Idx) (i : S1152x14336.Idx) (h0 : (i 0).val = (y 0).val)
    (h1 : (i 1).val = 1024 * t.val + (y 1).val) :
    (iblk m c 1 t : Vec Ideal S1152x1024 .fp8e4m3) y = (m ((c : Thread nD τ).loc main_arg1) : Vec Ideal S1152x14336 .fp8e4m3) i := by
  unfold iblk
  blk_simp
  rw [V_main_arg1]
  congr 1
  blk_ext [idx1 t]

theorem wu_blk (c : Dev nD) (t : Fin cfg0.N) (y : S1152x1024.Idx) (i : S1152x14336.Idx) (h0 : (i 0).val = (y 0).val)
    (h1 : (i 1).val = 1024 * t.val + (y 1).val) :
    (iblk m c 2 t : Vec Ideal S1152x1024 .fp8e4m3) y = (m ((c : Thread nD τ).loc main_arg3) : Vec Ideal S1152x14336 .fp8e4m3) i := by
  unfold iblk
  blk_simp
  rw [V_main_arg3]
  congr 1
  blk_ext [idx2 t]

theorem sg_blk (c : Dev nD) (t : Fin cfg0.N) (y : S1x1024.Idx) (i : S1x14336.Idx) (h0 : (i 0).val = (y 0).val)
    (h1 : (i 1).val = 1024 * t.val + (y 1).val) : (iblk m c 3 t : Vec Ideal S1x1024 .f32) y = sgIn m c i := by
  unfold iblk
  blk_simp
  rw [V_sg]
  congr 1
  blk_ext [idx3 t]

theorem su_blk (c : Dev nD) (t : Fin cfg0.N) (y : S1x1024.Idx) (i : S1x14336.Idx) (h0 : (i 0).val = (y 0).val)
    (h1 : (i 1).val = 1024 * t.val + (y 1).val) : (iblk m c 4 t : Vec Ideal S1x1024 .f32) y = suIn m c i := by
  unfold iblk
  blk_simp
  rw [V_su]
  congr 1
  blk_ext [idx4 t]

/-- The activation of the arguments. -/
def hIn (c : Dev nD) : Vec Ideal S1792x14336 .f32 :=
  hArr (xIn m c) (m ((c : Thread nD τ).loc main_arg1)) (sgIn m c) (m ((c : Thread nD τ).loc main_arg3)) (suIn m c)

theorem xcAt_eq (c : Dev nD) : xcAt m c = xcArr (xIn m c) := by
  unfold xcAt
  rw [outA6_eq, x_blk]

theorem xsAt_eq (c : Dev nD) : xsAt m c = xsArr (xIn m c) := by
  unfold xsAt
  rw [outA7_eq, x_blk]

/-- Every point's block of the activation, in closed form. -/
theorem hAt_eq (c : Dev nD) (t : Fin cfg0.N) : hAt m c t
    = hBlk (xcArr (xIn m c)) (xsArr (xIn m c)) (iblk m c 1 t) (iblk m c 3 t) (iblk m c 2 t) (iblk m c 4 t) := by
  unfold hAt
  split_ifs with h0 h1
  · rw [outA8_eq, x_blk]
  · rw [outC8_eq, xcAt_eq, xsAt_eq]
  · rw [outB8_eq, xcAt_eq, xsAt_eq]

/-- A point's block of the activation is a block of the activation. -/
theorem h_iblk (c : Dev nD) (t : Fin cfg0.N) (y : S1792x1024.Idx) (i : S1792x14336.Idx) (h0 : (i 0).val = (y 0).val)
    (h1 : (i 1).val = 1024 * t.val + (y 1).val) : hAt m c t y = hIn m c i := by
  have e0 : i 0 = y 0 := Fin.ext h0
  rw [hAt_eq]
  unfold hBlk hIn hArr xsArr
  dsimp only
  rw [e0, sg_blk m c t (ix2 0 (y 1)) (ix2 0 (i 1)) rfl h1, su_blk m c t (ix2 0 (y 1)) (ix2 0 (i 1)) rfl h1]
  have eg : ∀ k : Fin 1152, (iblk m c 1 t : Vec Ideal S1152x1024 .fp8e4m3) (ix2 k (y 1))
      = (m ((c : Thread nD τ).loc main_arg1) : Vec Ideal S1152x14336 .fp8e4m3) (ix2 k (i 1)) := fun k => wg_blk m c t _ _ rfl h1
  have eu : ∀ k : Fin 1152, (iblk m c 2 t : Vec Ideal S1152x1024 .fp8e4m3) (ix2 k (y 1))
      = (m ((c : Thread nD τ).loc main_arg3) : Vec Ideal S1152x14336 .fp8e4m3) (ix2 k (i 1)) := fun k => wu_blk m c t _ _ rfl h1
  simp only [eg, eu]
  rfl

/-- The running maximum: after the first point from zero, after a later point from what the point before left. -/
theorem st_first (c : Dev nD) (hn : 0 < cfg0.N) : stAt m c 0 hn = amaxBlk (fun _ => 0) (hAt m c ⟨0, hn⟩) := by
  rw [stAt_A m c ⟨0, hn⟩ rfl, outA10_eq, hAt_eq, x_blk]
theorem st_later (c : Dev nD) (n : ℕ) (hn : n + 1 < cfg0.N) :
    stAt m c (n + 1) hn = amaxBlk (stAt m c n (Nat.lt_of_succ_lt hn)) (hAt m c ⟨n + 1, hn⟩) := by
  by_cases h1 : n + 1 = 13
  · rw [stAt_C m c ⟨n + 1, hn⟩ h1, outC10_eq, hAt_eq, xcAt_eq, xsAt_eq]
    rfl
  · rw [stAt_B m c ⟨n + 1, hn⟩ (Nat.succ_ne_zero n) h1, outB10_eq, hAt_eq, xcAt_eq, xsAt_eq]
    rfl

/-- The running maximum is under a bound when zero and every column of the lane so far are. -/
theorem st_le (c : Dev nD) (y : S1792x128.Idx) (b : EReal) : ∀ (n : ℕ) (hn : n < cfg0.N), stAt m c n hn y ≤ b ↔
    0 ≤ b ∧ ∀ t : Fin cfg0.N, t.val ≤ n → ∀ j : Fin 8, magAt (hAt m c t) (y 0) ⟨128 * j.val + (y 1).val, by
      have h1 : (y 1).val < 128 := (y 1).isLt
      have h2 := j.isLt
      omega⟩ ≤ b
  | 0, hn => by
    rw [st_first, amaxBlk_le]
    refine and_congr Iff.rfl ⟨fun h t ht j => ?_, fun h j => h ⟨0, hn⟩ le_rfl j⟩
    obtain rfl : t = ⟨0, hn⟩ := Fin.ext (Nat.le_zero.mp ht)
    exact h j
  | n + 1, hn => by
    rw [st_later, amaxBlk_le, st_le c y b n]
    constructor
    · rintro ⟨⟨h0, hl⟩, h⟩
      refine ⟨h0, fun t ht j => ?_⟩
      rcases Nat.lt_or_ge n t.val with hlt | hge
      · obtain rfl : t = ⟨n + 1, hn⟩ := Fin.ext (by show t.val = n + 1; omega)
        exact h j
      · exact hl t hge j
    · rintro ⟨h0, h⟩
      exact ⟨⟨h0, fun t ht j => h t (Nat.le_succ_of_le ht) j⟩, fun j => h ⟨n + 1, hn⟩ le_rfl j⟩

theorem absf_nonneg (v : EReal) : 0 ≤ FloatOps.absf (F := Ideal) (φ := .f32) v := by
  show 0 ≤ max v (-v)
  rcases le_total 0 v with h | h
  · exact le_max_of_le_left h
  · exact le_max_of_le_right (by simpa using h)

/-- The largest lane of the last running maximum is the largest magnitude of the row. -/
theorem max_lanes (c : Dev nD) (r : Fin 1792) (h13 : 13 < cfg0.N) :
    (maxOf fun k : Fin 128 => stAt m c 13 h13 (ix2 r k))
      = maxOf fun j : Fin 14336 => FloatOps.absf (F := Ideal) (φ := .f32) (hIn m c (ix2 r j)) := by
  refine eq_of_forall_ge_iff fun b => ?_
  unfold maxOf
  simp only [Finset.fold_max_le, Finset.mem_univ, true_implies]
  refine and_congr Iff.rfl ⟨fun h J => ?_, fun h k => (st_le m c (ix2 r k) b 13 h13).2 ⟨(absf_nonneg _).trans (h ⟨0, by omega⟩), fun t _ j => ?_⟩⟩
  · have hJ := J.isLt
    have hN : cfg0.N = 14 := N_0
    have ht : J.val / 1024 < cfg0.N := by omega
    have := ((st_le m c (ix2 r ⟨J.val % 128, by omega⟩) b 13 h13).1 (h ⟨J.val % 128, by omega⟩)).2 ⟨J.val / 1024, ht⟩ (by show J.val / 1024 ≤ 13; omega) ⟨J.val % 1024 / 128, by omega⟩
    unfold magAt at this
    rw [h_iblk m c _ _ (ix2 r J) rfl (by
      show J.val = 1024 * (J.val / 1024) + (128 * (J.val % 1024 / 128) + J.val % 128)
      omega)] at this
    exact this
  · have hk := k.isLt
    have hj := j.isLt
    have ht : t.val < 14 := lt_of_lt_of_eq t.isLt N_0
    unfold magAt
    rw [h_iblk m c t _ (ix2 r ⟨1024 * t.val + (128 * j.val + k.val), by omega⟩) rfl rfl]
    exact h _

/-- The first result array is the codes. -/
theorem final_xc (c : Dev nD) : (dats m 0 c).arrAt 5 cfg0.N = xcArr (xIn m c) := by
  refine (dats m 0 c).arrAt_eq_of_after_last 5 t0_13 (by decide +kernel) _ fun y => ?_
  blk_simp
  rw [after5, xcAt_eq]

/-- The second result array is the rows' scales. -/
theorem final_xs (c : Dev nD) : (dats m 0 c).arrAt 6 cfg0.N = xsArr (xIn m c) := by
  refine (dats m 0 c).arrAt_eq_of_after_last 6 t0_13 (by decide +kernel) _ fun y => ?_
  blk_simp
  rw [after6, xsAt_eq]

/-- The third result array is the activation. -/
theorem final_h (c : Dev nD) : (dats m 0 c).arrAt 7 cfg0.N = hIn m c := by
  refine (dats m 0 c).arrAt_eq_of_covers 7 _ (by decide +kernel) fun t hf y => ?_
  blk_simp
  rw [after7]
  refine h_iblk m c t _ _ ?_ ?_
  · blk_simp [idx7 t]
  · blk_simp [idx7 t]
    omega

/-- The fourth result array is the activation's rows' scales. -/
theorem final_hs (c : Dev nD) : (dats m 0 c).arrAt 8 cfg0.N = hsArr (hIn m c) := by
  refine (dats m 0 c).arrAt_eq_of_after_last 8 t0_13 (by decide +kernel) _ fun y => ?_
  blk_simp
  rw [after8]
  have h1 : (t0_13 : Fin cfg0.N).val = 13 := rfl
  have h13 : 13 < cfg0.N := by decide
  have e : hsAt m c t0_13 = hsOf (stAt m c 13 h13) := by
    unfold hsAt
    rw [dif_pos h1, outC9_eq, ← outC10_eq m c t0_13 h1, ← stAt_C m c t0_13 h1]
    rfl
  rw [e]
  exact congrArg tokScale (max_lanes m c (y 0) h13)

/-! ## The run with its results named -/

/-- The run ends with the four result arrays as the grid's points left them, the arguments unchanged. -/
theorem run_blocks : θ_run defs (onTc (τ := τ) (main (F := Ideal))) ⟨m, fun _ => 0, ρ⟩ fun r => ∀ c : Dev nD,
      r.2.mem ((c : Thread nD τ).loc main_v3_0) = (dats m 0 c).arrAt 5 cfg0.N
      ∧ r.2.mem ((c : Thread nD τ).loc main_v3_1) = (dats m 0 c).arrAt 6 cfg0.N
      ∧ r.2.mem ((c : Thread nD τ).loc main_v3_2) = (dats m 0 c).arrAt 7 cfg0.N
      ∧ r.2.mem ((c : Thread nD τ).loc main_v3_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.2 c).1 5, (h.2 c).1 6, (h.2 c).1 7, (h.2 c).1 8, (h.1.1 c)⟩)
    (θ_run_and (frame m ρ) (run_main m ρ))

end Cert.UpIdeal.Hand
end
-- ==== Proof.UpClaim.lean ====
module
public import proofs.«01_k».proof.Defs
public import proofs.«01_k».proof.Proof.UpArray
public import proofs.«01_k».proof.Proof.Gen.UpReferenceIdeal.Value
public import Idealize.ShloMosaic.Lib.Claim

/-! The up projection and its reference end with equal results over the extended reals. -/

@[expose] public section
set_option maxRecDepth 65536
noncomputable section
open Idealize.ShloMosaic Idealize.ShloMosaic.TcCoe Idealize.SL.Sem
namespace Cert.UpReferenceIdeal.Hand
open Cert.UpReferenceIdeal Cert.UpReferenceIdeal.Gen
open Idealize.ShloMosaic.Pipeline (Dat)
open Cert.UpIdeal.Hand (clip8 maxOf tokScale xScale xcArr xsArr act hArr hsArr)

/-- The scales of rows whose largest magnitudes are `M`, as the reference writes them. -/
theorem scale_of (v : FVec Ideal S1792x1 .f32) (y : S1792x1.Idx) :
    select (cmpf .ogt v (broadcast S1792x1 (Scalar.ofBits .f32 0x00000000#32))) (divf v (broadcast S1792x1 (Scalar.ofBits .f32 0x43E00000#32)))
      (broadcast S1792x1 (Scalar.ofBits .f32 0x3F800000#32)) y = tokScale (v y) := by
  unfold tokScale
  pointwise

/-- The largest entry of a row of the input. -/
theorem max_x (x : FVec Ideal S1792x1152 .f32) (y : S1792x1.Idx) :
    shapeCast S1792x1 (multiReduction .maximumf [1] S1792 x 0xFF800000#32 reduces_S1792x1152_S1792 (.inl rfl) rfl) shapeCasts_S1792_S1792x1 y
      = maxOf fun k : Fin 1152 => x (ix2 (y 0) k) := by
  unfold maxOf
  pointwise

/-- The largest entry of a row of the activation. -/
theorem max_h (x : FVec Ideal S1792x14336 .f32) (y : S1792x1.Idx) :
    shapeCast S1792x1 (multiReduction .maximumf [1] S1792 x 0xFF800000#32 reduces_S1792x14336_S1792 (.inl rfl) rfl) shapeCasts_S1792_S1792x1 y
      = maxOf fun k : Fin 14336 => x (ix2 (y 0) k) := by
  unfold maxOf
  pointwise

/-- The input in the wider format. -/
theorem wide (x : Vec Ideal S1792x1152 .bf16) (y : S1792x1152.Idx) : (k0_pay3 x y : EReal) = x y := by
  unfold k0_pay3
  pointwise

/-- A row's scale at each of its entries. -/
theorem rows_x (s : FVec Ideal S1792x1 .f32) (y : S1792x1152.Idx) :
    broadcastTo S1792x1152 s broadcasts_S1792x1_S1792x1152 y = s (ix2 (y 0) 0) := by
  pointwise

/-- A row's scale in each lane. -/
theorem lanes (s : FVec Ideal S1792x1 .f32) (y : S1792x128.Idx) :
    broadcastTo S1792x128 (shapeCast S1792x1 s shapeCasts_S1792x1_S1792x1) broadcasts_S1792x1_S1792x128 y = s (ix2 (y 0) 0) := by
  pointwise

/-- A row's scale at each entry of the activation. -/
theorem rows_h (s : FVec Ideal S1792x1 .f32) (y : S1792x14336.Idx) :
    broadcastTo S1792x14336 s broadcasts_S1792x1_S1792x14336 y = s (ix2 (y 0) 0) := by
  pointwise

/-- A column's scale at each of its entries. -/
theorem cols_h (s : FVec Ideal S1x14336 .f32) (y : S1792x14336.Idx) :
    broadcastTo S1792x14336 (shapeCast S1x14336 s shapeCasts_S1x14336_S1x14336) broadcasts_S1x14336_S1792x14336 y = s (ix2 0 (y 1)) := by
  pointwise

/-- The product of the codes and a weight, entry by entry. -/
theorem prod_h (x : FVec Ideal S1792x1152 .fp8e4m3) (w : FVec Ideal S1152x14336 .fp8e4m3) (y : S1792x14336.Idx) :
    matmul (F := Ideal) dot_S1792x1152_S1152x14336_S1792x14336_1_0_0_1_n_n none x w (constant S1792x14336 .f32 0x00000000#32) y
      = ∑ k : Fin 1152, x (ix2 (y 0) k) * w (ix2 k (y 1)) := by
  pointwise

/-- Division by the scale and clipping. -/
theorem clip_of (v s : FVec Ideal S1792x1152 .f32) (y : S1792x1152.Idx) :
    (truncf .fp8e4m3 (minimumf (broadcast S1792x1152 (Scalar.ofBits .f32 0x43E00000#32))
      (maximumf (broadcast S1792x1152 (Scalar.ofBits .f32 0xC3E00000#32)) (divf v s))) bitsLt_fp8e4m3_f32 : FVec Ideal S1792x1152 .fp8e4m3) y
      = clip8 (Ideal.div (v y) (s y)) := by
  unfold clip8
  pointwise

/-- The gated unit of two products that their scales multiply. -/
theorem gate_of (G U s sg su : FVec Ideal S1792x14336 .f32) (y : S1792x14336.Idx) :
    mulf (mulf (mulf (mulf G s) sg) (logistic (mulf (mulf G s) sg))) (mulf (mulf U s) su) y = act (G y * s y * sg y) (U y * s y * su y) := by
  unfold act
  pointwise

/-- The reference's row scale. -/
theorem ref_scale (x : Vec Ideal S1792x1152 .bf16) (y : S1792x1.Idx) : k0_pay4 x y = xScale x (y 0) := by
  unfold k0_pay4 xScale
  refine (scale_of _ y).trans (congrArg tokScale ((max_x _ y).trans (congrArg maxOf (funext fun k => ?_))))
  exact congrArg (FloatOps.absf (F := Ideal) (φ := .f32)) (wide x (ix2 (y 0) k))

theorem scale_row (x : Vec Ideal S1792x1152 .bf16) (r : Fin 1792) : k0_pay4 x (ix2 r 0) = xScale x r := ref_scale x (ix2 r 0)

/-- The reference's codes. -/
theorem ref_xc (x : Vec Ideal S1792x1152 .bf16) : (k0_pay5 x : Vec Ideal S1792x1152 .fp8e4m3) = xcArr x := by
  funext y
  unfold k0_pay5 xcArr
  refine (clip_of _ _ y).trans (congrArg clip8 ?_)
  rw [wide, rows_x]
  exact congrArg (Ideal.div (x y)) (scale_row x (y 0))

/-- The reference's scales, in 128 lanes. -/
theorem ref_xs (x : Vec Ideal S1792x1152 .bf16) : (k0_pay1 (k0_pay4 x) : Vec Ideal S1792x128 .f32) = xsArr x := by
  funext y
  unfold k0_pay1 xsArr
  exact (lanes _ y).trans (ref_scale x _)

/-- The reference's activation. -/
theorem ref_h (x : Vec Ideal S1792x1152 .bf16) (wg : Vec Ideal S1152x14336 .fp8e4m3) (sg : Vec Ideal S1x14336 .f32)
    (wu : Vec Ideal S1152x14336 .fp8e4m3) (su : Vec Ideal S1x14336 .f32) :
    (k0_pay6 x wg sg wu su : Vec Ideal S1792x14336 .f32) = hArr x wg sg wu su := by
  funext y
  unfold k0_pay6 hArr
  refine (gate_of _ _ _ _ _ y).trans ?_
  rw [prod_h, prod_h, rows_h, cols_h, cols_h, ref_xc, show k0_pay4 x (ix2 (y 0) 0) = xScale x (y 0) from scale_row x (y 0)]

/-- The reference's activation scales, in 128 lanes. -/
theorem ref_hs (x : Vec Ideal S1792x1152 .bf16) (wg : Vec Ideal S1152x14336 .fp8e4m3) (sg : Vec Ideal S1x14336 .f32)
    (wu : Vec Ideal S1152x14336 .fp8e4m3) (su : Vec Ideal S1x14336 .f32) :
    (k0_pay2 (k0_pay7 x wg sg wu su) : Vec Ideal S1792x128 .f32) = hsArr (hArr x wg sg wu su) := by
  funext y
  unfold k0_pay2 k0_pay7 hsArr
  rw [ref_h]
  refine (lanes _ y).trans ((scale_of _ _).trans (congrArg tokScale ?_))
  exact max_h _ _

variable (m : (ℓ : Loc nD τ sig) → Buf (Elt Ideal) ℓ)

/-- The reference's input as the host reshapes it. -/
def xIn (c : Dev nD) : Vec Ideal S1792x1152 .bf16 :=
  shapeCast S1792x1152 (m ((c : Thread nD τ).loc main_arg0) : Vec Ideal S2x896x1152 .bf16) shapeCasts_S2x896x1152_S1792x1152
/-- Its gate weight's scales as the host reshapes them. -/
def sgIn (c : Dev nD) : Vec Ideal S1x14336 .f32 :=
  shapeCast S1x14336 (m ((c : Thread nD τ).loc main_arg2) : Vec Ideal S14336 .f32) shapeCasts_S14336_S1x14336
/-- Its up weight's scales as the host reshapes them. -/
def suIn (c : Dev nD) : Vec Ideal S1x14336 .f32 :=
  shapeCast S1x14336 (m ((c : Thread nD τ).loc main_arg4) : Vec Ideal S14336 .f32) shapeCasts_S14336_S1x14336

theorem V_x (c : Dev nD) : V m c main_v0 = xIn m c := by
  entry_read
  rfl
theorem V_sg (c : Dev nD) : V m c main_v1 = sgIn m c := by
  entry_read
  rfl
theorem V_su (c : Dev nD) : V m c main_v2 = suIn m c := by
  entry_read
  rfl

/-- Window 0's one block is its whole array. -/
theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S1792x1152.Idx) : ((cfg0.win 0).blk t).view.emb j = j := by
  obtain ⟨e0, e1⟩ := idx_zero0 t
  funext a; apply Fin.ext
  match a with
  | ⟨0, _⟩ => show win0_0.index t (0 : Fin 2) * 1792 + 1 * (j 0).val = (j 0).val; omega
  | ⟨1, _⟩ => show win0_0.index t (1 : Fin 2) * 1152 + 1 * (j 1).val = (j 1).val; omega

/-- Window 1's one block is its whole array. -/
theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S1152x14336.Idx) : ((cfg0.win 1).blk t).view.emb j = j := by
  obtain ⟨e0, e1⟩ := idx_zero1 t
  funext a; apply Fin.ext
  match a with
  | ⟨0, _⟩ => show win0_1.index t (0 : Fin 2) * 1152 + 1 * (j 0).val = (j 0).val; omega
  | ⟨1, _⟩ => show win0_1.index t (1 : Fin 2) * 14336 + 1 * (j 1).val = (j 1).val; omega

/-- Window 2's one block is its whole array. -/
theorem idx_zero2 : ∀ t : Fin cfg0.N, win0_2.index t (0 : Fin 2) = 0 ∧ win0_2.index t (1 : Fin 2) = 0 :=
  (by decide +kernel : ∀ t : Fin grid0.N, _)
theorem emb2 (t : Fin cfg0.N) (j : S1x14336.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 14336 + 1 * (j 1).val = (j 1).val; omega

/-- Window 3's one block is its whole array. -/
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S1152x14336.Idx) : ((cfg0.win 3).blk t).view.emb j = j := by
  obtain ⟨e0, e1⟩ := idx_zero3 t
  funext a; apply Fin.ext
  match a with
  | ⟨0, _⟩ => show win0_3.index t (0 : Fin 2) * 1152 + 1 * (j 0).val = (j 0).val; omega
  | ⟨1, _⟩ => show win0_3.index t (1 : Fin 2) * 14336 + 1 * (j 1).val = (j 1).val; omega

/-- Window 4's one block is its whole array. -/
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S1x14336.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 14336 + 1 * (j 1).val = (j 1).val; omega

/-- Window 5's one block is its whole array. -/
theorem idx_zero5 : ∀ t : Fin cfg0.N, win0_5.index t (0 : Fin 2) = 0 ∧ win0_5.index t (1 : Fin 2) = 0 :=
  (by decide +kernel : ∀ t : Fin grid0.N, _)
theorem emb5 (t : Fin cfg0.N) (j : S1792x1152.Idx) : ((cfg0.win 5).blk t).view.emb j = j := by
  obtain ⟨e0, e1⟩ := idx_zero5 t
  funext a; apply Fin.ext
  match a with
  | ⟨0, _⟩ => show win0_5.index t (0 : Fin 2) * 1792 + 1 * (j 0).val = (j 0).val; omega
  | ⟨1, _⟩ => show win0_5.index t (1 : Fin 2) * 1152 + 1 * (j 1).val = (j 1).val; omega

/-- Window 6's one block is its whole array. -/
theorem idx_zero6 : ∀ t : Fin cfg0.N, win0_6.index t (0 : Fin 2) = 0 ∧ win0_6.index t (1 : Fin 2) = 0 :=
  (by decide +kernel : ∀ t : Fin grid0.N, _)
theorem emb6 (t : Fin cfg0.N) (j : S1792x128.Idx) : ((cfg0.win 6).blk t).view.emb j = j := by
  obtain ⟨e0, e1⟩ := idx_zero6 t
  funext a; apply Fin.ext
  match a with
  | ⟨0, _⟩ => show win0_6.index t (0 : Fin 2) * 1792 + 1 * (j 0).val = (j 0).val; omega
  | ⟨1, _⟩ => show win0_6.index t (1 : Fin 2) * 128 + 1 * (j 1).val = (j 1).val; omega

/-- Window 7's one block is its whole array. -/
theorem idx_zero7 : ∀ t : Fin cfg0.N, win0_7.index t (0 : Fin 2) = 0 ∧ win0_7.index t (1 : Fin 2) = 0 :=
  (by decide +kernel : ∀ t : Fin grid0.N, _)
theorem emb7 (t : Fin cfg0.N) (j : S1792x14336.Idx) : ((cfg0.win 7).blk t).view.emb j = j := by
  obtain ⟨e0, e1⟩ := idx_zero7 t
  funext a; apply Fin.ext
  match a with
  | ⟨0, _⟩ => show win0_7.index t (0 : Fin 2) * 1792 + 1 * (j 0).val = (j 0).val; omega
  | ⟨1, _⟩ => show win0_7.index t (1 : Fin 2) * 14336 + 1 * (j 1).val = (j 1).val; omega

/-- Window 8's one block is its whole array. -/
theorem idx_zero8 : ∀ t : Fin cfg0.N, win0_8.index t (0 : Fin 2) = 0 ∧ win0_8.index t (1 : Fin 2) = 0 :=
  (by decide +kernel : ∀ t : Fin grid0.N, _)
theorem emb8 (t : Fin cfg0.N) (j : S1792x128.Idx) : ((cfg0.win 8).blk t).view.emb j = j := by
  obtain ⟨e0, e1⟩ := idx_zero8 t
  funext a; apply Fin.ext
  match a with
  | ⟨0, _⟩ => show win0_8.index t (0 : Fin 2) * 1792 + 1 * (j 0).val = (j 0).val; omega
  | ⟨1, _⟩ => show win0_8.index t (1 : Fin 2) * 128 + 1 * (j 1).val = (j 1).val; omega

theorem x_blk (c : Dev nD) (t : Fin cfg0.N) : (iblk m c 0 t : Vec Ideal S1792x1152 .bf16) = xIn m c := by
  funext y
  show (V m c main_v0 : Vec Ideal S1792x1152 .bf16) (((cfg0.win 0).blk t).view.emb y) = _
  rw [emb0, V_x]

theorem wg_blk (c : Dev nD) (t : Fin cfg0.N) : (iblk m c 1 t : Vec Ideal S1152x14336 .fp8e4m3) = m ((c : Thread nD τ).loc main_arg1) := by
  funext y
  show (V m c main_arg1 : Vec Ideal S1152x14336 .fp8e4m3) (((cfg0.win 1).blk t).view.emb y) = _
  rw [emb1, V_main_arg1]

theorem sg_blk (c : Dev nD) (t : Fin cfg0.N) : (iblk m c 2 t : Vec Ideal S1x14336 .f32) = sgIn m c := by
  funext y
  show (V m c main_v1 : Vec Ideal S1x14336 .f32) (((cfg0.win 2).blk t).view.emb y) = _
  rw [emb2, V_sg]

theorem wu_blk (c : Dev nD) (t : Fin cfg0.N) : (iblk m c 3 t : Vec Ideal S1152x14336 .fp8e4m3) = m ((c : Thread nD τ).loc main_arg3) := by
  funext y
  show (V m c main_arg3 : Vec Ideal S1152x14336 .fp8e4m3) (((cfg0.win 3).blk t).view.emb y) = _
  rw [emb3, V_main_arg3]

theorem su_blk (c : Dev nD) (t : Fin cfg0.N) : (iblk m c 4 t : Vec Ideal S1x14336 .f32) = suIn m c := by
  funext y
  show (V m c main_v2 : Vec Ideal S1x14336 .f32) (((cfg0.win 4).blk t).view.emb y) = _
  rw [emb4, V_su]

theorem zero2 : (![0, 0] : Fin 2 → Nat) = fun _ => 0 := funext fun a => by fin_cases a <;> rfl

/-- The reference's activation of its arguments. -/
def hIn (c : Dev nD) : Vec Ideal S1792x14336 .f32 :=
  hArr (xIn m c) (m ((c : Thread nD τ).loc main_arg1)) (sgIn m c) (m ((c : Thread nD τ).loc main_arg3)) (suIn m c)

/-- The reference's first result array. -/
theorem out_xc (c : Dev nD) (t : Fin cfg0.N) : ((dats m 0 c).after 5 t : Vec Ideal S1792x1152 .fp8e4m3) = xcArr (xIn m c) := by
  rw [after0_5]
  unfold out0_5
  rw [View.canon_unit_zero zero2, View.ld_unit_zero (S := S1792x1152) zero2, x_blk m c t]
  exact ref_xc _
theorem final_xc (c : Dev nD) : (dats m 0 c).arrAt 5 cfg0.N = xcArr (xIn m c) := by
  refine (dats m 0 c).arrAt_eq_of_covers 5 _ (by decide +kernel) fun t hf y => ?_
  rw [emb5 t]
  exact congrFun (out_xc m c t) y

/-- The reference's second result array. -/
theorem out_xs (c : Dev nD) (t : Fin cfg0.N) : ((dats m 0 c).after 6 t : Vec Ideal S1792x128 .f32) = xsArr (xIn m c) := by
  rw [after0_6]
  unfold out0_6
  rw [View.canon_unit_zero zero2, View.ld_unit_zero (S := S1792x1152) zero2, x_blk m c t]
  exact ref_xs _
theorem final_xs (c : Dev nD) : (dats m 0 c).arrAt 6 cfg0.N = xsArr (xIn m c) := by
  refine (dats m 0 c).arrAt_eq_of_covers 6 _ (by decide +kernel) fun t hf y => ?_
  rw [emb6 t]
  exact congrFun (out_xs m c t) y

/-- The reference's third result array. -/
theorem out_h (c : Dev nD) (t : Fin cfg0.N) : ((dats m 0 c).after 7 t : Vec Ideal S1792x14336 .f32) = hIn m c := by
  rw [after0_7]
  unfold out0_7
  rw [View.canon_unit_zero zero2, View.ld_unit_zero (S := S1792x1152) zero2, View.ld_unit_zero (S := S1152x14336) zero2, View.ld_unit_zero (S := S1x14336) zero2, View.ld_unit_zero (S := S1152x14336) zero2, View.ld_unit_zero (S := S1x14336) zero2, x_blk m c t, wg_blk m c t, sg_blk m c t, wu_blk m c t, su_blk m c t]
  exact ref_h _ _ _ _ _
theorem final_h (c : Dev nD) : (dats m 0 c).arrAt 7 cfg0.N = hIn m c := by
  refine (dats m 0 c).arrAt_eq_of_covers 7 _ (by decide +kernel) fun t hf y => ?_
  rw [emb7 t]
  exact congrFun (out_h m c t) y

/-- The reference's fourth result array. -/
theorem out_hs (c : Dev nD) (t : Fin cfg0.N) : ((dats m 0 c).after 8 t : Vec Ideal S1792x128 .f32) = hsArr (hIn m c) := by
  rw [after0_8]
  unfold out0_8
  rw [View.canon_unit_zero zero2, View.ld_unit_zero (S := S1792x1152) zero2, View.ld_unit_zero (S := S1152x14336) zero2, View.ld_unit_zero (S := S1x14336) zero2, View.ld_unit_zero (S := S1152x14336) zero2, View.ld_unit_zero (S := S1x14336) zero2, x_blk m c t, wg_blk m c t, sg_blk m c t, wu_blk m c t, su_blk m c t]
  exact ref_hs _ _ _ _ _
theorem final_hs (c : Dev nD) : (dats m 0 c).arrAt 8 cfg0.N = hsArr (hIn m c) := by
  refine (dats m 0 c).arrAt_eq_of_covers 8 _ (by decide +kernel) fun t hf y => ?_
  rw [emb8 t]
  exact congrFun (out_hs m c t) y

end Cert.UpReferenceIdeal.Hand

namespace Cert.Proof

/-- On agreeing arguments the two activations are the same. -/
theorem up_inputs (m : (ℓ : Loc Cert.UpIdeal.nD Cert.UpIdeal.τ Cert.UpIdeal.sig) → Buf (Elt Ideal) ℓ)
    (m' : (ℓ : Loc Cert.UpReferenceIdeal.nD Cert.UpReferenceIdeal.τ Cert.UpReferenceIdeal.sig) → Buf (Elt Ideal) ℓ)
    (c : Dev Cert.UpIdeal.nD)
    (h0 : m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0))
    (h1 : m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1))
    (h2 : m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2))
    (h3 : m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3))
    (h4 : m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) :
    Cert.UpReferenceIdeal.Hand.xIn m' c = Cert.UpIdeal.Hand.xIn m c ∧ Cert.UpReferenceIdeal.Hand.hIn m' c = Cert.UpIdeal.Hand.hIn m c := by
  have ex : Cert.UpReferenceIdeal.Hand.xIn m' c = Cert.UpIdeal.Hand.xIn m c := by
    unfold Cert.UpReferenceIdeal.Hand.xIn Cert.UpIdeal.Hand.xIn
    rw [h0]
  refine ⟨ex, ?_⟩
  have eg : Cert.UpReferenceIdeal.Hand.sgIn m' c = Cert.UpIdeal.Hand.sgIn m c := by
    unfold Cert.UpReferenceIdeal.Hand.sgIn Cert.UpIdeal.Hand.sgIn
    rw [h2]
  have eu : Cert.UpReferenceIdeal.Hand.suIn m' c = Cert.UpIdeal.Hand.suIn m c := by
    unfold Cert.UpReferenceIdeal.Hand.suIn Cert.UpIdeal.Hand.suIn
    rw [h4]
  unfold Cert.UpReferenceIdeal.Hand.hIn Cert.UpIdeal.Hand.hIn
  rw [ex, eg, eu, h1, h3]

/-- The kernel and the reference, run from memories that agree on the arguments, end with equal results. -/
theorem algebraic_up [Cert.UpIdeal.Facts] [Cert.UpReferenceIdeal.Facts] : Cert.algebraic_UpIdeal_UpReferenceIdeal := by
  pair_intro
  · run_from Cert.UpIdeal.Hand.run_blocks m g
  · run_from Cert.UpReferenceIdeal.Value.run_blocks m' g'
    all_goals obtain ⟨h0, h1, h2, h3, h4⟩ := hagree c
    all_goals obtain ⟨ex, eh⟩ := up_inputs m m' c h0 h1 h2 h3 h4
    · exact (Cert.UpReferenceIdeal.Hand.final_xc m' c).trans ((congrArg Cert.UpIdeal.Hand.xcArr ex).trans (Cert.UpIdeal.Hand.final_xc m c).symm)
    · exact (Cert.UpReferenceIdeal.Hand.final_xs m' c).trans ((congrArg Cert.UpIdeal.Hand.xsArr ex).trans (Cert.UpIdeal.Hand.final_xs m c).symm)
    · exact (Cert.UpReferenceIdeal.Hand.final_h m' c).trans (eh.trans (Cert.UpIdeal.Hand.final_h m c).symm)
    · exact (Cert.UpReferenceIdeal.Hand.final_hs m' c).trans ((congrArg Cert.UpIdeal.Hand.hsArr eh).trans (Cert.UpIdeal.Hand.final_hs m c).symm)

end Cert.Proof
end
-- ==== Proof.FinalClaim.lean ====
module
public import proofs.«01_k».proof.Defs
public import proofs.«01_k».proof.Proof.Gen.FinalIdeal.Value
public import proofs.«01_k».proof.Proof.Gen.FinalReferenceIdeal.Value
public import Idealize.ShloMosaic.Lib.Claim
public import Idealize.ShloMosaic.Lib.Pipeline.ValueKit
public import Idealize.ShloMosaic.Lib.IdealHost

/-! The last normalisation and its reference end with equal results over the extended reals. -/

@[expose] public section
set_option maxRecDepth 65536
noncomputable section
open Idealize.ShloMosaic Idealize.ShloMosaic.TcCoe Idealize.SL.Sem
namespace Cert.FinalIdeal.Hand
open Cert.FinalIdeal Cert.FinalIdeal.Gen
open Idealize.ShloMosaic.Pipeline (Dat)
variable (m : (ℓ : Loc nD τ sig) → Buf (Elt Ideal) ℓ)

/-- The gain as the host reshapes it. -/
def gIn (c : Dev nD) : Vec Ideal S1x4096 .f32 :=
  shapeCast S1x4096 (m ((c : Thread nD τ).loc main_arg1) : Vec Ideal S4096 .f32) shapeCasts_S4096_S1x4096

theorem V_g (c : Dev nD) : V m c main_v0 = gIn m c := by
  entry_read
  rfl

/-- Window 0's one block is its whole array. -/
theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S128x4096.Idx) : ((cfg0.win 0).blk t).view.emb j = j := by
  obtain ⟨e0, e1⟩ := idx_zero0 t
  funext a; apply Fin.ext
  match a with
  | ⟨0, _⟩ => show win0_0.index t (0 : Fin 2) * 128 + 1 * (j 0).val = (j 0).val; omega
  | ⟨1, _⟩ => show win0_0.index t (1 : Fin 2) * 4096 + 1 * (j 1).val = (j 1).val; omega

/-- Window 1's one block is its whole array. -/
theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S1x4096.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 4096 + 1 * (j 1).val = (j 1).val; omega

/-- Window 2's one block is its whole array. -/
theorem idx_zero2 : ∀ t : Fin cfg0.N, win0_2.index t (0 : Fin 2) = 0 ∧ win0_2.index t (1 : Fin 2) = 0 :=
  (by decide +kernel : ∀ t : Fin grid0.N, _)
theorem emb2 (t : Fin cfg0.N) (j : S128x4096.Idx) : ((cfg0.win 2).blk t).view.emb j = j := by
  obtain ⟨e0, e1⟩ := idx_zero2 t
  funext a; apply Fin.ext
  match a with
  | ⟨0, _⟩ => show win0_2.index t (0 : Fin 2) * 128 + 1 * (j 0).val = (j 0).val; omega
  | ⟨1, _⟩ => show win0_2.index t (1 : Fin 2) * 4096 + 1 * (j 1).val = (j 1).val; omega

/-- Window 3's one block is its whole array. -/
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S128x4096.Idx) : ((cfg0.win 3).blk t).view.emb j = j := by
  obtain ⟨e0, e1⟩ := idx_zero3 t
  funext a; apply Fin.ext
  match a with
  | ⟨0, _⟩ => show win0_3.index t (0 : Fin 2) * 128 + 1 * (j 0).val = (j 0).val; omega
  | ⟨1, _⟩ => show win0_3.index t (1 : Fin 2) * 4096 + 1 * (j 1).val = (j 1).val; omega

/-- Window 4's one block is its whole array. -/
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S128x128.Idx) : ((cfg0.win 4).blk t).view.emb j = j := by
  obtain ⟨e0, e1⟩ := idx_zero4 t
  funext a; apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem l_blk (c : Dev nD) (t : Fin cfg0.N) : (iblk m c 0 t : Vec Ideal S128x4096 .f32) = m ((c : Thread nD τ).loc main_arg0) := by
  funext y
  show (V m c main_arg0 : Vec Ideal S128x4096 .f32) (((cfg0.win 0).blk t).view.emb y) = _
  rw [emb0, V_main_arg0]

theorem g_blk (c : Dev nD) (t : Fin cfg0.N) : (iblk m c 1 t : Vec Ideal S1x4096 .f32) = gIn m c := by
  funext y
  show (V m c main_v0 : Vec Ideal S1x4096 .f32) (((cfg0.win 1).blk t).view.emb y) = _
  rw [emb1, V_g]

theorem zero2 : (![0, 0] : Fin 2 → Nat) = fun _ => 0 := funext fun a => by fin_cases a <;> rfl

theorem out_y (c : Dev nD) (t : Fin cfg0.N) : ((dats m 0 c).after 2 t : Vec Ideal S128x4096 .bf16) = k0_pay2 (m ((c : Thread nD τ).loc main_arg0) : Vec Ideal S128x4096 .f32) (gIn m c) := by
  rw [after0_2]
  unfold out0_2
  rw [View.canon_unit_zero zero2, View.ld_unit_zero (S := S128x4096) zero2, View.ld_unit_zero (S := S1x4096) zero2, l_blk m c t, g_blk m c t]
/-- The first result array. -/
theorem final_y (c : Dev nD) : (dats m 0 c).arrAt 2 cfg0.N = (k0_pay2 (m ((c : Thread nD τ).loc main_arg0) : Vec Ideal S128x4096 .f32) (gIn m c) : Vec Ideal S128x4096 .bf16) := by
  refine (dats m 0 c).arrAt_eq_of_covers 2 _ (by decide +kernel) fun t hf y => ?_
  rw [emb2 t]
  exact congrFun (out_y m c t) y

theorem out_oc (c : Dev nD) (t : Fin cfg0.N) : ((dats m 0 c).after 3 t : Vec Ideal S128x4096 .fp8e4m3) = k0_pay4 (m ((c : Thread nD τ).loc main_arg0) : Vec Ideal S128x4096 .f32) (gIn m c) := by
  rw [after0_3]
  unfold out0_3
  rw [View.canon_unit_zero zero2, View.ld_unit_zero (S := S128x4096) zero2, View.ld_unit_zero (S := S1x4096) zero2, l_blk m c t, g_blk m c t]
/-- The second result array. -/
theorem final_oc (c : Dev nD) : (dats m 0 c).arrAt 3 cfg0.N = (k0_pay4 (m ((c : Thread nD τ).loc main_arg0) : Vec Ideal S128x4096 .f32) (gIn m c) : Vec Ideal S128x4096 .fp8e4m3) := by
  refine (dats m 0 c).arrAt_eq_of_covers 3 _ (by decide +kernel) fun t hf y => ?_
  rw [emb3 t]
  exact congrFun (out_oc m c t) y

theorem out_os (c : Dev nD) (t : Fin cfg0.N) : ((dats m 0 c).after 4 t : Vec Ideal S128x128 .f32) = k0_pay5 (m ((c : Thread nD τ).loc main_arg0) : Vec Ideal S128x4096 .f32) (gIn m c) := by
  rw [after0_4]
  unfold out0_4
  rw [View.canon_unit_zero zero2, View.ld_unit_zero (S := S128x4096) zero2, View.ld_unit_zero (S := S1x4096) zero2, l_blk m c t, g_blk m c t]
/-- The third result array. -/
theorem final_os (c : Dev nD) : (dats m 0 c).arrAt 4 cfg0.N = (k0_pay5 (m ((c : Thread nD τ).loc main_arg0) : Vec Ideal S128x4096 .f32) (gIn m c) : Vec Ideal S128x128 .f32) := by
  refine (dats m 0 c).arrAt_eq_of_covers 4 _ (by decide +kernel) fun t hf y => ?_
  rw [emb4 t]
  exact congrFun (out_os m c t) y

end Cert.FinalIdeal.Hand

namespace Cert.FinalReferenceIdeal.Hand
open Cert.FinalReferenceIdeal Cert.FinalReferenceIdeal.Gen
open Idealize.ShloMosaic.Pipeline (Dat)
variable (m : (ℓ : Loc nD τ sig) → Buf (Elt Ideal) ℓ)

/-- The gain as the host reshapes it. -/
def gIn (c : Dev nD) : Vec Ideal S1x4096 .f32 :=
  shapeCast S1x4096 (m ((c : Thread nD τ).loc main_arg1) : Vec Ideal S4096 .f32) shapeCasts_S4096_S1x4096

theorem V_g (c : Dev nD) : V m c main_v0 = gIn m c := by
  entry_read
  rfl

/-- Window 0's one block is its whole array. -/
theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S128x4096.Idx) : ((cfg0.win 0).blk t).view.emb j = j := by
  obtain ⟨e0, e1⟩ := idx_zero0 t
  funext a; apply Fin.ext
  match a with
  | ⟨0, _⟩ => show win0_0.index t (0 : Fin 2) * 128 + 1 * (j 0).val = (j 0).val; omega
  | ⟨1, _⟩ => show win0_0.index t (1 : Fin 2) * 4096 + 1 * (j 1).val = (j 1).val; omega

/-- Window 1's one block is its whole array. -/
theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S1x4096.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 4096 + 1 * (j 1).val = (j 1).val; omega

/-- Window 2's one block is its whole array. -/
theorem idx_zero2 : ∀ t : Fin cfg0.N, win0_2.index t (0 : Fin 2) = 0 ∧ win0_2.index t (1 : Fin 2) = 0 :=
  (by decide +kernel : ∀ t : Fin grid0.N, _)
theorem emb2 (t : Fin cfg0.N) (j : S128x4096.Idx) : ((cfg0.win 2).blk t).view.emb j = j := by
  obtain ⟨e0, e1⟩ := idx_zero2 t
  funext a; apply Fin.ext
  match a with
  | ⟨0, _⟩ => show win0_2.index t (0 : Fin 2) * 128 + 1 * (j 0).val = (j 0).val; omega
  | ⟨1, _⟩ => show win0_2.index t (1 : Fin 2) * 4096 + 1 * (j 1).val = (j 1).val; omega

/-- Window 3's one block is its whole array. -/
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S128x4096.Idx) : ((cfg0.win 3).blk t).view.emb j = j := by
  obtain ⟨e0, e1⟩ := idx_zero3 t
  funext a; apply Fin.ext
  match a with
  | ⟨0, _⟩ => show win0_3.index t (0 : Fin 2) * 128 + 1 * (j 0).val = (j 0).val; omega
  | ⟨1, _⟩ => show win0_3.index t (1 : Fin 2) * 4096 + 1 * (j 1).val = (j 1).val; omega

/-- Window 4's one block is its whole array. -/
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S128x128.Idx) : ((cfg0.win 4).blk t).view.emb j = j := by
  obtain ⟨e0, e1⟩ := idx_zero4 t
  funext a; apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem l_blk (c : Dev nD) (t : Fin cfg0.N) : (iblk m c 0 t : Vec Ideal S128x4096 .f32) = m ((c : Thread nD τ).loc main_arg0) := by
  funext y
  show (V m c main_arg0 : Vec Ideal S128x4096 .f32) (((cfg0.win 0).blk t).view.emb y) = _
  rw [emb0, V_main_arg0]

theorem g_blk (c : Dev nD) (t : Fin cfg0.N) : (iblk m c 1 t : Vec Ideal S1x4096 .f32) = gIn m c := by
  funext y
  show (V m c main_v0 : Vec Ideal S1x4096 .f32) (((cfg0.win 1).blk t).view.emb y) = _
  rw [emb1, V_g]

theorem zero2 : (![0, 0] : Fin 2 → Nat) = fun _ => 0 := funext fun a => by fin_cases a <;> rfl

theorem out_y (c : Dev nD) (t : Fin cfg0.N) : ((dats m 0 c).after 2 t : Vec Ideal S128x4096 .bf16) = k0_pay4 (m ((c : Thread nD τ).loc main_arg0) : Vec Ideal S128x4096 .f32) (gIn m c) := by
  rw [after0_2]
  unfold out0_2
  rw [View.canon_unit_zero zero2, View.ld_unit_zero (S := S128x4096) zero2, View.ld_unit_zero (S := S1x4096) zero2, l_blk m c t, g_blk m c t]
/-- The first result array. -/
theorem final_y (c : Dev nD) : (dats m 0 c).arrAt 2 cfg0.N = (k0_pay4 (m ((c : Thread nD τ).loc main_arg0) : Vec Ideal S128x4096 .f32) (gIn m c) : Vec Ideal S128x4096 .bf16) := by
  refine (dats m 0 c).arrAt_eq_of_covers 2 _ (by decide +kernel) fun t hf y => ?_
  rw [emb2 t]
  exact congrFun (out_y m c t) y

theorem out_oc (c : Dev nD) (t : Fin cfg0.N) : ((dats m 0 c).after 3 t : Vec Ideal S128x4096 .fp8e4m3) = k0_pay3 (m ((c : Thread nD τ).loc main_arg0) : Vec Ideal S128x4096 .f32) (gIn m c) := by
  rw [after0_3]
  unfold out0_3
  rw [View.canon_unit_zero zero2, View.ld_unit_zero (S := S128x4096) zero2, View.ld_unit_zero (S := S1x4096) zero2, l_blk m c t, g_blk m c t]
/-- The second result array. -/
theorem final_oc (c : Dev nD) : (dats m 0 c).arrAt 3 cfg0.N = (k0_pay3 (m ((c : Thread nD τ).loc main_arg0) : Vec Ideal S128x4096 .f32) (gIn m c) : Vec Ideal S128x4096 .fp8e4m3) := by
  refine (dats m 0 c).arrAt_eq_of_covers 3 _ (by decide +kernel) fun t hf y => ?_
  rw [emb3 t]
  exact congrFun (out_oc m c t) y

theorem out_os (c : Dev nD) (t : Fin cfg0.N) : ((dats m 0 c).after 4 t : Vec Ideal S128x128 .f32) = k0_pay5 (m ((c : Thread nD τ).loc main_arg0) : Vec Ideal S128x4096 .f32) (gIn m c) := by
  rw [after0_4]
  unfold out0_4
  rw [View.canon_unit_zero zero2, View.ld_unit_zero (S := S128x4096) zero2, View.ld_unit_zero (S := S1x4096) zero2, l_blk m c t, g_blk m c t]
/-- The third result array. -/
theorem final_os (c : Dev nD) : (dats m 0 c).arrAt 4 cfg0.N = (k0_pay5 (m ((c : Thread nD τ).loc main_arg0) : Vec Ideal S128x4096 .f32) (gIn m c) : Vec Ideal S128x128 .f32) := by
  refine (dats m 0 c).arrAt_eq_of_covers 4 _ (by decide +kernel) fun t hf y => ?_
  rw [emb4 t]
  exact congrFun (out_os m c t) y

end Cert.FinalReferenceIdeal.Hand

namespace Cert.Proof
open Cert.FinalReferenceIdeal (S128x1 S128x4096 S1x4096 S128x128)

/-- A sum times the 4096th is the sum over 4096. -/
theorem mean_eq (v : EReal) : v * Ideal.ofBits FTy.f32 0x39800000#32 = Ideal.div v (Ideal.ofBits FTy.f32 0x45800000#32) := by
  have h1 : Ideal.ofBits FTy.f32 0x45800000#32 = ((4096 : ℝ) : EReal) := by
    simp [Ideal.ofBits, Ideal.ieee, -EReal.coe_mul]; norm_num
  have h2 : Ideal.ofBits FTy.f32 0x39800000#32 = (((4096 : ℝ)⁻¹ : ℝ) : EReal) := by
    simp [Ideal.ofBits, Ideal.ieee, -EReal.coe_mul]; norm_num
  have h0 : ((4096 : ℝ) : EReal) ≠ 0 := by
    rw [Ne, EReal.coe_eq_zero]; norm_num
  rw [h1, h2]
  unfold Ideal.div
  rw [if_neg h0, EReal.coe_inv]

theorem mean_vec (v : FVec Ideal S128x1 .f32) :
    mulf v (broadcast S128x1 (Scalar.ofBits .f32 0x39800000#32)) = divf v (broadcast S128x1 (Scalar.ofBits .f32 0x45800000#32)) :=
  funext fun y => mean_eq (v y)

/-- The normalised rows times the gain: the kernel's and the reference's. -/
theorem norm_eq (x : Vec Ideal S128x4096 .f32) (g : Vec Ideal S1x4096 .f32) :
    (Cert.FinalIdeal.Gen.k0_pay1 x g : FVec Ideal S128x4096 .f32) = Cert.FinalReferenceIdeal.Gen.k0_pay1 x g := by
  unfold Cert.FinalIdeal.Gen.k0_pay1 Cert.FinalReferenceIdeal.Gen.k0_pay1
  dsimp only
  rw [← mean_vec]

theorem scale_eq (x : Vec Ideal S128x4096 .f32) (g : Vec Ideal S1x4096 .f32) :
    (Cert.FinalIdeal.Gen.k0_pay3 x g : FVec Ideal S128x1 .f32) = Cert.FinalReferenceIdeal.Gen.k0_pay2 x g := by
  unfold Cert.FinalIdeal.Gen.k0_pay3 Cert.FinalReferenceIdeal.Gen.k0_pay2
  dsimp only
  rw [norm_eq]

theorem y_eq (x : Vec Ideal S128x4096 .f32) (g : Vec Ideal S1x4096 .f32) :
    (Cert.FinalIdeal.Gen.k0_pay2 x g : FVec Ideal S128x4096 .bf16) = Cert.FinalReferenceIdeal.Gen.k0_pay4 x g := by
  unfold Cert.FinalIdeal.Gen.k0_pay2 Cert.FinalReferenceIdeal.Gen.k0_pay4
  dsimp only
  rw [norm_eq]

theorem oc_eq (x : Vec Ideal S128x4096 .f32) (g : Vec Ideal S1x4096 .f32) :
    (Cert.FinalIdeal.Gen.k0_pay4 x g : FVec Ideal S128x4096 .fp8e4m3) = Cert.FinalReferenceIdeal.Gen.k0_pay3 x g := by
  unfold Cert.FinalIdeal.Gen.k0_pay4 Cert.FinalReferenceIdeal.Gen.k0_pay3
  dsimp only
  rw [norm_eq, scale_eq]

theorem os_eq (x : Vec Ideal S128x4096 .f32) (g : Vec Ideal S1x4096 .f32) :
    (Cert.FinalIdeal.Gen.k0_pay5 x g : FVec Ideal S128x128 .f32) = Cert.FinalReferenceIdeal.Gen.k0_pay5 x g := by
  unfold Cert.FinalIdeal.Gen.k0_pay5 Cert.FinalReferenceIdeal.Gen.k0_pay5
  dsimp only
  rw [scale_eq]

section
variable (m : (ℓ : Loc Cert.FinalIdeal.nD Cert.FinalIdeal.τ Cert.FinalIdeal.sig) → Buf (Elt Ideal) ℓ)
  (m' : (ℓ : Loc Cert.FinalReferenceIdeal.nD Cert.FinalReferenceIdeal.τ Cert.FinalReferenceIdeal.sig) → Buf (Elt Ideal) ℓ)
  (c : Dev Cert.FinalIdeal.nD)
  (h0 : m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0))
  (h1 : m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1))
include h1

theorem gain_eq : Cert.FinalReferenceIdeal.Hand.gIn m' c = Cert.FinalIdeal.Hand.gIn m c := by
  unfold Cert.FinalReferenceIdeal.Hand.gIn Cert.FinalIdeal.Hand.gIn
  rw [h1]

include h0
theorem y_agree : (Cert.FinalReferenceIdeal.Gen.k0_pay4 (m' ((c.tc : Thread Cert.FinalReferenceIdeal.nD Cert.FinalReferenceIdeal.τ).loc Cert.FinalReferenceIdeal.main_arg0) : Vec Ideal S128x4096 .f32) (Cert.FinalReferenceIdeal.Hand.gIn m' c) : Vec Ideal S128x4096 .bf16)
    = Cert.FinalIdeal.Gen.k0_pay2 (m ((c.tc : Thread Cert.FinalIdeal.nD Cert.FinalIdeal.τ).loc Cert.FinalIdeal.main_arg0) : Vec Ideal S128x4096 .f32) (Cert.FinalIdeal.Hand.gIn m c) := by
  rw [h0, gain_eq m m' c h1]
  exact (y_eq _ _).symm

theorem oc_agree : (Cert.FinalReferenceIdeal.Gen.k0_pay3 (m' ((c.tc : Thread Cert.FinalReferenceIdeal.nD Cert.FinalReferenceIdeal.τ).loc Cert.FinalReferenceIdeal.main_arg0) : Vec Ideal S128x4096 .f32) (Cert.FinalReferenceIdeal.Hand.gIn m' c) : Vec Ideal S128x4096 .fp8e4m3)
    = Cert.FinalIdeal.Gen.k0_pay4 (m ((c.tc : Thread Cert.FinalIdeal.nD Cert.FinalIdeal.τ).loc Cert.FinalIdeal.main_arg0) : Vec Ideal S128x4096 .f32) (Cert.FinalIdeal.Hand.gIn m c) := by
  rw [h0, gain_eq m m' c h1]
  exact (oc_eq _ _).symm

theorem os_agree : (Cert.FinalReferenceIdeal.Gen.k0_pay5 (m' ((c.tc : Thread Cert.FinalReferenceIdeal.nD Cert.FinalReferenceIdeal.τ).loc Cert.FinalReferenceIdeal.main_arg0) : Vec Ideal S128x4096 .f32) (Cert.FinalReferenceIdeal.Hand.gIn m' c) : Vec Ideal S128x128 .f32)
    = Cert.FinalIdeal.Gen.k0_pay5 (m ((c.tc : Thread Cert.FinalIdeal.nD Cert.FinalIdeal.τ).loc Cert.FinalIdeal.main_arg0) : Vec Ideal S128x4096 .f32) (Cert.FinalIdeal.Hand.gIn m c) := by
  rw [h0, gain_eq m m' c h1]
  exact (os_eq _ _).symm

end

/-- The kernel and the reference, run from memories that agree on the arguments, end with equal results. -/
theorem algebraic_final [Cert.FinalIdeal.Facts] [Cert.FinalReferenceIdeal.Facts] : Cert.algebraic_FinalIdeal_FinalReferenceIdeal := by
  pair_intro
  · run_from Cert.FinalIdeal.Value.run_blocks m g
  · refine Idealize.ShloMosaic.θ_run_mono (Cert.FinalReferenceIdeal.Value.run_blocks m' g') ?_
    intro r hr c
    obtain ⟨h0, h1⟩ := hagree c
    obtain ⟨ry, roc, ros, ra⟩ := hr c
    refine ⟨ry.trans ?_, roc.trans ?_, ros.trans ?_, ra⟩
    · exact (Cert.FinalReferenceIdeal.Hand.final_y m' c).trans ((y_agree m m' c h0 h1).trans (Cert.FinalIdeal.Hand.final_y m c).symm)
    · exact (Cert.FinalReferenceIdeal.Hand.final_oc m' c).trans ((oc_agree m m' c h0 h1).trans (Cert.FinalIdeal.Hand.final_oc m c).symm)
    · exact (Cert.FinalReferenceIdeal.Hand.final_os m' c).trans ((os_agree m m' c h0 h1).trans (Cert.FinalIdeal.Hand.final_os m c).symm)

end Cert.Proof
end
-- ==== Proof.lean ====
module

public import proofs.«01_k».proof.Defs
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpReferenceIdeal
public import proofs.«01_k».proof.Proof.Gen.UpReferenceIdeal.Skeleton
public import proofs.«01_k».proof.Proof.Gen.UpReferenceIdeal.Launch
public import proofs.«01_k».proof.Proof.Gen.UpReferenceIdeal.Points
public import proofs.«01_k».proof.Proof.Gen.UpReferenceIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalReferenceIdeal
public import proofs.«01_k».proof.Proof.Gen.FinalReferenceIdeal.Skeleton
public import proofs.«01_k».proof.Proof.Gen.FinalReferenceIdeal.Launch
public import proofs.«01_k».proof.Proof.Gen.FinalReferenceIdeal.Points
public import proofs.«01_k».proof.Proof.Gen.FinalReferenceIdeal.Frame
public import proofs.«01_k».proof.Proof.Gen.FinalIdeal.Value
public import proofs.«01_k».proof.Proof.Gen.FinalReferenceIdeal.Value
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownReferenceIdeal
public import proofs.«01_k».proof.Proof.Gen.MlpDownReferenceIdeal.Skeleton
public import proofs.«01_k».proof.Proof.Gen.MlpDownReferenceIdeal.Launch
public import proofs.«01_k».proof.Proof.Gen.MlpDownReferenceIdeal.Points
public import proofs.«01_k».proof.Proof.Gen.MlpDownReferenceIdeal.Frame
public import proofs.«01_k».proof.Proof.Gen.MlpDownIdeal.Value
public import proofs.«01_k».proof.Proof.Gen.MlpDownReferenceIdeal.Value
public import proofs.«01_k».proof.Proof.Gen.UpReferenceIdeal.Value
public import proofs.«01_k».proof.Proof.Gen.DownIdeal.Value
public import proofs.«01_k».proof.Proof.Gen.DownReferenceIdeal.Value
public import proofs.«01_k».proof.Proof.Gen.MlpDown1
public import proofs.«01_k».proof.Proof.Gen.MlpDown1.Skeleton
public import proofs.«01_k».proof.Proof.Gen.MlpDown1.Launch
public import proofs.«01_k».proof.Proof.Gen.MlpDown1.Points
public import proofs.«01_k».proof.Proof.Gen.MlpDown1.Frame
public import proofs.«01_k».proof.Proof.Gen.MlpDown1Ideal
public import proofs.«01_k».proof.Proof.Gen.MlpDown1Ideal.Skeleton
public import proofs.«01_k».proof.Proof.Gen.MlpDown1Ideal.Launch
public import proofs.«01_k».proof.Proof.Gen.MlpDown1Ideal.Points
public import proofs.«01_k».proof.Proof.Gen.MlpDown1Ideal.Frame
public import proofs.«01_k».proof.Proof.Gen.MlpDown1ReferenceIdeal
public import proofs.«01_k».proof.Proof.Gen.MlpDown1ReferenceIdeal.Skeleton
public import proofs.«01_k».proof.Proof.Gen.MlpDown1ReferenceIdeal.Launch
public import proofs.«01_k».proof.Proof.Gen.MlpDown1ReferenceIdeal.Points
public import proofs.«01_k».proof.Proof.Gen.MlpDown1ReferenceIdeal.Frame
public import proofs.«01_k».proof.Proof.Gen.MlpDown1Ideal.Value
public import proofs.«01_k».proof.Proof.Gen.MlpDown1ReferenceIdeal.Value
public import proofs.«01_k».proof.Proof.Gen.MlpDown2
public import proofs.«01_k».proof.Proof.Gen.MlpDown2.Skeleton
public import proofs.«01_k».proof.Proof.Gen.MlpDown2.Launch
public import proofs.«01_k».proof.Proof.Gen.MlpDown2.Points
public import proofs.«01_k».proof.Proof.Gen.MlpDown2.Frame
public import proofs.«01_k».proof.Proof.Gen.MlpDown2Ideal
public import proofs.«01_k».proof.Proof.Gen.MlpDown2Ideal.Skeleton
public import proofs.«01_k».proof.Proof.Gen.MlpDown2Ideal.Launch
public import proofs.«01_k».proof.Proof.Gen.MlpDown2Ideal.Points
public import proofs.«01_k».proof.Proof.Gen.MlpDown2Ideal.Frame
public import proofs.«01_k».proof.Proof.Gen.MlpDown2ReferenceIdeal
public import proofs.«01_k».proof.Proof.Gen.MlpDown2ReferenceIdeal.Skeleton
public import proofs.«01_k».proof.Proof.Gen.MlpDown2ReferenceIdeal.Launch
public import proofs.«01_k».proof.Proof.Gen.MlpDown2ReferenceIdeal.Points
public import proofs.«01_k».proof.Proof.Gen.MlpDown2ReferenceIdeal.Frame
public import proofs.«01_k».proof.Proof.Gen.MlpDown2Ideal.Value
public import proofs.«01_k».proof.Proof.Gen.MlpDown2ReferenceIdeal.Value
public import proofs.«01_k».proof.Proof.MlpDownClaim
public import proofs.«01_k».proof.Proof.MlpDown1Claim
public import proofs.«01_k».proof.Proof.MlpDown2Claim
public import proofs.«01_k».proof.Proof.DownClaim
public import proofs.«01_k».proof.Proof.UpBody
public import proofs.«01_k».proof.Proof.UpClaim
public import proofs.«01_k».proof.Proof.FinalClaim
public import Idealize.ShloMosaic.Adequacy
public import Idealize.ShloMosaic.Init

@[expose] public section

noncomputable section

namespace Cert.Proof

open Idealize.ShloMosaic Idealize.SL.Sem Cert.Up

/-- The frames of the calls and of their references, and the equality of their results. -/
theorem claim : Cert.Claim :=
  ⟨Cert.Up.Gen.facts, Cert.UpIdeal.Gen.facts, Cert.UpReferenceIdeal.Gen.facts, Cert.Down.Gen.facts, Cert.DownIdeal.Gen.facts,
    Cert.DownReferenceIdeal.Gen.facts, Cert.Final.Gen.facts, Cert.FinalIdeal.Gen.facts, Cert.FinalReferenceIdeal.Gen.facts,
    Cert.MlpDown.Gen.facts, Cert.MlpDownIdeal.Gen.facts, Cert.MlpDownReferenceIdeal.Gen.facts,
    Cert.MlpDown1.Gen.facts, Cert.MlpDown1Ideal.Gen.facts, Cert.MlpDown1ReferenceIdeal.Gen.facts,
    Cert.MlpDown2.Gen.facts, Cert.MlpDown2Ideal.Gen.facts, Cert.MlpDown2ReferenceIdeal.Gen.facts,
    fun m ρ _ => Cert.Up.Hand.frame m ρ, fun m ρ _ => Cert.UpIdeal.Hand.frame m ρ, fun m ρ _ => Cert.UpReferenceIdeal.Gen.frame m ρ,
    fun m ρ _ => Cert.Down.Gen.frame m ρ, fun m ρ _ => Cert.DownIdeal.Gen.frame m ρ, fun m ρ _ => Cert.DownReferenceIdeal.Gen.frame m ρ,
    fun m ρ _ => Cert.Final.Gen.frame m ρ, fun m ρ _ => Cert.FinalIdeal.Gen.frame m ρ, fun m ρ _ => Cert.FinalReferenceIdeal.Gen.frame m ρ,
    fun m ρ _ => Cert.MlpDown.Gen.frame m ρ, fun m ρ _ => Cert.MlpDownIdeal.Gen.frame m ρ, fun m ρ _ => Cert.MlpDownReferenceIdeal.Gen.frame m ρ,
    fun m ρ _ => Cert.MlpDown1.Gen.frame m ρ, fun m ρ _ => Cert.MlpDown1Ideal.Gen.frame m ρ, fun m ρ _ => Cert.MlpDown1ReferenceIdeal.Gen.frame m ρ,
    fun m ρ _ => Cert.MlpDown2.Gen.frame m ρ, fun m ρ _ => Cert.MlpDown2Ideal.Gen.frame m ρ, fun m ρ _ => Cert.MlpDown2ReferenceIdeal.Gen.frame m ρ,
    trivial, algebraic_up, trivial, algebraic_down, trivial, algebraic_final,
    trivial, algebraic_mlp_down, trivial, algebraic_mlp_down1, trivial, algebraic_mlp_down2⟩

end Cert.Proof

end
